-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmReferenceIdeal (m : (ℓ : Loc Cert.MmReferenceIdeal.nD Cert.MmReferenceIdeal.τ Cert.MmReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_MmSample (m : (ℓ : Loc Cert.MmSample.nD Cert.MmSample.τ Cert.MmSample.sig) → Buf (Elt Bits) ℓ) : Prop :=
  True

def Pre_MmSampleIdeal (m : (ℓ : Loc Cert.MmSampleIdeal.nD Cert.MmSampleIdeal.τ Cert.MmSampleIdeal.sig) → Buf (Elt Ideal) ℓ) : Prop :=
  True

def Pre_MmSampleReferenceIdeal (m : (ℓ : Loc Cert.MmSampleReferenceIdeal.nD Cert.MmSampleReferenceIdeal.τ Cert.MmSampleReferenceIdeal.sig) → Buf (Elt Ideal) ℓ) : Prop :=
  True

def Pre_PleSample (m : (ℓ : Loc Cert.PleSample.nD Cert.PleSample.τ Cert.PleSample.sig) → Buf (Elt Bits) ℓ) : Prop :=
  True

def Pre_PleSampleIdeal (m : (ℓ : Loc Cert.PleSampleIdeal.nD Cert.PleSampleIdeal.τ Cert.PleSampleIdeal.sig) → Buf (Elt Ideal) ℓ) : Prop :=
  True

def Pre_PleSampleReferenceIdeal (m : (ℓ : Loc Cert.PleSampleReferenceIdeal.nD Cert.PleSampleReferenceIdeal.τ Cert.PleSampleReferenceIdeal.sig) → Buf (Elt Ideal) ℓ) : Prop :=
  True

def Pre_ProjGla (m : (ℓ : Loc Cert.ProjGla.nD Cert.ProjGla.τ Cert.ProjGla.sig) → Buf (Elt Bits) ℓ) : Prop :=
  True

def Pre_ProjGlaIdeal (m : (ℓ : Loc Cert.ProjGlaIdeal.nD Cert.ProjGlaIdeal.τ Cert.ProjGlaIdeal.sig) → Buf (Elt Ideal) ℓ) : Prop :=
  True

def Pre_ProjGlaReferenceIdeal (m : (ℓ : Loc Cert.ProjGlaReferenceIdeal.nD Cert.ProjGlaReferenceIdeal.τ Cert.ProjGlaReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gate [hPre_finite_gate : Cert.Pre_finite_gate.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gate.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3))) = (fun _ => 1#1)

def Pre_GlaReferenceIdeal (m : (ℓ : Loc Cert.GlaReferenceIdeal.nD Cert.GlaReferenceIdeal.τ Cert.GlaReferenceIdeal.sig) → Buf (Elt Ideal) ℓ) : Prop :=
  True

def Pre_GlaReferenceIdeal_finite_gate [hPre_finite_gate : Cert.Pre_finite_gate.Facts] (m : (ℓ : Loc Cert.GlaReferenceIdeal.nD Cert.GlaReferenceIdeal.τ Cert.GlaReferenceIdeal.sig) → Buf (Elt Ideal) ℓ) : Prop :=
  ∀ c : Dev Cert.GlaReferenceIdeal.nD,
    (Cert.Pre_finite_gate.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3))) = (fun _ => 1#1)

def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleIdeal_finite_gate_sample [hPre_finite_gate_sample : Cert.Pre_finite_gate_sample.Facts] (m : (ℓ : Loc Cert.GlaSampleIdeal.nD Cert.GlaSampleIdeal.τ Cert.GlaSampleIdeal.sig) → Buf (Elt Ideal) ℓ) : Prop :=
  ∀ c : Dev Cert.GlaSampleIdeal.nD,
    (Cert.Pre_finite_gate_sample.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3)) (m ((c.tc : Thread Cert.GlaSampleIdeal.nD Cert.GlaSampleIdeal.τ).loc Cert.GlaSampleIdeal.main_arg4))) = (fun _ => 1#1)

def Pre_GlaSampleReferenceIdeal (m : (ℓ : Loc Cert.GlaSampleReferenceIdeal.nD Cert.GlaSampleReferenceIdeal.τ Cert.GlaSampleReferenceIdeal.sig) → Buf (Elt Ideal) ℓ) : Prop :=
  True

def Pre_GlaSampleReferenceIdeal_finite_gate_sample [hPre_finite_gate_sample : Cert.Pre_finite_gate_sample.Facts] (m : (ℓ : Loc Cert.GlaSampleReferenceIdeal.nD Cert.GlaSampleReferenceIdeal.τ Cert.GlaSampleReferenceIdeal.sig) → Buf (Elt Ideal) ℓ) : Prop :=
  ∀ c : Dev Cert.GlaSampleReferenceIdeal.nD,
    (Cert.Pre_finite_gate_sample.fn (F := Ideal) (m ((c.tc : Thread Cert.GlaSampleReferenceIdeal.nD Cert.GlaSampleReferenceIdeal.τ).loc Cert.GlaSampleReferenceIdeal.main_arg0)) (m ((c.tc : Thread Cert.GlaSampleReferenceIdeal.nD Cert.GlaSampleReferenceIdeal.τ).loc Cert.GlaSampleReferenceIdeal.main_arg1)) (m ((c.tc : Thread Cert.GlaSampleReferenceIdeal.nD Cert.GlaSampleReferenceIdeal.τ).loc Cert.GlaSampleReferenceIdeal.main_arg2)) (m ((c.tc : Thread Cert.GlaSampleReferenceIdeal.nD Cert.GlaSampleReferenceIdeal.τ).loc Cert.GlaSampleReferenceIdeal.main_arg3)) (m ((c.tc : Thread Cert.GlaSampleReferenceIdeal.nD Cert.GlaSampleReferenceIdeal.τ).loc Cert.GlaSampleReferenceIdeal.main_arg4))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_finite_select [hPre_finite_select : Cert.Pre_finite_select.Facts] (m : (ℓ : Loc Cert.SelectIdeal.nD Cert.SelectIdeal.τ Cert.SelectIdeal.sig) → Buf (Elt Ideal) ℓ) : Prop :=
  ∀ c : Dev Cert.SelectIdeal.nD,
    (Cert.Pre_finite_select.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_finite_select [hPre_finite_select : Cert.Pre_finite_select.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_finite_select.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2))) = (fun _ => 1#1)

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_OutProjSample (m : (ℓ : Loc Cert.OutProjSample.nD Cert.OutProjSample.τ Cert.OutProjSample.sig) → Buf (Elt Bits) ℓ) : Prop :=
  True

def Pre_OutProjSampleIdeal (m : (ℓ : Loc Cert.OutProjSampleIdeal.nD Cert.OutProjSampleIdeal.τ Cert.OutProjSampleIdeal.sig) → Buf (Elt Ideal) ℓ) : Prop :=
  True

def Pre_OutProjSampleReferenceIdeal (m : (ℓ : Loc Cert.OutProjSampleReferenceIdeal.nD Cert.OutProjSampleReferenceIdeal.τ Cert.OutProjSampleReferenceIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def Pre_ProjGlaSample (m : (ℓ : Loc Cert.ProjGlaSample.nD Cert.ProjGlaSample.τ Cert.ProjGlaSample.sig) → Buf (Elt Bits) ℓ) : Prop :=
  True

def Pre_ProjGlaSampleIdeal (m : (ℓ : Loc Cert.ProjGlaSampleIdeal.nD Cert.ProjGlaSampleIdeal.τ Cert.ProjGlaSampleIdeal.sig) → Buf (Elt Ideal) ℓ) : Prop :=
  True

def Pre_ProjGlaSampleReferenceIdeal (m : (ℓ : Loc Cert.ProjGlaSampleReferenceIdeal.nD Cert.ProjGlaSampleReferenceIdeal.τ Cert.ProjGlaSampleReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmReferenceIdeal [hMmReferenceIdeal : Cert.MmReferenceIdeal.Facts] : Prop :=
  ∀ (m : (ℓ : Loc Cert.MmReferenceIdeal.nD Cert.MmReferenceIdeal.τ Cert.MmReferenceIdeal.sig) → Buf (Elt Ideal) ℓ) (g : Dev Cert.MmReferenceIdeal.nD → PrngReg), Pre_MmReferenceIdeal m →
    θ_run (Cert.MmReferenceIdeal.defs (F := Ideal)) (onTc (τ := Cert.MmReferenceIdeal.τ) (Cert.MmReferenceIdeal.main (F := Ideal))) ⟨m, fun _ => 0, g⟩ (fun r => (∀ c : Dev Cert.MmReferenceIdeal.nD,
      r.2.mem ((c.tc : Thread Cert.MmReferenceIdeal.nD Cert.MmReferenceIdeal.τ).loc Cert.MmReferenceIdeal.main_arg0) = m ((c.tc : Thread Cert.MmReferenceIdeal.nD Cert.MmReferenceIdeal.τ).loc Cert.MmReferenceIdeal.main_arg0)
      ∧ r.2.mem ((c.tc : Thread Cert.MmReferenceIdeal.nD Cert.MmReferenceIdeal.τ).loc Cert.MmReferenceIdeal.main_arg1) = m ((c.tc : Thread Cert.MmReferenceIdeal.nD Cert.MmReferenceIdeal.τ).loc Cert.MmReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_MmSample [hMmSample : Cert.MmSample.Facts] : Prop :=
  ∀ (m : (ℓ : Loc Cert.MmSample.nD Cert.MmSample.τ Cert.MmSample.sig) → Buf (Elt Bits) ℓ) (g : Dev Cert.MmSample.nD → PrngReg), Pre_MmSample m →
    θ_run (Cert.MmSample.defs (F := Bits)) (onTc (τ := Cert.MmSample.τ) (Cert.MmSample.main (F := Bits))) ⟨m, fun _ => 0, g⟩ (fun r => (∀ c : Dev Cert.MmSample.nD,
      r.2.mem ((c.tc : Thread Cert.MmSample.nD Cert.MmSample.τ).loc Cert.MmSample.main_arg0) = m ((c.tc : Thread Cert.MmSample.nD Cert.MmSample.τ).loc Cert.MmSample.main_arg0)
      ∧ r.2.mem ((c.tc : Thread Cert.MmSample.nD Cert.MmSample.τ).loc Cert.MmSample.main_arg1) = m ((c.tc : Thread Cert.MmSample.nD Cert.MmSample.τ).loc Cert.MmSample.main_arg1))
      ∧ r.2.sem = fun _ => 0)

def quiescent_MmSampleIdeal [hMmSampleIdeal : Cert.MmSampleIdeal.Facts] : Prop :=
  ∀ (m : (ℓ : Loc Cert.MmSampleIdeal.nD Cert.MmSampleIdeal.τ Cert.MmSampleIdeal.sig) → Buf (Elt Ideal) ℓ) (g : Dev Cert.MmSampleIdeal.nD → PrngReg), Pre_MmSampleIdeal m →
    θ_run (Cert.MmSampleIdeal.defs (F := Ideal)) (onTc (τ := Cert.MmSampleIdeal.τ) (Cert.MmSampleIdeal.main (F := Ideal))) ⟨m, fun _ => 0, g⟩ (fun r => (∀ c : Dev Cert.MmSampleIdeal.nD,
      r.2.mem ((c.tc : Thread Cert.MmSampleIdeal.nD Cert.MmSampleIdeal.τ).loc Cert.MmSampleIdeal.main_arg0) = m ((c.tc : Thread Cert.MmSampleIdeal.nD Cert.MmSampleIdeal.τ).loc Cert.MmSampleIdeal.main_arg0)
      ∧ r.2.mem ((c.tc : Thread Cert.MmSampleIdeal.nD Cert.MmSampleIdeal.τ).loc Cert.MmSampleIdeal.main_arg1) = m ((c.tc : Thread Cert.MmSampleIdeal.nD Cert.MmSampleIdeal.τ).loc Cert.MmSampleIdeal.main_arg1))
      ∧ r.2.sem = fun _ => 0)

def quiescent_MmSampleReferenceIdeal [hMmSampleReferenceIdeal : Cert.MmSampleReferenceIdeal.Facts] : Prop :=
  ∀ (m : (ℓ : Loc Cert.MmSampleReferenceIdeal.nD Cert.MmSampleReferenceIdeal.τ Cert.MmSampleReferenceIdeal.sig) → Buf (Elt Ideal) ℓ) (g : Dev Cert.MmSampleReferenceIdeal.nD → PrngReg), Pre_MmSampleReferenceIdeal m →
    θ_run (Cert.MmSampleReferenceIdeal.defs (F := Ideal)) (onTc (τ := Cert.MmSampleReferenceIdeal.τ) (Cert.MmSampleReferenceIdeal.main (F := Ideal))) ⟨m, fun _ => 0, g⟩ (fun r => (∀ c : Dev Cert.MmSampleReferenceIdeal.nD,
      r.2.mem ((c.tc : Thread Cert.MmSampleReferenceIdeal.nD Cert.MmSampleReferenceIdeal.τ).loc Cert.MmSampleReferenceIdeal.main_arg0) = m ((c.tc : Thread Cert.MmSampleReferenceIdeal.nD Cert.MmSampleReferenceIdeal.τ).loc Cert.MmSampleReferenceIdeal.main_arg0)
      ∧ r.2.mem ((c.tc : Thread Cert.MmSampleReferenceIdeal.nD Cert.MmSampleReferenceIdeal.τ).loc Cert.MmSampleReferenceIdeal.main_arg1) = m ((c.tc : Thread Cert.MmSampleReferenceIdeal.nD Cert.MmSampleReferenceIdeal.τ).loc Cert.MmSampleReferenceIdeal.main_arg1))
      ∧ r.2.sem = fun _ => 0)

def quiescent_PleSample [hPleSample : Cert.PleSample.Facts] : Prop :=
  ∀ (m : (ℓ : Loc Cert.PleSample.nD Cert.PleSample.τ Cert.PleSample.sig) → Buf (Elt Bits) ℓ) (g : Dev Cert.PleSample.nD → PrngReg), Pre_PleSample m →
    θ_run (Cert.PleSample.defs (F := Bits)) (onTc (τ := Cert.PleSample.τ) (Cert.PleSample.main (F := Bits))) ⟨m, fun _ => 0, g⟩ (fun r => (∀ c : Dev Cert.PleSample.nD,
      r.2.mem ((c.tc : Thread Cert.PleSample.nD Cert.PleSample.τ).loc Cert.PleSample.main_arg0) = m ((c.tc : Thread Cert.PleSample.nD Cert.PleSample.τ).loc Cert.PleSample.main_arg0)
      ∧ r.2.mem ((c.tc : Thread Cert.PleSample.nD Cert.PleSample.τ).loc Cert.PleSample.main_arg1) = m ((c.tc : Thread Cert.PleSample.nD Cert.PleSample.τ).loc Cert.PleSample.main_arg1)
      ∧ r.2.mem ((c.tc : Thread Cert.PleSample.nD Cert.PleSample.τ).loc Cert.PleSample.main_arg2) = m ((c.tc : Thread Cert.PleSample.nD Cert.PleSample.τ).loc Cert.PleSample.main_arg2)
      ∧ r.2.mem ((c.tc : Thread Cert.PleSample.nD Cert.PleSample.τ).loc Cert.PleSample.main_arg3) = m ((c.tc : Thread Cert.PleSample.nD Cert.PleSample.τ).loc Cert.PleSample.main_arg3)
      ∧ r.2.mem ((c.tc : Thread Cert.PleSample.nD Cert.PleSample.τ).loc Cert.PleSample.main_arg4) = m ((c.tc : Thread Cert.PleSample.nD Cert.PleSample.τ).loc Cert.PleSample.main_arg4)
      ∧ r.2.mem ((c.tc : Thread Cert.PleSample.nD Cert.PleSample.τ).loc Cert.PleSample.main_arg5) = m ((c.tc : Thread Cert.PleSample.nD Cert.PleSample.τ).loc Cert.PleSample.main_arg5))
      ∧ r.2.sem = fun _ => 0)

def quiescent_PleSampleIdeal [hPleSampleIdeal : Cert.PleSampleIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg), Pre_PleSampleIdeal m →
    θ_run (Cert.PleSampleIdeal.defs (F := Ideal)) (onTc (τ := Cert.PleSampleIdeal.τ) (Cert.PleSampleIdeal.main (F := Ideal))) ⟨m, fun _ => 0, g⟩ (fun r => (∀ c : Dev Cert.PleSampleIdeal.nD,
      r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
      ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
      ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
      ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
      ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4)
      ∧ r.2.mem ((c.tc : Thread Cert.PleSampleIdeal.nD Cert.PleSampleIdeal.τ).loc Cert.PleSampleIdeal.main_arg5) = m ((c.tc : Thread Cert.PleSampleIdeal.nD Cert.PleSampleIdeal.τ).loc Cert.PleSampleIdeal.main_arg5))
      ∧ r.2.sem = fun _ => 0)

def quiescent_PleSampleReferenceIdeal [hPleSampleReferenceIdeal : Cert.PleSampleReferenceIdeal.Facts] : Prop :=
  ∀ (m : (ℓ : Loc Cert.PleSampleReferenceIdeal.nD Cert.PleSampleReferenceIdeal.τ Cert.PleSampleReferenceIdeal.sig) → Buf (Elt Ideal) ℓ) (g : Dev Cert.PleSampleReferenceIdeal.nD → PrngReg), Pre_PleSampleReferenceIdeal m →
    θ_run (Cert.PleSampleReferenceIdeal.defs (F := Ideal)) (onTc (τ := Cert.PleSampleReferenceIdeal.τ) (Cert.PleSampleReferenceIdeal.main (F := Ideal))) ⟨m, fun _ => 0, g⟩ (fun r => (∀ c : Dev Cert.PleSampleReferenceIdeal.nD,
      r.2.mem ((c.tc : Thread Cert.PleSampleReferenceIdeal.nD Cert.PleSampleReferenceIdeal.τ).loc Cert.PleSampleReferenceIdeal.main_arg0) = m ((c.tc : Thread Cert.PleSampleReferenceIdeal.nD Cert.PleSampleReferenceIdeal.τ).loc Cert.PleSampleReferenceIdeal.main_arg0)
      ∧ r.2.mem ((c.tc : Thread Cert.PleSampleReferenceIdeal.nD Cert.PleSampleReferenceIdeal.τ).loc Cert.PleSampleReferenceIdeal.main_arg1) = m ((c.tc : Thread Cert.PleSampleReferenceIdeal.nD Cert.PleSampleReferenceIdeal.τ).loc Cert.PleSampleReferenceIdeal.main_arg1)
      ∧ r.2.mem ((c.tc : Thread Cert.PleSampleReferenceIdeal.nD Cert.PleSampleReferenceIdeal.τ).loc Cert.PleSampleReferenceIdeal.main_arg2) = m ((c.tc : Thread Cert.PleSampleReferenceIdeal.nD Cert.PleSampleReferenceIdeal.τ).loc Cert.PleSampleReferenceIdeal.main_arg2)
      ∧ r.2.mem ((c.tc : Thread Cert.PleSampleReferenceIdeal.nD Cert.PleSampleReferenceIdeal.τ).loc Cert.PleSampleReferenceIdeal.main_arg3) = m ((c.tc : Thread Cert.PleSampleReferenceIdeal.nD Cert.PleSampleReferenceIdeal.τ).loc Cert.PleSampleReferenceIdeal.main_arg3)
      ∧ r.2.mem ((c.tc : Thread Cert.PleSampleReferenceIdeal.nD Cert.PleSampleReferenceIdeal.τ).loc Cert.PleSampleReferenceIdeal.main_arg4) = m ((c.tc : Thread Cert.PleSampleReferenceIdeal.nD Cert.PleSampleReferenceIdeal.τ).loc Cert.PleSampleReferenceIdeal.main_arg4)
      ∧ r.2.mem ((c.tc : Thread Cert.PleSampleReferenceIdeal.nD Cert.PleSampleReferenceIdeal.τ).loc Cert.PleSampleReferenceIdeal.main_arg5) = m ((c.tc : Thread Cert.PleSampleReferenceIdeal.nD Cert.PleSampleReferenceIdeal.τ).loc Cert.PleSampleReferenceIdeal.main_arg5))
      ∧ r.2.sem = fun _ => 0)

def quiescent_ProjGla [hProjGla : Cert.ProjGla.Facts] : Prop :=
  ∀ (m : (ℓ : Loc Cert.ProjGla.nD Cert.ProjGla.τ Cert.ProjGla.sig) → Buf (Elt Bits) ℓ) (g : Dev Cert.ProjGla.nD → PrngReg), Pre_ProjGla m →
    θ_run (Cert.ProjGla.defs (F := Bits)) (onTc (τ := Cert.ProjGla.τ) (Cert.ProjGla.main (F := Bits))) ⟨m, fun _ => 0, g⟩ (fun r => (∀ c : Dev Cert.ProjGla.nD,
      r.2.mem ((c.tc : Thread Cert.ProjGla.nD Cert.ProjGla.τ).loc Cert.ProjGla.main_arg0) = m ((c.tc : Thread Cert.ProjGla.nD Cert.ProjGla.τ).loc Cert.ProjGla.main_arg0)
      ∧ r.2.mem ((c.tc : Thread Cert.ProjGla.nD Cert.ProjGla.τ).loc Cert.ProjGla.main_arg1) = m ((c.tc : Thread Cert.ProjGla.nD Cert.ProjGla.τ).loc Cert.ProjGla.main_arg1))
      ∧ r.2.sem = fun _ => 0)

def quiescent_ProjGlaIdeal [hProjGlaIdeal : Cert.ProjGlaIdeal.Facts] : Prop :=
  ∀ (m : (ℓ : Loc Cert.ProjGlaIdeal.nD Cert.ProjGlaIdeal.τ Cert.ProjGlaIdeal.sig) → Buf (Elt Ideal) ℓ) (g : Dev Cert.ProjGlaIdeal.nD → PrngReg), Pre_ProjGlaIdeal m →
    θ_run (Cert.ProjGlaIdeal.defs (F := Ideal)) (onTc (τ := Cert.ProjGlaIdeal.τ) (Cert.ProjGlaIdeal.main (F := Ideal))) ⟨m, fun _ => 0, g⟩ (fun r => (∀ c : Dev Cert.ProjGlaIdeal.nD,
      r.2.mem ((c.tc : Thread Cert.ProjGlaIdeal.nD Cert.ProjGlaIdeal.τ).loc Cert.ProjGlaIdeal.main_arg0) = m ((c.tc : Thread Cert.ProjGlaIdeal.nD Cert.ProjGlaIdeal.τ).loc Cert.ProjGlaIdeal.main_arg0)
      ∧ r.2.mem ((c.tc : Thread Cert.ProjGlaIdeal.nD Cert.ProjGlaIdeal.τ).loc Cert.ProjGlaIdeal.main_arg1) = m ((c.tc : Thread Cert.ProjGlaIdeal.nD Cert.ProjGlaIdeal.τ).loc Cert.ProjGlaIdeal.main_arg1))
      ∧ r.2.sem = fun _ => 0)

def quiescent_ProjGlaReferenceIdeal [hProjGlaReferenceIdeal : Cert.ProjGlaReferenceIdeal.Facts] : Prop :=
  ∀ (m : (ℓ : Loc Cert.ProjGlaReferenceIdeal.nD Cert.ProjGlaReferenceIdeal.τ Cert.ProjGlaReferenceIdeal.sig) → Buf (Elt Ideal) ℓ) (g : Dev Cert.ProjGlaReferenceIdeal.nD → PrngReg), Pre_ProjGlaReferenceIdeal m →
    θ_run (Cert.ProjGlaReferenceIdeal.defs (F := Ideal)) (onTc (τ := Cert.ProjGlaReferenceIdeal.τ) (Cert.ProjGlaReferenceIdeal.main (F := Ideal))) ⟨m, fun _ => 0, g⟩ (fun r => (∀ c : Dev Cert.ProjGlaReferenceIdeal.nD,
      r.2.mem ((c.tc : Thread Cert.ProjGlaReferenceIdeal.nD Cert.ProjGlaReferenceIdeal.τ).loc Cert.ProjGlaReferenceIdeal.main_arg0) = m ((c.tc : Thread Cert.ProjGlaReferenceIdeal.nD Cert.ProjGlaReferenceIdeal.τ).loc Cert.ProjGlaReferenceIdeal.main_arg0)
      ∧ r.2.mem ((c.tc : Thread Cert.ProjGlaReferenceIdeal.nD Cert.ProjGlaReferenceIdeal.τ).loc Cert.ProjGlaReferenceIdeal.main_arg1) = m ((c.tc : Thread Cert.ProjGlaReferenceIdeal.nD Cert.ProjGlaReferenceIdeal.τ).loc Cert.ProjGlaReferenceIdeal.main_arg1))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaIdeal_pre_finite_gate [hGlaIdeal : Cert.GlaIdeal.Facts] [hPre_finite_gate : Cert.Pre_finite_gate.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gate m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3))
      ∧ r.2.sem = fun _ => 0)

def quiescent_GlaReferenceIdeal_pre_finite_gate [hGlaReferenceIdeal : Cert.GlaReferenceIdeal.Facts] [hPre_finite_gate : Cert.Pre_finite_gate.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal_finite_gate m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3))
      ∧ r.2.sem = fun _ => 0)

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2)
      ∧ r.2.mem ((c.tc : Thread Cert.GlaSample.nD Cert.GlaSample.τ).loc Cert.GlaSample.main_arg3) = m ((c.tc : Thread Cert.GlaSample.nD Cert.GlaSample.τ).loc Cert.GlaSample.main_arg3)
      ∧ r.2.mem ((c.tc : Thread Cert.GlaSample.nD Cert.GlaSample.τ).loc Cert.GlaSample.main_arg4) = m ((c.tc : Thread Cert.GlaSample.nD Cert.GlaSample.τ).loc Cert.GlaSample.main_arg4))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ r.2.sem = fun _ => 0)

def quiescent_GlaSampleIdeal_pre_finite_gate_sample [hGlaSampleIdeal : Cert.GlaSampleIdeal.Facts] [hPre_finite_gate_sample : Cert.Pre_finite_gate_sample.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal_finite_gate_sample m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ r.2.sem = fun _ => 0)

def quiescent_GlaSampleReferenceIdeal [hGlaSampleReferenceIdeal : Cert.GlaSampleReferenceIdeal.Facts] : Prop :=
  ∀ (m : (ℓ : Loc Cert.GlaSampleReferenceIdeal.nD Cert.GlaSampleReferenceIdeal.τ Cert.GlaSampleReferenceIdeal.sig) → Buf (Elt Ideal) ℓ) (g : Dev Cert.GlaSampleReferenceIdeal.nD → PrngReg), Pre_GlaSampleReferenceIdeal m →
    θ_run (Cert.GlaSampleReferenceIdeal.defs (F := Ideal)) (onTc (τ := Cert.GlaSampleReferenceIdeal.τ) (Cert.GlaSampleReferenceIdeal.main (F := Ideal))) ⟨m, fun _ => 0, g⟩ (fun r => (∀ c : Dev Cert.GlaSampleReferenceIdeal.nD,
      r.2.mem ((c.tc : Thread Cert.GlaSampleReferenceIdeal.nD Cert.GlaSampleReferenceIdeal.τ).loc Cert.GlaSampleReferenceIdeal.main_arg0) = m ((c.tc : Thread Cert.GlaSampleReferenceIdeal.nD Cert.GlaSampleReferenceIdeal.τ).loc Cert.GlaSampleReferenceIdeal.main_arg0)
      ∧ r.2.mem ((c.tc : Thread Cert.GlaSampleReferenceIdeal.nD Cert.GlaSampleReferenceIdeal.τ).loc Cert.GlaSampleReferenceIdeal.main_arg1) = m ((c.tc : Thread Cert.GlaSampleReferenceIdeal.nD Cert.GlaSampleReferenceIdeal.τ).loc Cert.GlaSampleReferenceIdeal.main_arg1)
      ∧ r.2.mem ((c.tc : Thread Cert.GlaSampleReferenceIdeal.nD Cert.GlaSampleReferenceIdeal.τ).loc Cert.GlaSampleReferenceIdeal.main_arg2) = m ((c.tc : Thread Cert.GlaSampleReferenceIdeal.nD Cert.GlaSampleReferenceIdeal.τ).loc Cert.GlaSampleReferenceIdeal.main_arg2)
      ∧ r.2.mem ((c.tc : Thread Cert.GlaSampleReferenceIdeal.nD Cert.GlaSampleReferenceIdeal.τ).loc Cert.GlaSampleReferenceIdeal.main_arg3) = m ((c.tc : Thread Cert.GlaSampleReferenceIdeal.nD Cert.GlaSampleReferenceIdeal.τ).loc Cert.GlaSampleReferenceIdeal.main_arg3)
      ∧ r.2.mem ((c.tc : Thread Cert.GlaSampleReferenceIdeal.nD Cert.GlaSampleReferenceIdeal.τ).loc Cert.GlaSampleReferenceIdeal.main_arg4) = m ((c.tc : Thread Cert.GlaSampleReferenceIdeal.nD Cert.GlaSampleReferenceIdeal.τ).loc Cert.GlaSampleReferenceIdeal.main_arg4))
      ∧ r.2.sem = fun _ => 0)

def quiescent_GlaSampleReferenceIdeal_pre_finite_gate_sample [hGlaSampleReferenceIdeal : Cert.GlaSampleReferenceIdeal.Facts] [hPre_finite_gate_sample : Cert.Pre_finite_gate_sample.Facts] : Prop :=
  ∀ (m : (ℓ : Loc Cert.GlaSampleReferenceIdeal.nD Cert.GlaSampleReferenceIdeal.τ Cert.GlaSampleReferenceIdeal.sig) → Buf (Elt Ideal) ℓ) (g : Dev Cert.GlaSampleReferenceIdeal.nD → PrngReg), Pre_GlaSampleReferenceIdeal_finite_gate_sample m →
    θ_run (Cert.GlaSampleReferenceIdeal.defs (F := Ideal)) (onTc (τ := Cert.GlaSampleReferenceIdeal.τ) (Cert.GlaSampleReferenceIdeal.main (F := Ideal))) ⟨m, fun _ => 0, g⟩ (fun r => (∀ c : Dev Cert.GlaSampleReferenceIdeal.nD,
      r.2.mem ((c.tc : Thread Cert.GlaSampleReferenceIdeal.nD Cert.GlaSampleReferenceIdeal.τ).loc Cert.GlaSampleReferenceIdeal.main_arg0) = m ((c.tc : Thread Cert.GlaSampleReferenceIdeal.nD Cert.GlaSampleReferenceIdeal.τ).loc Cert.GlaSampleReferenceIdeal.main_arg0)
      ∧ r.2.mem ((c.tc : Thread Cert.GlaSampleReferenceIdeal.nD Cert.GlaSampleReferenceIdeal.τ).loc Cert.GlaSampleReferenceIdeal.main_arg1) = m ((c.tc : Thread Cert.GlaSampleReferenceIdeal.nD Cert.GlaSampleReferenceIdeal.τ).loc Cert.GlaSampleReferenceIdeal.main_arg1)
      ∧ r.2.mem ((c.tc : Thread Cert.GlaSampleReferenceIdeal.nD Cert.GlaSampleReferenceIdeal.τ).loc Cert.GlaSampleReferenceIdeal.main_arg2) = m ((c.tc : Thread Cert.GlaSampleReferenceIdeal.nD Cert.GlaSampleReferenceIdeal.τ).loc Cert.GlaSampleReferenceIdeal.main_arg2)
      ∧ r.2.mem ((c.tc : Thread Cert.GlaSampleReferenceIdeal.nD Cert.GlaSampleReferenceIdeal.τ).loc Cert.GlaSampleReferenceIdeal.main_arg3) = m ((c.tc : Thread Cert.GlaSampleReferenceIdeal.nD Cert.GlaSampleReferenceIdeal.τ).loc Cert.GlaSampleReferenceIdeal.main_arg3)
      ∧ r.2.mem ((c.tc : Thread Cert.GlaSampleReferenceIdeal.nD Cert.GlaSampleReferenceIdeal.τ).loc Cert.GlaSampleReferenceIdeal.main_arg4) = m ((c.tc : Thread Cert.GlaSampleReferenceIdeal.nD Cert.GlaSampleReferenceIdeal.τ).loc Cert.GlaSampleReferenceIdeal.main_arg4))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_SelectIdeal_pre_finite_select [hSelectIdeal : Cert.SelectIdeal.Facts] [hPre_finite_select : Cert.Pre_finite_select.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_finite_select m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2))
      ∧ r.2.sem = fun _ => 0)

def quiescent_SelectReferenceIdeal_pre_finite_select [hSelectReferenceIdeal : Cert.SelectReferenceIdeal.Facts] [hPre_finite_select : Cert.Pre_finite_select.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_finite_select m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5))
      ∧ r.2.sem = fun _ => 0)

def quiescent_OutProjSample [hOutProjSample : Cert.OutProjSample.Facts] : Prop :=
  ∀ (m : (ℓ : Loc Cert.OutProjSample.nD Cert.OutProjSample.τ Cert.OutProjSample.sig) → Buf (Elt Bits) ℓ) (g : Dev Cert.OutProjSample.nD → PrngReg), Pre_OutProjSample m →
    θ_run (Cert.OutProjSample.defs (F := Bits)) (onTc (τ := Cert.OutProjSample.τ) (Cert.OutProjSample.main (F := Bits))) ⟨m, fun _ => 0, g⟩ (fun r => (∀ c : Dev Cert.OutProjSample.nD,
      r.2.mem ((c.tc : Thread Cert.OutProjSample.nD Cert.OutProjSample.τ).loc Cert.OutProjSample.main_arg0) = m ((c.tc : Thread Cert.OutProjSample.nD Cert.OutProjSample.τ).loc Cert.OutProjSample.main_arg0)
      ∧ r.2.mem ((c.tc : Thread Cert.OutProjSample.nD Cert.OutProjSample.τ).loc Cert.OutProjSample.main_arg1) = m ((c.tc : Thread Cert.OutProjSample.nD Cert.OutProjSample.τ).loc Cert.OutProjSample.main_arg1)
      ∧ r.2.mem ((c.tc : Thread Cert.OutProjSample.nD Cert.OutProjSample.τ).loc Cert.OutProjSample.main_arg2) = m ((c.tc : Thread Cert.OutProjSample.nD Cert.OutProjSample.τ).loc Cert.OutProjSample.main_arg2))
      ∧ r.2.sem = fun _ => 0)

def quiescent_OutProjSampleIdeal [hOutProjSampleIdeal : Cert.OutProjSampleIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg), Pre_OutProjSampleIdeal m →
    θ_run (Cert.OutProjSampleIdeal.defs (F := Ideal)) (onTc (τ := Cert.OutProjSampleIdeal.τ) (Cert.OutProjSampleIdeal.main (F := Ideal))) ⟨m, fun _ => 0, g⟩ (fun r => (∀ c : Dev Cert.OutProjSampleIdeal.nD,
      r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
      ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
      ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2))
      ∧ r.2.sem = fun _ => 0)

def quiescent_OutProjSampleReferenceIdeal [hOutProjSampleReferenceIdeal : Cert.OutProjSampleReferenceIdeal.Facts] : Prop :=
  ∀ (m : (ℓ : Loc Cert.OutProjSampleReferenceIdeal.nD Cert.OutProjSampleReferenceIdeal.τ Cert.OutProjSampleReferenceIdeal.sig) → Buf (Elt Ideal) ℓ) (g : Dev Cert.OutProjSampleReferenceIdeal.nD → PrngReg), Pre_OutProjSampleReferenceIdeal m →
    θ_run (Cert.OutProjSampleReferenceIdeal.defs (F := Ideal)) (onTc (τ := Cert.OutProjSampleReferenceIdeal.τ) (Cert.OutProjSampleReferenceIdeal.main (F := Ideal))) ⟨m, fun _ => 0, g⟩ (fun r => (∀ c : Dev Cert.OutProjSampleReferenceIdeal.nD,
      r.2.mem ((c.tc : Thread Cert.OutProjSampleReferenceIdeal.nD Cert.OutProjSampleReferenceIdeal.τ).loc Cert.OutProjSampleReferenceIdeal.main_arg0) = m ((c.tc : Thread Cert.OutProjSampleReferenceIdeal.nD Cert.OutProjSampleReferenceIdeal.τ).loc Cert.OutProjSampleReferenceIdeal.main_arg0)
      ∧ r.2.mem ((c.tc : Thread Cert.OutProjSampleReferenceIdeal.nD Cert.OutProjSampleReferenceIdeal.τ).loc Cert.OutProjSampleReferenceIdeal.main_arg1) = m ((c.tc : Thread Cert.OutProjSampleReferenceIdeal.nD Cert.OutProjSampleReferenceIdeal.τ).loc Cert.OutProjSampleReferenceIdeal.main_arg1)
      ∧ r.2.mem ((c.tc : Thread Cert.OutProjSampleReferenceIdeal.nD Cert.OutProjSampleReferenceIdeal.τ).loc Cert.OutProjSampleReferenceIdeal.main_arg2) = m ((c.tc : Thread Cert.OutProjSampleReferenceIdeal.nD Cert.OutProjSampleReferenceIdeal.τ).loc Cert.OutProjSampleReferenceIdeal.main_arg2))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4)
      ∧ r.2.mem ((c.tc : Thread Cert.MergeSampleReferenceIdeal.nD Cert.MergeSampleReferenceIdeal.τ).loc Cert.MergeSampleReferenceIdeal.main_arg5) = m ((c.tc : Thread Cert.MergeSampleReferenceIdeal.nD Cert.MergeSampleReferenceIdeal.τ).loc Cert.MergeSampleReferenceIdeal.main_arg5)
      ∧ r.2.mem ((c.tc : Thread Cert.MergeSampleReferenceIdeal.nD Cert.MergeSampleReferenceIdeal.τ).loc Cert.MergeSampleReferenceIdeal.main_arg6) = m ((c.tc : Thread Cert.MergeSampleReferenceIdeal.nD Cert.MergeSampleReferenceIdeal.τ).loc Cert.MergeSampleReferenceIdeal.main_arg6))
      ∧ r.2.sem = fun _ => 0)

def quiescent_ProjGlaSample [hProjGlaSample : Cert.ProjGlaSample.Facts] : Prop :=
  ∀ (m : (ℓ : Loc Cert.ProjGlaSample.nD Cert.ProjGlaSample.τ Cert.ProjGlaSample.sig) → Buf (Elt Bits) ℓ) (g : Dev Cert.ProjGlaSample.nD → PrngReg), Pre_ProjGlaSample m →
    θ_run (Cert.ProjGlaSample.defs (F := Bits)) (onTc (τ := Cert.ProjGlaSample.τ) (Cert.ProjGlaSample.main (F := Bits))) ⟨m, fun _ => 0, g⟩ (fun r => (∀ c : Dev Cert.ProjGlaSample.nD,
      r.2.mem ((c.tc : Thread Cert.ProjGlaSample.nD Cert.ProjGlaSample.τ).loc Cert.ProjGlaSample.main_arg0) = m ((c.tc : Thread Cert.ProjGlaSample.nD Cert.ProjGlaSample.τ).loc Cert.ProjGlaSample.main_arg0)
      ∧ r.2.mem ((c.tc : Thread Cert.ProjGlaSample.nD Cert.ProjGlaSample.τ).loc Cert.ProjGlaSample.main_arg1) = m ((c.tc : Thread Cert.ProjGlaSample.nD Cert.ProjGlaSample.τ).loc Cert.ProjGlaSample.main_arg1))
      ∧ r.2.sem = fun _ => 0)

def quiescent_ProjGlaSampleIdeal [hProjGlaSampleIdeal : Cert.ProjGlaSampleIdeal.Facts] : Prop :=
  ∀ (m : (ℓ : Loc Cert.ProjGlaSampleIdeal.nD Cert.ProjGlaSampleIdeal.τ Cert.ProjGlaSampleIdeal.sig) → Buf (Elt Ideal) ℓ) (g : Dev Cert.ProjGlaSampleIdeal.nD → PrngReg), Pre_ProjGlaSampleIdeal m →
    θ_run (Cert.ProjGlaSampleIdeal.defs (F := Ideal)) (onTc (τ := Cert.ProjGlaSampleIdeal.τ) (Cert.ProjGlaSampleIdeal.main (F := Ideal))) ⟨m, fun _ => 0, g⟩ (fun r => (∀ c : Dev Cert.ProjGlaSampleIdeal.nD,
      r.2.mem ((c.tc : Thread Cert.ProjGlaSampleIdeal.nD Cert.ProjGlaSampleIdeal.τ).loc Cert.ProjGlaSampleIdeal.main_arg0) = m ((c.tc : Thread Cert.ProjGlaSampleIdeal.nD Cert.ProjGlaSampleIdeal.τ).loc Cert.ProjGlaSampleIdeal.main_arg0)
      ∧ r.2.mem ((c.tc : Thread Cert.ProjGlaSampleIdeal.nD Cert.ProjGlaSampleIdeal.τ).loc Cert.ProjGlaSampleIdeal.main_arg1) = m ((c.tc : Thread Cert.ProjGlaSampleIdeal.nD Cert.ProjGlaSampleIdeal.τ).loc Cert.ProjGlaSampleIdeal.main_arg1))
      ∧ r.2.sem = fun _ => 0)

def quiescent_ProjGlaSampleReferenceIdeal [hProjGlaSampleReferenceIdeal : Cert.ProjGlaSampleReferenceIdeal.Facts] : Prop :=
  ∀ (m : (ℓ : Loc Cert.ProjGlaSampleReferenceIdeal.nD Cert.ProjGlaSampleReferenceIdeal.τ Cert.ProjGlaSampleReferenceIdeal.sig) → Buf (Elt Ideal) ℓ) (g : Dev Cert.ProjGlaSampleReferenceIdeal.nD → PrngReg), Pre_ProjGlaSampleReferenceIdeal m →
    θ_run (Cert.ProjGlaSampleReferenceIdeal.defs (F := Ideal)) (onTc (τ := Cert.ProjGlaSampleReferenceIdeal.τ) (Cert.ProjGlaSampleReferenceIdeal.main (F := Ideal))) ⟨m, fun _ => 0, g⟩ (fun r => (∀ c : Dev Cert.ProjGlaSampleReferenceIdeal.nD,
      r.2.mem ((c.tc : Thread Cert.ProjGlaSampleReferenceIdeal.nD Cert.ProjGlaSampleReferenceIdeal.τ).loc Cert.ProjGlaSampleReferenceIdeal.main_arg0) = m ((c.tc : Thread Cert.ProjGlaSampleReferenceIdeal.nD Cert.ProjGlaSampleReferenceIdeal.τ).loc Cert.ProjGlaSampleReferenceIdeal.main_arg0)
      ∧ r.2.mem ((c.tc : Thread Cert.ProjGlaSampleReferenceIdeal.nD Cert.ProjGlaSampleReferenceIdeal.τ).loc Cert.ProjGlaSampleReferenceIdeal.main_arg1) = m ((c.tc : Thread Cert.ProjGlaSampleReferenceIdeal.nD Cert.ProjGlaSampleReferenceIdeal.τ).loc Cert.ProjGlaSampleReferenceIdeal.main_arg1))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v20) = v0 c
          ∧ r.2.mem ((c.tc : Thread Cert.FfnReferenceIdeal.nD Cert.FfnReferenceIdeal.τ).loc Cert.FfnReferenceIdeal.main_v34) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Mm_MmIdeal : Prop :=
  True

def algebraic_MmIdeal_MmReferenceIdeal [hMmIdeal : Cert.MmIdeal.Facts] [hMmReferenceIdeal : Cert.MmReferenceIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmReferenceIdeal.nD Cert.MmReferenceIdeal.τ Cert.MmReferenceIdeal.sig) → Buf (Elt Ideal) ℓ) (g' : Dev Cert.MmReferenceIdeal.nD → PrngReg), Pre_MmIdeal m →
    (∀ c : Dev Cert.MmIdeal.nD,
      m' ((c.tc : Thread Cert.MmReferenceIdeal.nD Cert.MmReferenceIdeal.τ).loc Cert.MmReferenceIdeal.main_arg0) = m ((c.tc : Thread Cert.MmIdeal.nD Cert.MmIdeal.τ).loc Cert.MmIdeal.main_arg0)
      ∧ m' ((c.tc : Thread Cert.MmReferenceIdeal.nD Cert.MmReferenceIdeal.τ).loc Cert.MmReferenceIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v1)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v1) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmReferenceIdeal.defs (F := Ideal)) (onTc (τ := Cert.MmReferenceIdeal.τ) (Cert.MmReferenceIdeal.main (F := Ideal))) ⟨m', fun _ => 0, g'⟩ (fun r => ∀ c : Dev Cert.MmReferenceIdeal.nD,
          r.2.mem ((c.tc : Thread Cert.MmReferenceIdeal.nD Cert.MmReferenceIdeal.τ).loc Cert.MmReferenceIdeal.main_v1) = v0 c
          ∧ r.2.mem ((c.tc : Thread Cert.MmReferenceIdeal.nD Cert.MmReferenceIdeal.τ).loc Cert.MmReferenceIdeal.main_arg0) = m' ((c.tc : Thread Cert.MmReferenceIdeal.nD Cert.MmReferenceIdeal.τ).loc Cert.MmReferenceIdeal.main_arg0)
          ∧ r.2.mem ((c.tc : Thread Cert.MmReferenceIdeal.nD Cert.MmReferenceIdeal.τ).loc Cert.MmReferenceIdeal.main_arg1) = m' ((c.tc : Thread Cert.MmReferenceIdeal.nD Cert.MmReferenceIdeal.τ).loc Cert.MmReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v22) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v23) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_MmSample_MmSampleIdeal : Prop :=
  True

def algebraic_MmSampleIdeal_MmSampleReferenceIdeal [hMmSampleIdeal : Cert.MmSampleIdeal.Facts] [hMmSampleReferenceIdeal : Cert.MmSampleReferenceIdeal.Facts] : Prop :=
  ∀ (m : (ℓ : Loc Cert.MmSampleIdeal.nD Cert.MmSampleIdeal.τ Cert.MmSampleIdeal.sig) → Buf (Elt Ideal) ℓ) (g : Dev Cert.MmSampleIdeal.nD → PrngReg)
    (m' : (ℓ : Loc Cert.MmSampleReferenceIdeal.nD Cert.MmSampleReferenceIdeal.τ Cert.MmSampleReferenceIdeal.sig) → Buf (Elt Ideal) ℓ) (g' : Dev Cert.MmSampleReferenceIdeal.nD → PrngReg), Pre_MmSampleIdeal m →
    (∀ c : Dev Cert.MmSampleIdeal.nD,
      m' ((c.tc : Thread Cert.MmSampleReferenceIdeal.nD Cert.MmSampleReferenceIdeal.τ).loc Cert.MmSampleReferenceIdeal.main_arg0) = m ((c.tc : Thread Cert.MmSampleIdeal.nD Cert.MmSampleIdeal.τ).loc Cert.MmSampleIdeal.main_arg0)
      ∧ m' ((c.tc : Thread Cert.MmSampleReferenceIdeal.nD Cert.MmSampleReferenceIdeal.τ).loc Cert.MmSampleReferenceIdeal.main_arg1) = m ((c.tc : Thread Cert.MmSampleIdeal.nD Cert.MmSampleIdeal.τ).loc Cert.MmSampleIdeal.main_arg1)) →
    ∃ (v0 : (c : Dev Cert.MmSampleIdeal.nD) → Buf (Elt Ideal) ((c.tc : Thread Cert.MmSampleIdeal.nD Cert.MmSampleIdeal.τ).loc Cert.MmSampleIdeal.main_v1)),
      θ_run (Cert.MmSampleIdeal.defs (F := Ideal)) (onTc (τ := Cert.MmSampleIdeal.τ) (Cert.MmSampleIdeal.main (F := Ideal))) ⟨m, fun _ => 0, g⟩ (fun r => ∀ c : Dev Cert.MmSampleIdeal.nD,
          r.2.mem ((c.tc : Thread Cert.MmSampleIdeal.nD Cert.MmSampleIdeal.τ).loc Cert.MmSampleIdeal.main_v1) = v0 c
          ∧ r.2.mem ((c.tc : Thread Cert.MmSampleIdeal.nD Cert.MmSampleIdeal.τ).loc Cert.MmSampleIdeal.main_arg0) = m ((c.tc : Thread Cert.MmSampleIdeal.nD Cert.MmSampleIdeal.τ).loc Cert.MmSampleIdeal.main_arg0)
          ∧ r.2.mem ((c.tc : Thread Cert.MmSampleIdeal.nD Cert.MmSampleIdeal.τ).loc Cert.MmSampleIdeal.main_arg1) = m ((c.tc : Thread Cert.MmSampleIdeal.nD Cert.MmSampleIdeal.τ).loc Cert.MmSampleIdeal.main_arg1))
      ∧ θ_run (Cert.MmSampleReferenceIdeal.defs (F := Ideal)) (onTc (τ := Cert.MmSampleReferenceIdeal.τ) (Cert.MmSampleReferenceIdeal.main (F := Ideal))) ⟨m', fun _ => 0, g'⟩ (fun r => ∀ c : Dev Cert.MmSampleReferenceIdeal.nD,
          r.2.mem ((c.tc : Thread Cert.MmSampleReferenceIdeal.nD Cert.MmSampleReferenceIdeal.τ).loc Cert.MmSampleReferenceIdeal.main_v1) = v0 c
          ∧ r.2.mem ((c.tc : Thread Cert.MmSampleReferenceIdeal.nD Cert.MmSampleReferenceIdeal.τ).loc Cert.MmSampleReferenceIdeal.main_arg0) = m' ((c.tc : Thread Cert.MmSampleReferenceIdeal.nD Cert.MmSampleReferenceIdeal.τ).loc Cert.MmSampleReferenceIdeal.main_arg0)
          ∧ r.2.mem ((c.tc : Thread Cert.MmSampleReferenceIdeal.nD Cert.MmSampleReferenceIdeal.τ).loc Cert.MmSampleReferenceIdeal.main_arg1) = m' ((c.tc : Thread Cert.MmSampleReferenceIdeal.nD Cert.MmSampleReferenceIdeal.τ).loc Cert.MmSampleReferenceIdeal.main_arg1))

def preserves_PleSample_PleSampleIdeal : Prop :=
  True

def algebraic_PleSampleIdeal_PleSampleReferenceIdeal [hPleSampleIdeal : Cert.PleSampleIdeal.Facts] [hPleSampleReferenceIdeal : Cert.PleSampleReferenceIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg)
    (m' : (ℓ : Loc Cert.PleSampleReferenceIdeal.nD Cert.PleSampleReferenceIdeal.τ Cert.PleSampleReferenceIdeal.sig) → Buf (Elt Ideal) ℓ) (g' : Dev Cert.PleSampleReferenceIdeal.nD → PrngReg), Pre_PleSampleIdeal m →
    (∀ c : Dev Cert.PleSampleIdeal.nD,
      m' ((c.tc : Thread Cert.PleSampleReferenceIdeal.nD Cert.PleSampleReferenceIdeal.τ).loc Cert.PleSampleReferenceIdeal.main_arg0) = m ((c.tc : Thread Cert.PleSampleIdeal.nD Cert.PleSampleIdeal.τ).loc Cert.PleSampleIdeal.main_arg0)
      ∧ m' ((c.tc : Thread Cert.PleSampleReferenceIdeal.nD Cert.PleSampleReferenceIdeal.τ).loc Cert.PleSampleReferenceIdeal.main_arg1) = m ((c.tc : Thread Cert.PleSampleIdeal.nD Cert.PleSampleIdeal.τ).loc Cert.PleSampleIdeal.main_arg1)
      ∧ m' ((c.tc : Thread Cert.PleSampleReferenceIdeal.nD Cert.PleSampleReferenceIdeal.τ).loc Cert.PleSampleReferenceIdeal.main_arg2) = m ((c.tc : Thread Cert.PleSampleIdeal.nD Cert.PleSampleIdeal.τ).loc Cert.PleSampleIdeal.main_arg2)
      ∧ m' ((c.tc : Thread Cert.PleSampleReferenceIdeal.nD Cert.PleSampleReferenceIdeal.τ).loc Cert.PleSampleReferenceIdeal.main_arg3) = m ((c.tc : Thread Cert.PleSampleIdeal.nD Cert.PleSampleIdeal.τ).loc Cert.PleSampleIdeal.main_arg3)
      ∧ m' ((c.tc : Thread Cert.PleSampleReferenceIdeal.nD Cert.PleSampleReferenceIdeal.τ).loc Cert.PleSampleReferenceIdeal.main_arg4) = m ((c.tc : Thread Cert.PleSampleIdeal.nD Cert.PleSampleIdeal.τ).loc Cert.PleSampleIdeal.main_arg4)
      ∧ m' ((c.tc : Thread Cert.PleSampleReferenceIdeal.nD Cert.PleSampleReferenceIdeal.τ).loc Cert.PleSampleReferenceIdeal.main_arg5) = m ((c.tc : Thread Cert.PleSampleIdeal.nD Cert.PleSampleIdeal.τ).loc Cert.PleSampleIdeal.main_arg5)) →
    ∃ (v0 : (c : Dev Cert.PleSampleIdeal.nD) → Buf (Elt Ideal) ((c.tc : Thread Cert.PleSampleIdeal.nD Cert.PleSampleIdeal.τ).loc Cert.PleSampleIdeal.main_v3)),
      θ_run (Cert.PleSampleIdeal.defs (F := Ideal)) (onTc (τ := Cert.PleSampleIdeal.τ) (Cert.PleSampleIdeal.main (F := Ideal))) ⟨m, fun _ => 0, g⟩ (fun r => ∀ c : Dev Cert.PleSampleIdeal.nD,
          r.2.mem ((c.tc : Thread Cert.PleSampleIdeal.nD Cert.PleSampleIdeal.τ).loc Cert.PleSampleIdeal.main_v3) = v0 c
          ∧ r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
          ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
          ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
          ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
          ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4)
          ∧ r.2.mem ((c.tc : Thread Cert.PleSampleIdeal.nD Cert.PleSampleIdeal.τ).loc Cert.PleSampleIdeal.main_arg5) = m ((c.tc : Thread Cert.PleSampleIdeal.nD Cert.PleSampleIdeal.τ).loc Cert.PleSampleIdeal.main_arg5))
      ∧ θ_run (Cert.PleSampleReferenceIdeal.defs (F := Ideal)) (onTc (τ := Cert.PleSampleReferenceIdeal.τ) (Cert.PleSampleReferenceIdeal.main (F := Ideal))) ⟨m', fun _ => 0, g'⟩ (fun r => ∀ c : Dev Cert.PleSampleReferenceIdeal.nD,
          r.2.mem ((c.tc : Thread Cert.PleSampleReferenceIdeal.nD Cert.PleSampleReferenceIdeal.τ).loc Cert.PleSampleReferenceIdeal.main_v23) = v0 c
          ∧ r.2.mem ((c.tc : Thread Cert.PleSampleReferenceIdeal.nD Cert.PleSampleReferenceIdeal.τ).loc Cert.PleSampleReferenceIdeal.main_arg0) = m' ((c.tc : Thread Cert.PleSampleReferenceIdeal.nD Cert.PleSampleReferenceIdeal.τ).loc Cert.PleSampleReferenceIdeal.main_arg0)
          ∧ r.2.mem ((c.tc : Thread Cert.PleSampleReferenceIdeal.nD Cert.PleSampleReferenceIdeal.τ).loc Cert.PleSampleReferenceIdeal.main_arg1) = m' ((c.tc : Thread Cert.PleSampleReferenceIdeal.nD Cert.PleSampleReferenceIdeal.τ).loc Cert.PleSampleReferenceIdeal.main_arg1)
          ∧ r.2.mem ((c.tc : Thread Cert.PleSampleReferenceIdeal.nD Cert.PleSampleReferenceIdeal.τ).loc Cert.PleSampleReferenceIdeal.main_arg2) = m' ((c.tc : Thread Cert.PleSampleReferenceIdeal.nD Cert.PleSampleReferenceIdeal.τ).loc Cert.PleSampleReferenceIdeal.main_arg2)
          ∧ r.2.mem ((c.tc : Thread Cert.PleSampleReferenceIdeal.nD Cert.PleSampleReferenceIdeal.τ).loc Cert.PleSampleReferenceIdeal.main_arg3) = m' ((c.tc : Thread Cert.PleSampleReferenceIdeal.nD Cert.PleSampleReferenceIdeal.τ).loc Cert.PleSampleReferenceIdeal.main_arg3)
          ∧ r.2.mem ((c.tc : Thread Cert.PleSampleReferenceIdeal.nD Cert.PleSampleReferenceIdeal.τ).loc Cert.PleSampleReferenceIdeal.main_arg4) = m' ((c.tc : Thread Cert.PleSampleReferenceIdeal.nD Cert.PleSampleReferenceIdeal.τ).loc Cert.PleSampleReferenceIdeal.main_arg4)
          ∧ r.2.mem ((c.tc : Thread Cert.PleSampleReferenceIdeal.nD Cert.PleSampleReferenceIdeal.τ).loc Cert.PleSampleReferenceIdeal.main_arg5) = m' ((c.tc : Thread Cert.PleSampleReferenceIdeal.nD Cert.PleSampleReferenceIdeal.τ).loc Cert.PleSampleReferenceIdeal.main_arg5))

def preserves_ProjGla_ProjGlaIdeal : Prop :=
  True

def algebraic_ProjGlaIdeal_ProjGlaReferenceIdeal [hProjGlaIdeal : Cert.ProjGlaIdeal.Facts] [hProjGlaReferenceIdeal : Cert.ProjGlaReferenceIdeal.Facts] : Prop :=
  ∀ (m : (ℓ : Loc Cert.ProjGlaIdeal.nD Cert.ProjGlaIdeal.τ Cert.ProjGlaIdeal.sig) → Buf (Elt Ideal) ℓ) (g : Dev Cert.ProjGlaIdeal.nD → PrngReg)
    (m' : (ℓ : Loc Cert.ProjGlaReferenceIdeal.nD Cert.ProjGlaReferenceIdeal.τ Cert.ProjGlaReferenceIdeal.sig) → Buf (Elt Ideal) ℓ) (g' : Dev Cert.ProjGlaReferenceIdeal.nD → PrngReg), Pre_ProjGlaIdeal m →
    (∀ c : Dev Cert.ProjGlaIdeal.nD,
      m' ((c.tc : Thread Cert.ProjGlaReferenceIdeal.nD Cert.ProjGlaReferenceIdeal.τ).loc Cert.ProjGlaReferenceIdeal.main_arg0) = m ((c.tc : Thread Cert.ProjGlaIdeal.nD Cert.ProjGlaIdeal.τ).loc Cert.ProjGlaIdeal.main_arg0)
      ∧ m' ((c.tc : Thread Cert.ProjGlaReferenceIdeal.nD Cert.ProjGlaReferenceIdeal.τ).loc Cert.ProjGlaReferenceIdeal.main_arg1) = m ((c.tc : Thread Cert.ProjGlaIdeal.nD Cert.ProjGlaIdeal.τ).loc Cert.ProjGlaIdeal.main_arg1)) →
    ∃ (v0 : (c : Dev Cert.ProjGlaIdeal.nD) → Buf (Elt Ideal) ((c.tc : Thread Cert.ProjGlaIdeal.nD Cert.ProjGlaIdeal.τ).loc Cert.ProjGlaIdeal.main_v5)),
      θ_run (Cert.ProjGlaIdeal.defs (F := Ideal)) (onTc (τ := Cert.ProjGlaIdeal.τ) (Cert.ProjGlaIdeal.main (F := Ideal))) ⟨m, fun _ => 0, g⟩ (fun r => ∀ c : Dev Cert.ProjGlaIdeal.nD,
          r.2.mem ((c.tc : Thread Cert.ProjGlaIdeal.nD Cert.ProjGlaIdeal.τ).loc Cert.ProjGlaIdeal.main_v5) = v0 c
          ∧ r.2.mem ((c.tc : Thread Cert.ProjGlaIdeal.nD Cert.ProjGlaIdeal.τ).loc Cert.ProjGlaIdeal.main_arg0) = m ((c.tc : Thread Cert.ProjGlaIdeal.nD Cert.ProjGlaIdeal.τ).loc Cert.ProjGlaIdeal.main_arg0)
          ∧ r.2.mem ((c.tc : Thread Cert.ProjGlaIdeal.nD Cert.ProjGlaIdeal.τ).loc Cert.ProjGlaIdeal.main_arg1) = m ((c.tc : Thread Cert.ProjGlaIdeal.nD Cert.ProjGlaIdeal.τ).loc Cert.ProjGlaIdeal.main_arg1))
      ∧ θ_run (Cert.ProjGlaReferenceIdeal.defs (F := Ideal)) (onTc (τ := Cert.ProjGlaReferenceIdeal.τ) (Cert.ProjGlaReferenceIdeal.main (F := Ideal))) ⟨m', fun _ => 0, g'⟩ (fun r => ∀ c : Dev Cert.ProjGlaReferenceIdeal.nD,
          r.2.mem ((c.tc : Thread Cert.ProjGlaReferenceIdeal.nD Cert.ProjGlaReferenceIdeal.τ).loc Cert.ProjGlaReferenceIdeal.main_v2) = v0 c
          ∧ r.2.mem ((c.tc : Thread Cert.ProjGlaReferenceIdeal.nD Cert.ProjGlaReferenceIdeal.τ).loc Cert.ProjGlaReferenceIdeal.main_arg0) = m' ((c.tc : Thread Cert.ProjGlaReferenceIdeal.nD Cert.ProjGlaReferenceIdeal.τ).loc Cert.ProjGlaReferenceIdeal.main_arg0)
          ∧ r.2.mem ((c.tc : Thread Cert.ProjGlaReferenceIdeal.nD Cert.ProjGlaReferenceIdeal.τ).loc Cert.ProjGlaReferenceIdeal.main_arg1) = m' ((c.tc : Thread Cert.ProjGlaReferenceIdeal.nD Cert.ProjGlaReferenceIdeal.τ).loc Cert.ProjGlaReferenceIdeal.main_arg1))

def preserves_Gla_GlaIdeal : Prop :=
  True

def algebraic_GlaIdeal_GlaReferenceIdeal_pre_finite_gate [hGlaIdeal : Cert.GlaIdeal.Facts] [hGlaReferenceIdeal : Cert.GlaReferenceIdeal.Facts] [hPre_finite_gate : Cert.Pre_finite_gate.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal_finite_gate m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v4_0)) (v1 : (c : Dev Cert.GlaIdeal.nD) → Buf (Elt Ideal) ((c.tc : Thread Cert.GlaIdeal.nD Cert.GlaIdeal.τ).loc Cert.GlaIdeal.main_v4_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v4_0) = v0 c
          ∧ r.2.mem ((c.tc : Thread Cert.GlaIdeal.nD Cert.GlaIdeal.τ).loc Cert.GlaIdeal.main_v4_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v44) = v0 c
          ∧ r.2.mem ((c.tc : Thread Cert.GlaReferenceIdeal.nD Cert.GlaReferenceIdeal.τ).loc Cert.GlaReferenceIdeal.main_v45) = v1 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3))

def preserves_GlaSample_GlaSampleIdeal : Prop :=
  True

def algebraic_GlaSampleIdeal_GlaSampleReferenceIdeal_pre_finite_gate_sample [hGlaSampleIdeal : Cert.GlaSampleIdeal.Facts] [hGlaSampleReferenceIdeal : Cert.GlaSampleReferenceIdeal.Facts] [hPre_finite_gate_sample : Cert.Pre_finite_gate_sample.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleReferenceIdeal.nD Cert.GlaSampleReferenceIdeal.τ Cert.GlaSampleReferenceIdeal.sig) → Buf (Elt Ideal) ℓ) (g' : Dev Cert.GlaSampleReferenceIdeal.nD → PrngReg), Pre_GlaSampleIdeal_finite_gate_sample m →
    (∀ c : Dev Cert.GlaSampleIdeal.nD,
      m' ((c.tc : Thread Cert.GlaSampleReferenceIdeal.nD Cert.GlaSampleReferenceIdeal.τ).loc Cert.GlaSampleReferenceIdeal.main_arg0) = m ((c.tc : Thread Cert.GlaSampleIdeal.nD Cert.GlaSampleIdeal.τ).loc Cert.GlaSampleIdeal.main_arg0)
      ∧ m' ((c.tc : Thread Cert.GlaSampleReferenceIdeal.nD Cert.GlaSampleReferenceIdeal.τ).loc Cert.GlaSampleReferenceIdeal.main_arg1) = m ((c.tc : Thread Cert.GlaSampleIdeal.nD Cert.GlaSampleIdeal.τ).loc Cert.GlaSampleIdeal.main_arg1)
      ∧ m' ((c.tc : Thread Cert.GlaSampleReferenceIdeal.nD Cert.GlaSampleReferenceIdeal.τ).loc Cert.GlaSampleReferenceIdeal.main_arg2) = m ((c.tc : Thread Cert.GlaSampleIdeal.nD Cert.GlaSampleIdeal.τ).loc Cert.GlaSampleIdeal.main_arg2)
      ∧ m' ((c.tc : Thread Cert.GlaSampleReferenceIdeal.nD Cert.GlaSampleReferenceIdeal.τ).loc Cert.GlaSampleReferenceIdeal.main_arg3) = m ((c.tc : Thread Cert.GlaSampleIdeal.nD Cert.GlaSampleIdeal.τ).loc Cert.GlaSampleIdeal.main_arg3)
      ∧ m' ((c.tc : Thread Cert.GlaSampleReferenceIdeal.nD Cert.GlaSampleReferenceIdeal.τ).loc Cert.GlaSampleReferenceIdeal.main_arg4) = m ((c.tc : Thread Cert.GlaSampleIdeal.nD Cert.GlaSampleIdeal.τ).loc Cert.GlaSampleIdeal.main_arg4)) →
    ∃ (v0 : (c : Dev Cert.GlaSampleIdeal.nD) → Buf (Elt Ideal) ((c.tc : Thread Cert.GlaSampleIdeal.nD Cert.GlaSampleIdeal.τ).loc Cert.GlaSampleIdeal.main_v3_0)) (v1 : (c : Dev Cert.GlaSampleIdeal.nD) → Buf (Elt Ideal) ((c.tc : Thread Cert.GlaSampleIdeal.nD Cert.GlaSampleIdeal.τ).loc Cert.GlaSampleIdeal.main_v3_1)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v3_0) = v0 c
          ∧ r.2.mem ((c.tc : Thread Cert.GlaSampleIdeal.nD Cert.GlaSampleIdeal.τ).loc Cert.GlaSampleIdeal.main_v3_1) = v1 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
          ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
          ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ θ_run (Cert.GlaSampleReferenceIdeal.defs (F := Ideal)) (onTc (τ := Cert.GlaSampleReferenceIdeal.τ) (Cert.GlaSampleReferenceIdeal.main (F := Ideal))) ⟨m', fun _ => 0, g'⟩ (fun r => ∀ c : Dev Cert.GlaSampleReferenceIdeal.nD,
          r.2.mem ((c.tc : Thread Cert.GlaSampleReferenceIdeal.nD Cert.GlaSampleReferenceIdeal.τ).loc Cert.GlaSampleReferenceIdeal.main_v72) = v0 c
          ∧ r.2.mem ((c.tc : Thread Cert.GlaSampleReferenceIdeal.nD Cert.GlaSampleReferenceIdeal.τ).loc Cert.GlaSampleReferenceIdeal.main_v53) = v1 c
          ∧ r.2.mem ((c.tc : Thread Cert.GlaSampleReferenceIdeal.nD Cert.GlaSampleReferenceIdeal.τ).loc Cert.GlaSampleReferenceIdeal.main_arg0) = m' ((c.tc : Thread Cert.GlaSampleReferenceIdeal.nD Cert.GlaSampleReferenceIdeal.τ).loc Cert.GlaSampleReferenceIdeal.main_arg0)
          ∧ r.2.mem ((c.tc : Thread Cert.GlaSampleReferenceIdeal.nD Cert.GlaSampleReferenceIdeal.τ).loc Cert.GlaSampleReferenceIdeal.main_arg1) = m' ((c.tc : Thread Cert.GlaSampleReferenceIdeal.nD Cert.GlaSampleReferenceIdeal.τ).loc Cert.GlaSampleReferenceIdeal.main_arg1)
          ∧ r.2.mem ((c.tc : Thread Cert.GlaSampleReferenceIdeal.nD Cert.GlaSampleReferenceIdeal.τ).loc Cert.GlaSampleReferenceIdeal.main_arg2) = m' ((c.tc : Thread Cert.GlaSampleReferenceIdeal.nD Cert.GlaSampleReferenceIdeal.τ).loc Cert.GlaSampleReferenceIdeal.main_arg2)
          ∧ r.2.mem ((c.tc : Thread Cert.GlaSampleReferenceIdeal.nD Cert.GlaSampleReferenceIdeal.τ).loc Cert.GlaSampleReferenceIdeal.main_arg3) = m' ((c.tc : Thread Cert.GlaSampleReferenceIdeal.nD Cert.GlaSampleReferenceIdeal.τ).loc Cert.GlaSampleReferenceIdeal.main_arg3)
          ∧ r.2.mem ((c.tc : Thread Cert.GlaSampleReferenceIdeal.nD Cert.GlaSampleReferenceIdeal.τ).loc Cert.GlaSampleReferenceIdeal.main_arg4) = m' ((c.tc : Thread Cert.GlaSampleReferenceIdeal.nD Cert.GlaSampleReferenceIdeal.τ).loc Cert.GlaSampleReferenceIdeal.main_arg4))

def preserves_Select_SelectIdeal : Prop :=
  True

def algebraic_SelectIdeal_SelectReferenceIdeal_pre_finite_select [hSelectIdeal : Cert.SelectIdeal.Facts] [hSelectReferenceIdeal : Cert.SelectReferenceIdeal.Facts] [hPre_finite_select : Cert.Pre_finite_select.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_finite_select m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)) →
    ∃ (v0 : (c : Dev Cert.SelectIdeal.nD) → Buf (Elt Ideal) ((c.tc : Thread Cert.SelectIdeal.nD Cert.SelectIdeal.τ).loc Cert.SelectIdeal.main_v0)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v21) = v0 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v5_0)) (v1 : (c : Dev Cert.FfnSampleIdeal.nD) → Buf (Elt Ideal) ((c.tc : Thread Cert.FfnSampleIdeal.nD Cert.FfnSampleIdeal.τ).loc Cert.FfnSampleIdeal.main_v5_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5_0) = v0 c
          ∧ r.2.mem ((c.tc : Thread Cert.FfnSampleIdeal.nD Cert.FfnSampleIdeal.τ).loc Cert.FfnSampleIdeal.main_v5_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v20) = v0 c
          ∧ r.2.mem ((c.tc : Thread Cert.FfnSampleReferenceIdeal.nD Cert.FfnSampleReferenceIdeal.τ).loc Cert.FfnSampleReferenceIdeal.main_v34) = v1 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5))

def preserves_OutProjSample_OutProjSampleIdeal : Prop :=
  True

def algebraic_OutProjSampleIdeal_OutProjSampleReferenceIdeal [hOutProjSampleIdeal : Cert.OutProjSampleIdeal.Facts] [hOutProjSampleReferenceIdeal : Cert.OutProjSampleReferenceIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg)
    (m' : (ℓ : Loc Cert.OutProjSampleReferenceIdeal.nD Cert.OutProjSampleReferenceIdeal.τ Cert.OutProjSampleReferenceIdeal.sig) → Buf (Elt Ideal) ℓ) (g' : Dev Cert.OutProjSampleReferenceIdeal.nD → PrngReg), Pre_OutProjSampleIdeal m →
    (∀ c : Dev Cert.OutProjSampleIdeal.nD,
      m' ((c.tc : Thread Cert.OutProjSampleReferenceIdeal.nD Cert.OutProjSampleReferenceIdeal.τ).loc Cert.OutProjSampleReferenceIdeal.main_arg0) = m ((c.tc : Thread Cert.OutProjSampleIdeal.nD Cert.OutProjSampleIdeal.τ).loc Cert.OutProjSampleIdeal.main_arg0)
      ∧ m' ((c.tc : Thread Cert.OutProjSampleReferenceIdeal.nD Cert.OutProjSampleReferenceIdeal.τ).loc Cert.OutProjSampleReferenceIdeal.main_arg1) = m ((c.tc : Thread Cert.OutProjSampleIdeal.nD Cert.OutProjSampleIdeal.τ).loc Cert.OutProjSampleIdeal.main_arg1)
      ∧ m' ((c.tc : Thread Cert.OutProjSampleReferenceIdeal.nD Cert.OutProjSampleReferenceIdeal.τ).loc Cert.OutProjSampleReferenceIdeal.main_arg2) = m ((c.tc : Thread Cert.OutProjSampleIdeal.nD Cert.OutProjSampleIdeal.τ).loc Cert.OutProjSampleIdeal.main_arg2)) →
    ∃ (v0 : (c : Dev Cert.OutProjSampleIdeal.nD) → Buf (Elt Ideal) ((c.tc : Thread Cert.OutProjSampleIdeal.nD Cert.OutProjSampleIdeal.τ).loc Cert.OutProjSampleIdeal.main_v1)),
      θ_run (Cert.OutProjSampleIdeal.defs (F := Ideal)) (onTc (τ := Cert.OutProjSampleIdeal.τ) (Cert.OutProjSampleIdeal.main (F := Ideal))) ⟨m, fun _ => 0, g⟩ (fun r => ∀ c : Dev Cert.OutProjSampleIdeal.nD,
          r.2.mem ((c.tc : Thread Cert.OutProjSampleIdeal.nD Cert.OutProjSampleIdeal.τ).loc Cert.OutProjSampleIdeal.main_v1) = v0 c
          ∧ r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
          ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
          ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2))
      ∧ θ_run (Cert.OutProjSampleReferenceIdeal.defs (F := Ideal)) (onTc (τ := Cert.OutProjSampleReferenceIdeal.τ) (Cert.OutProjSampleReferenceIdeal.main (F := Ideal))) ⟨m', fun _ => 0, g'⟩ (fun r => ∀ c : Dev Cert.OutProjSampleReferenceIdeal.nD,
          r.2.mem ((c.tc : Thread Cert.OutProjSampleReferenceIdeal.nD Cert.OutProjSampleReferenceIdeal.τ).loc Cert.OutProjSampleReferenceIdeal.main_v2) = v0 c
          ∧ r.2.mem ((c.tc : Thread Cert.OutProjSampleReferenceIdeal.nD Cert.OutProjSampleReferenceIdeal.τ).loc Cert.OutProjSampleReferenceIdeal.main_arg0) = m' ((c.tc : Thread Cert.OutProjSampleReferenceIdeal.nD Cert.OutProjSampleReferenceIdeal.τ).loc Cert.OutProjSampleReferenceIdeal.main_arg0)
          ∧ r.2.mem ((c.tc : Thread Cert.OutProjSampleReferenceIdeal.nD Cert.OutProjSampleReferenceIdeal.τ).loc Cert.OutProjSampleReferenceIdeal.main_arg1) = m' ((c.tc : Thread Cert.OutProjSampleReferenceIdeal.nD Cert.OutProjSampleReferenceIdeal.τ).loc Cert.OutProjSampleReferenceIdeal.main_arg1)
          ∧ r.2.mem ((c.tc : Thread Cert.OutProjSampleReferenceIdeal.nD Cert.OutProjSampleReferenceIdeal.τ).loc Cert.OutProjSampleReferenceIdeal.main_arg2) = m' ((c.tc : Thread Cert.OutProjSampleReferenceIdeal.nD Cert.OutProjSampleReferenceIdeal.τ).loc Cert.OutProjSampleReferenceIdeal.main_arg2))

def preserves_MergeSample_MergeSampleIdeal : Prop :=
  True

def algebraic_MergeSampleIdeal_MergeSampleReferenceIdeal [hMergeSampleIdeal : Cert.MergeSampleIdeal.Facts] [hMergeSampleReferenceIdeal : Cert.MergeSampleReferenceIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleIdeal m →
    (∀ c : Dev Cert.MergeSampleIdeal.nD,
      m' ((c.tc : Thread Cert.MergeSampleReferenceIdeal.nD Cert.MergeSampleReferenceIdeal.τ).loc Cert.MergeSampleReferenceIdeal.main_arg0) = m ((c.tc : Thread Cert.MergeSampleIdeal.nD Cert.MergeSampleIdeal.τ).loc Cert.MergeSampleIdeal.main_arg0)
      ∧ m' ((c.tc : Thread Cert.MergeSampleReferenceIdeal.nD Cert.MergeSampleReferenceIdeal.τ).loc Cert.MergeSampleReferenceIdeal.main_arg1) = m ((c.tc : Thread Cert.MergeSampleIdeal.nD Cert.MergeSampleIdeal.τ).loc Cert.MergeSampleIdeal.main_arg1)
      ∧ m' ((c.tc : Thread Cert.MergeSampleReferenceIdeal.nD Cert.MergeSampleReferenceIdeal.τ).loc Cert.MergeSampleReferenceIdeal.main_arg2) = m ((c.tc : Thread Cert.MergeSampleIdeal.nD Cert.MergeSampleIdeal.τ).loc Cert.MergeSampleIdeal.main_arg2)
      ∧ m' ((c.tc : Thread Cert.MergeSampleReferenceIdeal.nD Cert.MergeSampleReferenceIdeal.τ).loc Cert.MergeSampleReferenceIdeal.main_arg3) = m ((c.tc : Thread Cert.MergeSampleIdeal.nD Cert.MergeSampleIdeal.τ).loc Cert.MergeSampleIdeal.main_arg3)
      ∧ m' ((c.tc : Thread Cert.MergeSampleReferenceIdeal.nD Cert.MergeSampleReferenceIdeal.τ).loc Cert.MergeSampleReferenceIdeal.main_arg4) = m ((c.tc : Thread Cert.MergeSampleIdeal.nD Cert.MergeSampleIdeal.τ).loc Cert.MergeSampleIdeal.main_arg4)
      ∧ m' ((c.tc : Thread Cert.MergeSampleReferenceIdeal.nD Cert.MergeSampleReferenceIdeal.τ).loc Cert.MergeSampleReferenceIdeal.main_arg5) = m ((c.tc : Thread Cert.MergeSampleIdeal.nD Cert.MergeSampleIdeal.τ).loc Cert.MergeSampleIdeal.main_arg5)
      ∧ m' ((c.tc : Thread Cert.MergeSampleReferenceIdeal.nD Cert.MergeSampleReferenceIdeal.τ).loc Cert.MergeSampleReferenceIdeal.main_arg6) = m ((c.tc : Thread Cert.MergeSampleIdeal.nD Cert.MergeSampleIdeal.τ).loc Cert.MergeSampleIdeal.main_arg6)) →
    ∃ (v0 : (c : Dev Cert.MergeSampleIdeal.nD) → Buf (Elt Ideal) ((c.tc : Thread Cert.MergeSampleIdeal.nD Cert.MergeSampleIdeal.τ).loc Cert.MergeSampleIdeal.main_v4)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v4) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v20) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4)
          ∧ r.2.mem ((c.tc : Thread Cert.MergeSampleReferenceIdeal.nD Cert.MergeSampleReferenceIdeal.τ).loc Cert.MergeSampleReferenceIdeal.main_arg5) = m' ((c.tc : Thread Cert.MergeSampleReferenceIdeal.nD Cert.MergeSampleReferenceIdeal.τ).loc Cert.MergeSampleReferenceIdeal.main_arg5)
          ∧ r.2.mem ((c.tc : Thread Cert.MergeSampleReferenceIdeal.nD Cert.MergeSampleReferenceIdeal.τ).loc Cert.MergeSampleReferenceIdeal.main_arg6) = m' ((c.tc : Thread Cert.MergeSampleReferenceIdeal.nD Cert.MergeSampleReferenceIdeal.τ).loc Cert.MergeSampleReferenceIdeal.main_arg6))

def preserves_ProjGlaSample_ProjGlaSampleIdeal : Prop :=
  True

def algebraic_ProjGlaSampleIdeal_ProjGlaSampleReferenceIdeal [hProjGlaSampleIdeal : Cert.ProjGlaSampleIdeal.Facts] [hProjGlaSampleReferenceIdeal : Cert.ProjGlaSampleReferenceIdeal.Facts] : Prop :=
  ∀ (m : (ℓ : Loc Cert.ProjGlaSampleIdeal.nD Cert.ProjGlaSampleIdeal.τ Cert.ProjGlaSampleIdeal.sig) → Buf (Elt Ideal) ℓ) (g : Dev Cert.ProjGlaSampleIdeal.nD → PrngReg)
    (m' : (ℓ : Loc Cert.ProjGlaSampleReferenceIdeal.nD Cert.ProjGlaSampleReferenceIdeal.τ Cert.ProjGlaSampleReferenceIdeal.sig) → Buf (Elt Ideal) ℓ) (g' : Dev Cert.ProjGlaSampleReferenceIdeal.nD → PrngReg), Pre_ProjGlaSampleIdeal m →
    (∀ c : Dev Cert.ProjGlaSampleIdeal.nD,
      m' ((c.tc : Thread Cert.ProjGlaSampleReferenceIdeal.nD Cert.ProjGlaSampleReferenceIdeal.τ).loc Cert.ProjGlaSampleReferenceIdeal.main_arg0) = m ((c.tc : Thread Cert.ProjGlaSampleIdeal.nD Cert.ProjGlaSampleIdeal.τ).loc Cert.ProjGlaSampleIdeal.main_arg0)
      ∧ m' ((c.tc : Thread Cert.ProjGlaSampleReferenceIdeal.nD Cert.ProjGlaSampleReferenceIdeal.τ).loc Cert.ProjGlaSampleReferenceIdeal.main_arg1) = m ((c.tc : Thread Cert.ProjGlaSampleIdeal.nD Cert.ProjGlaSampleIdeal.τ).loc Cert.ProjGlaSampleIdeal.main_arg1)) →
    ∃ (v0 : (c : Dev Cert.ProjGlaSampleIdeal.nD) → Buf (Elt Ideal) ((c.tc : Thread Cert.ProjGlaSampleIdeal.nD Cert.ProjGlaSampleIdeal.τ).loc Cert.ProjGlaSampleIdeal.main_v5)),
      θ_run (Cert.ProjGlaSampleIdeal.defs (F := Ideal)) (onTc (τ := Cert.ProjGlaSampleIdeal.τ) (Cert.ProjGlaSampleIdeal.main (F := Ideal))) ⟨m, fun _ => 0, g⟩ (fun r => ∀ c : Dev Cert.ProjGlaSampleIdeal.nD,
          r.2.mem ((c.tc : Thread Cert.ProjGlaSampleIdeal.nD Cert.ProjGlaSampleIdeal.τ).loc Cert.ProjGlaSampleIdeal.main_v5) = v0 c
          ∧ r.2.mem ((c.tc : Thread Cert.ProjGlaSampleIdeal.nD Cert.ProjGlaSampleIdeal.τ).loc Cert.ProjGlaSampleIdeal.main_arg0) = m ((c.tc : Thread Cert.ProjGlaSampleIdeal.nD Cert.ProjGlaSampleIdeal.τ).loc Cert.ProjGlaSampleIdeal.main_arg0)
          ∧ r.2.mem ((c.tc : Thread Cert.ProjGlaSampleIdeal.nD Cert.ProjGlaSampleIdeal.τ).loc Cert.ProjGlaSampleIdeal.main_arg1) = m ((c.tc : Thread Cert.ProjGlaSampleIdeal.nD Cert.ProjGlaSampleIdeal.τ).loc Cert.ProjGlaSampleIdeal.main_arg1))
      ∧ θ_run (Cert.ProjGlaSampleReferenceIdeal.defs (F := Ideal)) (onTc (τ := Cert.ProjGlaSampleReferenceIdeal.τ) (Cert.ProjGlaSampleReferenceIdeal.main (F := Ideal))) ⟨m', fun _ => 0, g'⟩ (fun r => ∀ c : Dev Cert.ProjGlaSampleReferenceIdeal.nD,
          r.2.mem ((c.tc : Thread Cert.ProjGlaSampleReferenceIdeal.nD Cert.ProjGlaSampleReferenceIdeal.τ).loc Cert.ProjGlaSampleReferenceIdeal.main_v2) = v0 c
          ∧ r.2.mem ((c.tc : Thread Cert.ProjGlaSampleReferenceIdeal.nD Cert.ProjGlaSampleReferenceIdeal.τ).loc Cert.ProjGlaSampleReferenceIdeal.main_arg0) = m' ((c.tc : Thread Cert.ProjGlaSampleReferenceIdeal.nD Cert.ProjGlaSampleReferenceIdeal.τ).loc Cert.ProjGlaSampleReferenceIdeal.main_arg0)
          ∧ r.2.mem ((c.tc : Thread Cert.ProjGlaSampleReferenceIdeal.nD Cert.ProjGlaSampleReferenceIdeal.τ).loc Cert.ProjGlaSampleReferenceIdeal.main_arg1) = m' ((c.tc : Thread Cert.ProjGlaSampleReferenceIdeal.nD Cert.ProjGlaSampleReferenceIdeal.τ).loc Cert.ProjGlaSampleReferenceIdeal.main_arg1))

def Claim : Prop :=
  ∃ (hFfn : Cert.Ffn.Facts) (hFfnIdeal : Cert.FfnIdeal.Facts) (hFfnReferenceIdeal : Cert.FfnReferenceIdeal.Facts) (hMm : Cert.Mm.Facts) (hMmIdeal : Cert.MmIdeal.Facts) (hMmReferenceIdeal : Cert.MmReferenceIdeal.Facts) (hOutProj : Cert.OutProj.Facts) (hOutProjIdeal : Cert.OutProjIdeal.Facts) (hOutProjReferenceIdeal : Cert.OutProjReferenceIdeal.Facts) (hMerge : Cert.Merge.Facts) (hMergeIdeal : Cert.MergeIdeal.Facts) (hMergeReferenceIdeal : Cert.MergeReferenceIdeal.Facts) (hPle : Cert.Ple.Facts) (hPleIdeal : Cert.PleIdeal.Facts) (hPleReferenceIdeal : Cert.PleReferenceIdeal.Facts) (hMmSample : Cert.MmSample.Facts) (hMmSampleIdeal : Cert.MmSampleIdeal.Facts) (hMmSampleReferenceIdeal : Cert.MmSampleReferenceIdeal.Facts) (hPleSample : Cert.PleSample.Facts) (hPleSampleIdeal : Cert.PleSampleIdeal.Facts) (hPleSampleReferenceIdeal : Cert.PleSampleReferenceIdeal.Facts) (hProjGla : Cert.ProjGla.Facts) (hProjGlaIdeal : Cert.ProjGlaIdeal.Facts) (hProjGlaReferenceIdeal : Cert.ProjGlaReferenceIdeal.Facts) (hGla : Cert.Gla.Facts) (hGlaIdeal : Cert.GlaIdeal.Facts) (hGlaReferenceIdeal : Cert.GlaReferenceIdeal.Facts) (hGlaSample : Cert.GlaSample.Facts) (hGlaSampleIdeal : Cert.GlaSampleIdeal.Facts) (hGlaSampleReferenceIdeal : Cert.GlaSampleReferenceIdeal.Facts) (hSelect : Cert.Select.Facts) (hSelectIdeal : Cert.SelectIdeal.Facts) (hSelectReferenceIdeal : Cert.SelectReferenceIdeal.Facts) (hFfnSample : Cert.FfnSample.Facts) (hFfnSampleIdeal : Cert.FfnSampleIdeal.Facts) (hFfnSampleReferenceIdeal : Cert.FfnSampleReferenceIdeal.Facts) (hOutProjSample : Cert.OutProjSample.Facts) (hOutProjSampleIdeal : Cert.OutProjSampleIdeal.Facts) (hOutProjSampleReferenceIdeal : Cert.OutProjSampleReferenceIdeal.Facts) (hMergeSample : Cert.MergeSample.Facts) (hMergeSampleIdeal : Cert.MergeSampleIdeal.Facts) (hMergeSampleReferenceIdeal : Cert.MergeSampleReferenceIdeal.Facts) (hProjGlaSample : Cert.ProjGlaSample.Facts) (hProjGlaSampleIdeal : Cert.ProjGlaSampleIdeal.Facts) (hProjGlaSampleReferenceIdeal : Cert.ProjGlaSampleReferenceIdeal.Facts) (hPre_finite_gate : Cert.Pre_finite_gate.Facts) (hPre_finite_gate_sample : Cert.Pre_finite_gate_sample.Facts) (hPre_finite_select : Cert.Pre_finite_select.Facts),
    quiescent_Ffn (hFfn := hFfn)
    ∧ quiescent_FfnIdeal (hFfnIdeal := hFfnIdeal)
    ∧ quiescent_FfnReferenceIdeal (hFfnReferenceIdeal := hFfnReferenceIdeal)
    ∧ quiescent_Mm (hMm := hMm)
    ∧ quiescent_MmIdeal (hMmIdeal := hMmIdeal)
    ∧ quiescent_MmReferenceIdeal (hMmReferenceIdeal := hMmReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ple (hPle := hPle)
    ∧ quiescent_PleIdeal (hPleIdeal := hPleIdeal)
    ∧ quiescent_PleReferenceIdeal (hPleReferenceIdeal := hPleReferenceIdeal)
    ∧ quiescent_MmSample (hMmSample := hMmSample)
    ∧ quiescent_MmSampleIdeal (hMmSampleIdeal := hMmSampleIdeal)
    ∧ quiescent_MmSampleReferenceIdeal (hMmSampleReferenceIdeal := hMmSampleReferenceIdeal)
    ∧ quiescent_PleSample (hPleSample := hPleSample)
    ∧ quiescent_PleSampleIdeal (hPleSampleIdeal := hPleSampleIdeal)
    ∧ quiescent_PleSampleReferenceIdeal (hPleSampleReferenceIdeal := hPleSampleReferenceIdeal)
    ∧ quiescent_ProjGla (hProjGla := hProjGla)
    ∧ quiescent_ProjGlaIdeal (hProjGlaIdeal := hProjGlaIdeal)
    ∧ quiescent_ProjGlaReferenceIdeal (hProjGlaReferenceIdeal := hProjGlaReferenceIdeal)
    ∧ quiescent_Gla (hGla := hGla)
    ∧ quiescent_GlaIdeal (hGlaIdeal := hGlaIdeal)
    ∧ quiescent_GlaIdeal_pre_finite_gate (hGlaIdeal := hGlaIdeal) (hPre_finite_gate := hPre_finite_gate)
    ∧ quiescent_GlaReferenceIdeal (hGlaReferenceIdeal := hGlaReferenceIdeal)
    ∧ quiescent_GlaReferenceIdeal_pre_finite_gate (hGlaReferenceIdeal := hGlaReferenceIdeal) (hPre_finite_gate := hPre_finite_gate)
    ∧ quiescent_GlaSample (hGlaSample := hGlaSample)
    ∧ quiescent_GlaSampleIdeal (hGlaSampleIdeal := hGlaSampleIdeal)
    ∧ quiescent_GlaSampleIdeal_pre_finite_gate_sample (hGlaSampleIdeal := hGlaSampleIdeal) (hPre_finite_gate_sample := hPre_finite_gate_sample)
    ∧ quiescent_GlaSampleReferenceIdeal (hGlaSampleReferenceIdeal := hGlaSampleReferenceIdeal)
    ∧ quiescent_GlaSampleReferenceIdeal_pre_finite_gate_sample (hGlaSampleReferenceIdeal := hGlaSampleReferenceIdeal) (hPre_finite_gate_sample := hPre_finite_gate_sample)
    ∧ quiescent_Select (hSelect := hSelect)
    ∧ quiescent_SelectIdeal (hSelectIdeal := hSelectIdeal)
    ∧ quiescent_SelectIdeal_pre_finite_select (hSelectIdeal := hSelectIdeal) (hPre_finite_select := hPre_finite_select)
    ∧ quiescent_SelectReferenceIdeal (hSelectReferenceIdeal := hSelectReferenceIdeal)
    ∧ quiescent_SelectReferenceIdeal_pre_finite_select (hSelectReferenceIdeal := hSelectReferenceIdeal) (hPre_finite_select := hPre_finite_select)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_OutProjSample (hOutProjSample := hOutProjSample)
    ∧ quiescent_OutProjSampleIdeal (hOutProjSampleIdeal := hOutProjSampleIdeal)
    ∧ quiescent_OutProjSampleReferenceIdeal (hOutProjSampleReferenceIdeal := hOutProjSampleReferenceIdeal)
    ∧ quiescent_MergeSample (hMergeSample := hMergeSample)
    ∧ quiescent_MergeSampleIdeal (hMergeSampleIdeal := hMergeSampleIdeal)
    ∧ quiescent_MergeSampleReferenceIdeal (hMergeSampleReferenceIdeal := hMergeSampleReferenceIdeal)
    ∧ quiescent_ProjGlaSample (hProjGlaSample := hProjGlaSample)
    ∧ quiescent_ProjGlaSampleIdeal (hProjGlaSampleIdeal := hProjGlaSampleIdeal)
    ∧ quiescent_ProjGlaSampleReferenceIdeal (hProjGlaSampleReferenceIdeal := hProjGlaSampleReferenceIdeal)
    ∧ preserves_Ffn_FfnIdeal
    ∧ algebraic_FfnIdeal_FfnReferenceIdeal (hFfnIdeal := hFfnIdeal) (hFfnReferenceIdeal := hFfnReferenceIdeal)
    ∧ preserves_Mm_MmIdeal
    ∧ algebraic_MmIdeal_MmReferenceIdeal (hMmIdeal := hMmIdeal) (hMmReferenceIdeal := hMmReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Merge_MergeIdeal
    ∧ algebraic_MergeIdeal_MergeReferenceIdeal (hMergeIdeal := hMergeIdeal) (hMergeReferenceIdeal := hMergeReferenceIdeal)
    ∧ preserves_Ple_PleIdeal
    ∧ algebraic_PleIdeal_PleReferenceIdeal (hPleIdeal := hPleIdeal) (hPleReferenceIdeal := hPleReferenceIdeal)
    ∧ preserves_MmSample_MmSampleIdeal
    ∧ algebraic_MmSampleIdeal_MmSampleReferenceIdeal (hMmSampleIdeal := hMmSampleIdeal) (hMmSampleReferenceIdeal := hMmSampleReferenceIdeal)
    ∧ preserves_PleSample_PleSampleIdeal
    ∧ algebraic_PleSampleIdeal_PleSampleReferenceIdeal (hPleSampleIdeal := hPleSampleIdeal) (hPleSampleReferenceIdeal := hPleSampleReferenceIdeal)
    ∧ preserves_ProjGla_ProjGlaIdeal
    ∧ algebraic_ProjGlaIdeal_ProjGlaReferenceIdeal (hProjGlaIdeal := hProjGlaIdeal) (hProjGlaReferenceIdeal := hProjGlaReferenceIdeal)
    ∧ preserves_Gla_GlaIdeal
    ∧ algebraic_GlaIdeal_GlaReferenceIdeal_pre_finite_gate (hGlaIdeal := hGlaIdeal) (hGlaReferenceIdeal := hGlaReferenceIdeal) (hPre_finite_gate := hPre_finite_gate)
    ∧ preserves_GlaSample_GlaSampleIdeal
    ∧ algebraic_GlaSampleIdeal_GlaSampleReferenceIdeal_pre_finite_gate_sample (hGlaSampleIdeal := hGlaSampleIdeal) (hGlaSampleReferenceIdeal := hGlaSampleReferenceIdeal) (hPre_finite_gate_sample := hPre_finite_gate_sample)
    ∧ preserves_Select_SelectIdeal
    ∧ algebraic_SelectIdeal_SelectReferenceIdeal_pre_finite_select (hSelectIdeal := hSelectIdeal) (hSelectReferenceIdeal := hSelectReferenceIdeal) (hPre_finite_select := hPre_finite_select)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_OutProjSample_OutProjSampleIdeal
    ∧ algebraic_OutProjSampleIdeal_OutProjSampleReferenceIdeal (hOutProjSampleIdeal := hOutProjSampleIdeal) (hOutProjSampleReferenceIdeal := hOutProjSampleReferenceIdeal)
    ∧ preserves_MergeSample_MergeSampleIdeal
    ∧ algebraic_MergeSampleIdeal_MergeSampleReferenceIdeal (hMergeSampleIdeal := hMergeSampleIdeal) (hMergeSampleReferenceIdeal := hMergeSampleReferenceIdeal)
    ∧ preserves_ProjGlaSample_ProjGlaSampleIdeal
    ∧ algebraic_ProjGlaSampleIdeal_ProjGlaSampleReferenceIdeal (hProjGlaSampleIdeal := hProjGlaSampleIdeal) (hProjGlaSampleReferenceIdeal := hProjGlaSampleReferenceIdeal)
-- ==== Pre_finite_gate.lean ====
abbrev S8192x6272 : Shape := ⟨2, ![8192, 6272]⟩
abbrev S16x1024 : Shape := ⟨2, ![16, 1024]⟩
abbrev S1024 : Shape := ⟨1, ![1024]⟩
abbrev S512 : Shape := ⟨1, ![512]⟩
abbrev S8192x16 : Shape := ⟨2, ![8192, 16]⟩
abbrev S_ : Shape := ⟨0, ![]⟩

class Facts : Prop where
  slices_S8192x6272_S8192x16_0_6144 : S8192x6272.Slices ![0, 6144] S8192x16
  bcast_S_S8192x16 : S_.BroadcastsInDim S8192x16 (![] : Fin 0 → Fin S8192x16.rank)
  reducesTo_S8192x16_S_d0_1 : S8192x16.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x6272 .f32) (main_arg1 : FVec F S16x1024 .f32) (main_arg2 : FVec F S1024 .f32) (main_arg3 : FVec F S512 .f32) : IVec S_ 1 :=
  let main_v0 : FVec F S8192x16 .f32 := (extractStridedSlice S8192x16 ![0, 6144] · slices_S8192x6272_S8192x16_0_6144) main_arg0
  let main_v1 : FVec F S8192x16 .f32 := Host.absf main_v0
  let main_cst : FVec F S_ .f32 := constant S_ .f32 0x7F800000#32
  let main_v2 : FVec F S8192x16 .f32 := broadcastInDim S8192x16 ![] bcast_S_S8192x16 main_cst
  let main_v3 : IVec S8192x16 1 := cmpf .olt main_v1 main_v2
  let main_c : IVec S_ 1 := constantI S_ 1 1#1
  let main_v4 : IVec S_ 1 := (fun x v => Host.reduce IntOp.andi x v reducesTo_S8192x16_S_d0_1 h_S_) main_v3 main_c
  let main_v5 : FVec F S16x1024 .f32 := Host.absf main_arg1
  let main_cst_0 : FVec F S_ .f32 := constant S_ .f32 0x7F800000#32
  let main_v6 : FVec F S16x1024 .f32 := broadcastInDim S16x1024 ![] bcast_S_S16x1024 main_cst_0
  let main_v7 : IVec S16x1024 1 := cmpf .olt main_v5 main_v6
  let main_c_1 : IVec S_ 1 := constantI S_ 1 1#1
  let main_v8 : IVec S_ 1 := (fun x v => Host.reduce IntOp.andi x v reducesTo_S16x1024_S_d0_1 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  main_v14
-- ==== Pre_finite_gate_sample.lean ====
abbrev S256x6272 : Shape := ⟨2, ![256, 6272]⟩
abbrev S16x1024 : Shape := ⟨2, ![16, 1024]⟩
abbrev S1024 : Shape := ⟨1, ![1024]⟩
abbrev S512 : Shape := ⟨1, ![512]⟩
abbrev S32x4x256x512 : Shape := ⟨4, ![32, 4, 256, 512]⟩
abbrev S256x16 : Shape := ⟨2, ![256, 16]⟩
abbrev S_ : Shape := ⟨0, ![]⟩

class Facts : Prop where
  slices_S256x6272_S256x16_0_6144 : S256x6272.Slices ![0, 6144] S256x16
  bcast_S_S256x16 : S_.BroadcastsInDim S256x16 (![] : Fin 0 → Fin S256x16.rank)
  reducesTo_S256x16_S_d0_1 : S256x16.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S256x6272 .f32) (main_arg1 : FVec F S16x1024 .f32) (main_arg2 : FVec F S1024 .f32) (main_arg3 : FVec F S512 .f32) (main_arg4 : FVec F S32x4x256x512 .f32) : IVec S_ 1 :=
  let main_v0 : FVec F S256x16 .f32 := (extractStridedSlice S256x16 ![0, 6144] · slices_S256x6272_S256x16_0_6144) main_arg0
  let main_v1 : FVec F S256x16 .f32 := Host.absf main_v0
  let main_cst : FVec F S_ .f32 := constant S_ .f32 0x7F800000#32
  let main_v2 : FVec F S256x16 .f32 := broadcastInDim S256x16 ![] bcast_S_S256x16 main_cst
  let main_v3 : IVec S256x16 1 := cmpf .olt main_v1 main_v2
  let main_c : IVec S_ 1 := constantI S_ 1 1#1
  let main_v4 : IVec S_ 1 := (fun x v => Host.reduce IntOp.andi x v reducesTo_S256x16_S_d0_1 h_S_) main_v3 main_c
  let main_v5 : FVec F S16x1024 .f32 := Host.absf main_arg1
  let main_cst_0 : FVec F S_ .f32 := constant S_ .f32 0x7F800000#32
  let main_v6 : FVec F S16x1024 .f32 := broadcastInDim S16x1024 ![] bcast_S_S16x1024 main_cst_0
  let main_v7 : IVec S16x1024 1 := cmpf .olt main_v5 main_v6
  let main_c_1 : IVec S_ 1 := constantI S_ 1 1#1
  let main_v8 : IVec S_ 1 := (fun x v => Host.reduce IntOp.andi x v reducesTo_S16x1024_S_d0_1 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  main_v14
-- ==== Pre_finite_select.lean ====
abbrev S256x2048 : Shape := ⟨2, ![256, 2048]⟩
abbrev S32x64x16x128 : Shape := ⟨4, ![32, 64, 16, 128]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S32x64x16x128 : S_.BroadcastsInDim S32x64x16x128 (![] : Fin 0 → Fin S32x64x16x128.rank)
  reducesTo_S32x64x16x128_S_d0_1_2_3 : S32x64x16x128.ReducesTo [0, 1, 2, 3] S_

variable [Facts]

def fn {F : FTy → Type} [FloatOps F] (main_arg0 : FVec F S256x2048 .f32) (main_arg1 : FVec F S256x2048 .f32) (main_arg2 : FVec F S32x64x16x128 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S32x64x16x128 .f32 := Host.absf main_arg2
  let main_cst_0 : FVec F S_ .f32 := constant S_ .f32 0x7F800000#32
  let main_v5 : FVec F S32x64x16x128 .f32 := broadcastInDim S32x64x16x128 ![] bcast_S_S32x64x16x128 main_cst_0
  let main_v6 : IVec S32x64x16x128 1 := cmpf .olt main_v4 main_v5
  let main_c_1 : IVec S_ 1 := constantI S_ 1 1#1
  let main_v7 : IVec S_ 1 := (fun x v => Host.reduce IntOp.andi x v reducesTo_S32x64x16x128_S_d0_1_2_3 h_S_) main_v6 main_c_1
  let main_v8 : IVec S_ 1 := andi main_v3 main_v7
  main_v8
-- ==== Ffn.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Mm.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmIdeal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmReferenceIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjIdeal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Merge.lean ====
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x512, .bf16⟩
  | .local _ .vmem, ⟨15, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeIdeal.lean ====
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x512, .bf16⟩
  | .local _ .vmem, ⟨15, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048x2048, .bf16⟩
  | .hbm, ⟨7, _⟩ => ⟨S256x2048, .bf16⟩
  | .hbm, ⟨8, _⟩ => ⟨S1x2048, .f32⟩
  | .hbm, ⟨9, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048x2048, .bf16⟩
  | .hbm, ⟨7, _⟩ => ⟨S256x2048, .bf16⟩
  | .hbm, ⟨8, _⟩ => ⟨S1x2048, .f32⟩
  | .hbm, ⟨9, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== MmSample.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S2048x2048, .bf16⟩
  | .hbm, ⟨3, _⟩ => ⟨S256x2048, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmSampleReferenceIdeal.lean ====
abbrev S256x2048 : Shape := ⟨2, ![256, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PleSample.lean ====
abbrev S256x2048 : Shape := ⟨2, ![256, 2048]⟩
abbrev S256x256 : Shape := ⟨2, ![256, 256]⟩
abbrev S2048x2048 : Shape := ⟨2, ![2048, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048x2048, .bf16⟩
  | .hbm, ⟨7, _⟩ => ⟨S256x2048, .bf16⟩
  | .hbm, ⟨8, _⟩ => ⟨S1x2048, .f32⟩
  | .hbm, ⟨9, _⟩ => ⟨S256x2048, .f32⟩
  | .local _ .vmem, ⟨0, _⟩ => ⟨S256x2048, .bf16⟩
  | .local _ .vmem, ⟨1, _⟩ => ⟨S256x2048, .f32⟩
  | .local _ .vmem, ⟨2, _⟩ => ⟨S256x256, .f32⟩
  | .local _ .vmem, ⟨3, _⟩ => ⟨S2048x2048, .bf16⟩
  | .local _ .vmem, ⟨4, _⟩ => ⟨S256x2048, .bf16⟩
  | .local _ .vmem, ⟨5, _⟩ => ⟨S1x2048, .f32⟩
  | .local _ .vmem, ⟨6, _⟩ => ⟨S256x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PleSampleReferenceIdeal.lean ====
abbrev S256x2048 : Shape := ⟨2, ![256, 2048]⟩
abbrev S256x256 : Shape := ⟨2, ![256, 256]⟩
abbrev S2048x2048 : Shape := ⟨2, ![2048, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x2048, .f32⟩
  | .hbm, ⟨31, _⟩ => ⟨S256x2048, .f32⟩
  | .hbm, ⟨32, _⟩ => ⟨S1x2048, .f32⟩
  | .hbm, ⟨33, _⟩ => ⟨S256x2048, .f32⟩
  | .hbm, ⟨34, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== ProjGla.lean ====
abbrev S8192x2048 : Shape := ⟨2, ![8192, 2048]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S2048x6144 : Shape := ⟨2, ![2048, 6144]⟩
abbrev S2048x6272 : Shape := ⟨2, ![2048, 6272]⟩
abbrev S8192x6272 : Shape := ⟨2, ![8192, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 10
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x6144, .f32⟩
  | .hbm, ⟨7, _⟩ => ⟨S2048x6272, .f32⟩
  | .hbm, ⟨8, _⟩ => ⟨S2048x6272, .bf16⟩
  | .hbm, ⟨9, _⟩ => ⟨S8192x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGlaIdeal.lean ====
abbrev S8192x2048 : Shape := ⟨2, ![8192, 2048]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S2048x6144 : Shape := ⟨2, ![2048, 6144]⟩
abbrev S2048x6272 : Shape := ⟨2, ![2048, 6272]⟩
abbrev S8192x6272 : Shape := ⟨2, ![8192, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 10
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x6144, .f32⟩
  | .hbm, ⟨7, _⟩ => ⟨S2048x6272, .f32⟩
  | .hbm, ⟨8, _⟩ => ⟨S2048x6272, .bf16⟩
  | .hbm, ⟨9, _⟩ => ⟨S8192x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGlaReferenceIdeal.lean ====
abbrev S8192x2048 : Shape := ⟨2, ![8192, 2048]⟩
abbrev S2048x6160 : Shape := ⟨2, ![2048, 6160]⟩
abbrev S8192x6160 : Shape := ⟨2, ![8192, 6160]⟩
abbrev S_ : Shape := ⟨0, ![]⟩
abbrev S8192x6272 : Shape := ⟨2, ![8192, 6272]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .f32⟩
  | .hbm, ⟨2, _⟩ => ⟨S8192x2048, .f32⟩
  | .hbm, ⟨3, _⟩ => ⟨S8192x6160, .f32⟩
  | .hbm, ⟨4, _⟩ => ⟨S_, .i32⟩
  | .hbm, ⟨5, _⟩ => ⟨S_, .f32⟩
  | .hbm, ⟨6, _⟩ => ⟨S8192x6272, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Gla.lean ====
abbrev S8192x6272 : Shape := ⟨2, ![8192, 6272]⟩
abbrev S16x1024 : Shape := ⟨2, ![16, 1024]⟩
abbrev S1024 : Shape := ⟨1, ![1024]⟩
abbrev S512 : Shape := ⟨1, ![512]⟩
abbrev S_ : Shape := ⟨0, ![]⟩
abbrev S1x4x256x512 : Shape := ⟨4, ![1, 4, 256, 512]⟩
abbrev S128x1024 : Shape := ⟨2, ![128, 1024]⟩
abbrev S1x1024 : Shape := ⟨2, ![1, 1024]⟩
abbrev S1x512 : Shape := ⟨2, ![1, 512]⟩
abbrev S8192x2048 : Shape := ⟨2, ![8192, 2048]⟩
abbrev S64x1024 : Shape := ⟨2, ![64, 1024]⟩
abbrev S64x2048 : Shape := ⟨2, ![64, 2048]⟩
abbrev S64x128 : Shape := ⟨2, ![64, 128]⟩
abbrev S4x512x256 : Shape := ⟨3, ![4, 512, 256]⟩
abbrev S1x1x256x512 : Shape := ⟨4, ![1, 1, 256, 512]⟩
abbrev S256x512 : Shape := ⟨2, ![256, 512]⟩
abbrev S512x256 : Shape := ⟨2, ![512, 256]⟩
abbrev S1x512x256 : Shape := ⟨3, ![1, 512, 256]⟩
abbrev S64x256 : Shape := ⟨2, ![64, 256]⟩
abbrev S64x512 : Shape := ⟨2, ![64, 512]⟩
abbrev S128x256 : Shape := ⟨2, ![128, 256]⟩
abbrev S1x256 : Shape := ⟨2, ![1, 256]⟩
abbrev S64x64 : Shape := ⟨2, ![64, 64]⟩
abbrev S16x256 : Shape := ⟨2, ![16, 256]⟩
abbrev S16x64 : Shape := ⟨2, ![16, 64]⟩
abbrev S64 : Shape := ⟨1, ![64]⟩
abbrev S64x1 : Shape := ⟨2, ![64, 1]⟩

abbrev nBuf : Space → Nat
  | .hbm => 13
  | .vmem => 18
  | .smem => 0
  | _ => 0

abbrev bufTy : (tb : Table) → Fin (tcTables nBuf tb) → BufTy
  | .hbm, ⟨0, _⟩ => ⟨S8192x6272, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S_, .f32⟩
  | .hbm, ⟨5, _⟩ => ⟨S1x4x256x512, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S1x1024, .f32⟩
  | .hbm, ⟨10, _⟩ => ⟨S1x512, .f32⟩
  | .hbm, ⟨11, _⟩ => ⟨S8192x2048, .bf16⟩
  | .hbm, ⟨12, _⟩ => ⟨S1x4x256x512, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S128x1024, .f32⟩
  | .local _ .vmem, ⟨11, _⟩ => ⟨S1x1024, .f32⟩
  | .local _ .vmem, ⟨12, _⟩ => ⟨S1x512, .f32⟩
  | .local _ .vmem, ⟨13, _⟩ => ⟨S1x4x256x512, .f32⟩
  | .local _ .vmem, ⟨14, _⟩ => ⟨S64x2048, .bf16⟩
  | .local _ .vmem, ⟨15, _⟩ => ⟨S64x2048, .bf16⟩
  | .local _ .vmem, ⟨16, _⟩ => ⟨S1x4x256x512, .f32⟩
  | .local _ .vmem, ⟨17, _⟩ => ⟨S4x512x256, .f32⟩
  | _, _ => ⟨S8192x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32 : BitVec 32 := 127#32
  let v2903 : BitVec 1 := Scalar.cmpi .eq arg1 c127_i32
  let v2904 : BitVec 32 := Scalar.extui v2903
  let c0_i32_967 : BitVec 32 := 0#32
  let v2905 : BitVec 1 := Scalar.cmpi .ne v2904 c0_i32_967
  v2905

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c48_i32 : BitVec 32 := 48#32
  let c0_i32 : BitVec 32 := 0#32
  ![v1.toNat, c48_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x4x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== GlaReferenceIdeal.lean ====
abbrev S8192x6272 : Shape := ⟨2, ![8192, 6272]⟩
abbrev S16x1024 : Shape := ⟨2, ![16, 1024]⟩
abbrev S1024 : Shape := ⟨1, ![1024]⟩
abbrev S512 : Shape := ⟨1, ![512]⟩
abbrev S8192x1024 : Shape := ⟨2, ![8192, 1024]⟩
abbrev S8192x4x256 : Shape := ⟨3, ![8192, 4, 256]⟩
abbrev S8192x2048 : Shape := ⟨2, ![8192, 2048]⟩
abbrev S8192x4x512 : Shape := ⟨3, ![8192, 4, 512]⟩
abbrev S8192x16 : Shape := ⟨2, ![8192, 16]⟩
abbrev S1x1024 : Shape := ⟨2, ![1, 1024]⟩
abbrev S_ : Shape := ⟨0, ![]⟩
abbrev S64x64 : Shape := ⟨2, ![64, 64]⟩
abbrev S64x64x1x1 : Shape := ⟨4, ![64, 64, 1, 1]⟩
abbrev S4x256x512 : Shape := ⟨3, ![4, 256, 512]⟩
abbrev S128x64x4x256 : Shape := ⟨4, ![128, 64, 4, 256]⟩
abbrev S128x64x4x512 : Shape := ⟨4, ![128, 64, 4, 512]⟩
abbrev S1x64x4x256 : Shape := ⟨4, ![1, 64, 4, 256]⟩
abbrev S64x4x256 : Shape := ⟨3, ![64, 4, 256]⟩
abbrev S1x64x4x512 : Shape := ⟨4, ![1, 64, 4, 512]⟩
abbrev S64x4x512 : Shape := ⟨3, ![64, 4, 512]⟩
abbrev S4x512x64 : Shape := ⟨3, ![4, 512, 64]⟩
abbrev S64x1x4x256 : Shape := ⟨4, ![64, 1, 4, 256]⟩
abbrev S64x64x4x256 : Shape := ⟨4, ![64, 64, 4, 256]⟩
abbrev S64x64x4 : Shape := ⟨3, ![64, 64, 4]⟩
abbrev S1x4x256 : Shape := ⟨3, ![1, 4, 256]⟩
abbrev S4x256 : Shape := ⟨2, ![4, 256]⟩
abbrev S4x256x1 : Shape := ⟨3, ![4, 256, 1]⟩
abbrev S8192x4 : Shape := ⟨2, ![8192, 4]⟩
abbrev S8192x4x1 : Shape := ⟨3, ![8192, 4, 1]⟩
abbrev S1x1x512 : Shape := ⟨3, ![1, 1, 512]⟩
abbrev S1x4x256x512 : Shape := ⟨4, ![1, 4, 256, 512]⟩

abbrev nBuf : Space → Nat
  | .hbm => 170
  | .vmem => 0
  | .smem => 0
  | _ => 0

abbrev hbmTy0_0 (i : Nat) : BufTy := match i % 128 with
  | 0 => ⟨S8192x6272, .f32⟩
  | 1 => ⟨S16x1024, .f32⟩
  | 2 => ⟨S1024, .f32⟩
  | 3 => ⟨S512, .f32⟩
  | 4 => ⟨S8192x1024, .f32⟩
  | 5 => ⟨S8192x4x256, .f32⟩
  | 6 => ⟨S8192x1024, .f32⟩
  | 7 => ⟨S8192x4x256, .f32⟩
  | 8 => ⟨S8192x2048, .f32⟩
  | 9 => ⟨S8192x4x512, .f32⟩
  | 10 => ⟨S8192x16, .f32⟩
  | 11 => ⟨S8192x1024, .f32⟩
  | 12 => ⟨S1x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S8192x1024, .f32⟩
  | 21 => ⟨S8192x1024, .i1⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x4x256, .f32⟩
  | 35 => ⟨S_, .i1⟩
  | 36 => ⟨S64x64, .i1⟩
  | 37 => ⟨S64x64, .i32⟩
  | 38 => ⟨S_, .i32⟩
  | 39 => ⟨S64x64, .i32⟩
  | 40 => ⟨S64x64, .i32⟩
  | 41 => ⟨S64x64, .i32⟩
  | 42 => ⟨S64x64, .i1⟩
  | 43 => ⟨S_, .i1⟩
  | 44 => ⟨S64x64, .i1⟩
  | 45 => ⟨S64x64, .i1⟩
  | 46 => ⟨S64x64x1x1, .i1⟩
  | 47 => ⟨S_, .f32⟩
  | 48 => ⟨S4x256x512, .f32⟩
  | 49 => ⟨S128x64x4x256, .f32⟩
  | 50 => ⟨S128x64x4x256, .f32⟩
  | 51 => ⟨S128x64x4x512, .f32⟩
  | 52 => ⟨S128x64x4x256, .f32⟩
  | 53 => ⟨S_, .f32⟩
  | 54 => ⟨S128x64x4x512, .f32⟩
  | 55 => ⟨S_, .i32⟩
  | 56 => ⟨S128x64x4x256, .f32⟩
  | 57 => ⟨S128x64x4x256, .f32⟩
  | 58 => ⟨S128x64x4x512, .f32⟩
  | 59 => ⟨S128x64x4x256, .f32⟩
  | 60 => ⟨S64x64x1x1, .i1⟩
  | 61 => ⟨S_, .i32⟩
  | 62 => ⟨S4x256x512, .f32⟩
  | 63 => ⟨S128x64x4x512, .f32⟩
  | 64 => ⟨S_, .i32⟩
  | 65 => ⟨S_, .i1⟩
  | 66 => ⟨S_, .i32⟩
  | 67 => ⟨S_, .i32⟩
  | 68 => ⟨S_, .i32⟩
  | 69 => ⟨S1x64x4x256, .f32⟩
  | 70 => ⟨S64x4x256, .f32⟩
  | 71 => ⟨S_, .i32⟩
  | 72 => ⟨S_, .i32⟩
  | 73 => ⟨S_, .i32⟩
  | 74 => ⟨S1x64x4x256, .f32⟩
  | 75 => ⟨S64x4x256, .f32⟩
  | 76 => ⟨S_, .i32⟩
  | 77 => ⟨S_, .i32⟩
  | 78 => ⟨S_, .i32⟩
  | 79 => ⟨S1x64x4x512, .f32⟩
  | 80 => ⟨S64x4x512, .f32⟩
  | 81 => ⟨S_, .i32⟩
  | 82 => ⟨S_, .i32⟩
  | 83 => ⟨S_, .i32⟩
  | 84 => ⟨S1x64x4x256, .f32⟩
  | 85 => ⟨S64x4x256, .f32⟩
  | 86 => ⟨S_, .f32⟩
  | 87 => ⟨S64x4x256, .f32⟩
  | 88 => ⟨S64x4x256, .f32⟩
  | 89 => ⟨S_, .f32⟩
  | 90 => ⟨S_, .f32⟩
  | 91 => ⟨S64x4x256, .f32⟩
  | 92 => ⟨S64x4x256, .f32⟩
  | 93 => ⟨S64x4x256, .f32⟩
  | 94 => ⟨S4x512x64, .f32⟩
  | 95 => ⟨S64x4x512, .f32⟩
  | 96 => ⟨S64x1x4x256, .f32⟩
  | 97 => ⟨S1x64x4x256, .f32⟩
  | 98 => ⟨S64x64x4x256, .f32⟩
  | 99 => ⟨S64x64x4x256, .f32⟩
  | 100 => ⟨S64x64x4x256, .f32⟩
  | 101 => ⟨S_, .f32⟩
  | 102 => ⟨S_, .f32⟩
  | 103 => ⟨S64x64x4x256, .i1⟩
  | 104 => ⟨S64x64x4x256, .f32⟩
  | 105 => ⟨S64x64x4x256, .f32⟩
  | 106 => ⟨S64x64x4x256, .f32⟩
  | 107 => ⟨S64x1x4x256, .f32⟩
  | 108 => ⟨S1x64x4x256, .f32⟩
  | 109 => ⟨S64x64x4x256, .f32⟩
  | 110 => ⟨S64x64x4x256, .f32⟩
  | 111 => ⟨S64x64x4x256, .f32⟩
  | 112 => ⟨S64x64x4x256, .f32⟩
  | 113 => ⟨S_, .f32⟩
  | 114 => ⟨S64x64x4, .f32⟩
  | 115 => ⟨S4x512x64, .f32⟩
  | 116 => ⟨S64x4x512, .f32⟩
  | 117 => ⟨S1x4x256, .f32⟩
  | 118 => ⟨S4x256, .f32⟩
  | 119 => ⟨S4x256, .f32⟩
  | 120 => ⟨S4x256x1, .f32⟩
  | 121 => ⟨S4x256x512, .f32⟩
  | 122 => ⟨S4x256x512, .f32⟩
  | 123 => ⟨S1x4x256, .f32⟩
  | 124 => ⟨S64x4x256, .f32⟩
  | 125 => ⟨S64x4x256, .f32⟩
  | 126 => ⟨S64x4x256, .f32⟩
  | 127 => ⟨S64x4x256, .f32⟩
  | _ => ⟨S8192x6272, .f32⟩

abbrev hbmTy0_1 (i : Nat) : BufTy := match i % 128 with
  | 0 => ⟨S4x256x512, .f32⟩
  | 1 => ⟨S4x256x512, .f32⟩
  | 2 => ⟨S64x4x512, .f32⟩
  | 3 => ⟨S1x64x4x512, .f32⟩
  | 4 => ⟨S_, .i32⟩
  | 5 => ⟨S_, .i32⟩
  | 6 => ⟨S_, .i32⟩
  | 7 => ⟨S128x64x4x512, .f32⟩
  | 8 => ⟨S_, .i32⟩
  | 9 => ⟨S_, .i32⟩
  | 10 => ⟨S8192x4x512, .f32⟩
  | 11 => ⟨S8192x4x512, .f32⟩
  | 12 => ⟨S_, .f32⟩
  | 13 => ⟨S8192x4, .f32⟩
  | 14 => ⟨S8192x4x1, .f32⟩
  | 15 => ⟨S_, .f32⟩
  | 16 => ⟨S8192x4x1, .f32⟩
  | 17 => ⟨S8192x4x1, .f32⟩
  | 18 => ⟨S_, .f32⟩
  | 19 => ⟨S8192x4x1, .f32⟩
  | 20 => ⟨S8192x4x1, .f32⟩
  | 21 => ⟨S8192x4x1, .f32⟩
  | 22 => ⟨S8192x4x512, .f32⟩
  | 23 => ⟨S8192x4x512, .f32⟩
  | 24 => ⟨S1x1x512, .f32⟩
  | 25 => ⟨S8192x4x512, .f32⟩
  | 26 => ⟨S8192x4x512, .f32⟩
  | 27 => ⟨S8192x2048, .f32⟩
  | 28 => ⟨S8192x4x512, .f32⟩
  | 29 => ⟨S8192x4x512, .f32⟩
  | 30 => ⟨S8192x4x512, .f32⟩
  | 31 => ⟨S_, .f32⟩
  | 32 => ⟨S8192x4x512, .f32⟩
  | 33 => ⟨S8192x4x512, .f32⟩
  | 34 => ⟨S_, .f32⟩
  | 35 => ⟨S8192x4x512, .f32⟩
  | 36 => ⟨S8192x4x512, .f32⟩
  | 37 => ⟨S8192x4x512, .f32⟩
  | 38 => ⟨S8192x4x512, .f32⟩
  | 39 => ⟨S8192x2048, .f32⟩
  | 40 => ⟨S8192x2048, .bf16⟩
  | 41 => ⟨S1x4x256x512, .f32⟩
  | _ => ⟨S8192x6272, .f32⟩

abbrev hbmTy (i : Nat) : BufTy := match i / 128 with
  | 0 => hbmTy0_0 i
  | 1 => hbmTy0_1 i
  | _ => ⟨S8192x6272, .f32⟩

abbrev bufTy : (tb : Table) → Fin (tcTables nBuf tb) → BufTy
  | .hbm, ⟨i, _⟩ => hbmTy i
  | _, _ => ⟨S8192x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_0 : Ref sig .tc := ⟨.hbm, 43, rfl⟩
abbrev main_call1_v5 : Ref sig .tc := ⟨.hbm, 44, rfl⟩
abbrev main_v16 : Ref sig .tc := ⟨.hbm, 45, rfl⟩
abbrev main_v17 : Ref sig .tc := ⟨.hbm, 46, rfl⟩
abbrev main_cst_0 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_1 : Ref sig .tc := ⟨.hbm, 53, rfl⟩
abbrev main_v23 : Ref sig .tc := ⟨.hbm, 54, rfl⟩
abbrev main_c_2 : Ref sig .tc := ⟨.hbm, 55, rfl⟩
abbrev main_v24_0 : Ref sig .tc := ⟨.hbm, 56, rfl⟩
abbrev main_v24_1 : Ref sig .tc := ⟨.hbm, 57, rfl⟩
abbrev main_v24_2 : Ref sig .tc := ⟨.hbm, 58, rfl⟩
abbrev main_v24_3 : Ref sig .tc := ⟨.hbm, 59, rfl⟩
abbrev main_v24_4 : Ref sig .tc := ⟨.hbm, 60, rfl⟩
abbrev main_v24_5 : Ref sig .tc := ⟨.hbm, 61, rfl⟩
abbrev main_v24_6 : Ref sig .tc := ⟨.hbm, 62, rfl⟩
abbrev main_v24_7 : Ref sig .tc := ⟨.hbm, 63, rfl⟩
abbrev main_while0c_c_13 : Ref sig .tc := ⟨.hbm, 64, rfl⟩
abbrev main_while0c_v46 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_v0 : Ref sig .tc := ⟨.hbm, 69, rfl⟩
abbrev main_while0b_v46 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_v0 : Ref sig .tc := ⟨.hbm, 74, rfl⟩
abbrev main_while0b_v47 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_v0 : Ref sig .tc := ⟨.hbm, 79, rfl⟩
abbrev main_while0b_v48 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_v0 : Ref sig .tc := ⟨.hbm, 84, rfl⟩
abbrev main_while0b_v49 : Ref sig .tc := ⟨.hbm, 85, rfl⟩
abbrev main_while0b_cst_13 : Ref sig .tc := ⟨.hbm, 86, rfl⟩
abbrev main_while0b_v50 : Ref sig .tc := ⟨.hbm, 87, rfl⟩
abbrev main_while0b_v51 : Ref sig .tc := ⟨.hbm, 88, rfl⟩
abbrev main_while0b_call6_call0_cst : Ref sig .tc := ⟨.hbm, 89, rfl⟩
abbrev main_while0b_call6_call0_v0 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_v57 : Ref sig .tc := ⟨.hbm, 96, rfl⟩
abbrev main_while0b_v58 : Ref sig .tc := ⟨.hbm, 97, rfl⟩
abbrev main_while0b_v59 : Ref sig .tc := ⟨.hbm, 98, rfl⟩
abbrev main_while0b_v60 : Ref sig .tc := ⟨.hbm, 99, rfl⟩
abbrev main_while0b_v61 : Ref sig .tc := ⟨.hbm, 100, rfl⟩
abbrev main_while0b_cst_14 : Ref sig .tc := ⟨.hbm, 101, rfl⟩
abbrev main_while0b_call7_v0 : Ref sig .tc := ⟨.hbm, 102, rfl⟩
abbrev main_while0b_call7_v1 : Ref sig .tc := ⟨.hbm, 103, rfl⟩
abbrev main_while0b_call7_v2 : Ref sig .tc := ⟨.hbm, 104, rfl⟩
abbrev main_while0b_v62 : Ref sig .tc := ⟨.hbm, 105, rfl⟩
abbrev main_while0b_v63 : Ref sig .tc := ⟨.hbm, 106, rfl⟩
abbrev main_while0b_v64 : Ref sig .tc := ⟨.hbm, 107, rfl⟩
abbrev main_while0b_v65 : Ref sig .tc := ⟨.hbm, 108, rfl⟩
abbrev main_while0b_v66 : Ref sig .tc := ⟨.hbm, 109, rfl⟩
abbrev main_while0b_v67 : Ref sig .tc := ⟨.hbm, 110, rfl⟩
abbrev main_while0b_v68 : Ref sig .tc := ⟨.hbm, 111, rfl⟩
abbrev main_while0b_v69 : Ref sig .tc := ⟨.hbm, 112, rfl⟩
abbrev main_while0b_cst_15 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_call8_v0 : Ref sig .tc := ⟨.hbm, 131, rfl⟩
abbrev main_while0b_call8_c : Ref sig .tc := ⟨.hbm, 132, rfl⟩
abbrev main_while0b_call8_c_0 : Ref sig .tc := ⟨.hbm, 133, rfl⟩
abbrev main_while0b_call8_c_1 : Ref sig .tc := ⟨.hbm, 134, rfl⟩
abbrev main_while0b_v87 : Ref sig .tc := ⟨.hbm, 135, rfl⟩
abbrev main_while0b_c_16 : Ref sig .tc := ⟨.hbm, 136, rfl⟩
abbrev main_while0b_v88 : Ref sig .tc := ⟨.hbm, 137, rfl⟩
abbrev main_v25 : Ref sig .tc := ⟨.hbm, 138, rfl⟩
abbrev main_v26 : Ref sig .tc := ⟨.hbm, 139, rfl⟩
abbrev main_cst_3 : Ref sig .tc := ⟨.hbm, 140, rfl⟩
abbrev main_v27 : Ref sig .tc := ⟨.hbm, 141, rfl⟩
abbrev main_v28 : Ref sig .tc := ⟨.hbm, 142, rfl⟩
abbrev main_cst_4 : Ref sig .tc := ⟨.hbm, 143, rfl⟩
abbrev main_v29 : Ref sig .tc := ⟨.hbm, 144, rfl⟩
abbrev main_v30 : Ref sig .tc := ⟨.hbm, 145, rfl⟩
abbrev main_cst_5 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_call9_v0 : Ref sig .tc := ⟨.hbm, 157, rfl⟩
abbrev main_call9_v1 : Ref sig .tc := ⟨.hbm, 158, rfl⟩
abbrev main_call9_cst : Ref sig .tc := ⟨.hbm, 159, rfl⟩
abbrev main_call9_v2 : Ref sig .tc := ⟨.hbm, 160, rfl⟩
abbrev main_call9_v3 : Ref sig .tc := ⟨.hbm, 161, rfl⟩
abbrev main_call9_cst_0 : Ref sig .tc := ⟨.hbm, 162, rfl⟩
abbrev main_call9_v4 : Ref sig .tc := ⟨.hbm, 163, rfl⟩
abbrev main_call9_v5 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩

abbrev nD : Nat := 1
abbrev τ : Topo := Topo.v7x

variable {F : FTy → Type} [FloatOps F]

abbrev main_while0_count : Scf.Loop 32 := ⟨0#32, 128#32, 1#32⟩
-- ==== GlaSample.lean ====
abbrev S256x6272 : Shape := ⟨2, ![256, 6272]⟩
abbrev S16x1024 : Shape := ⟨2, ![16, 1024]⟩
abbrev S1024 : Shape := ⟨1, ![1024]⟩
abbrev S512 : Shape := ⟨1, ![512]⟩
abbrev S32x4x256x512 : Shape := ⟨4, ![32, 4, 256, 512]⟩
abbrev S_ : Shape := ⟨0, ![]⟩
abbrev S128x1024 : Shape := ⟨2, ![128, 1024]⟩
abbrev S1x1024 : Shape := ⟨2, ![1, 1024]⟩
abbrev S1x512 : Shape := ⟨2, ![1, 512]⟩
abbrev S256x2048 : Shape := ⟨2, ![256, 2048]⟩
abbrev S8x1024 : Shape := ⟨2, ![8, 1024]⟩
abbrev S8x2048 : Shape := ⟨2, ![8, 2048]⟩
abbrev S8x128 : Shape := ⟨2, ![8, 128]⟩
abbrev S1x4x256x512 : Shape := ⟨4, ![1, 4, 256, 512]⟩
abbrev S4x512x256 : Shape := ⟨3, ![4, 512, 256]⟩
abbrev S1x1x256x512 : Shape := ⟨4, ![1, 1, 256, 512]⟩
abbrev S256x512 : Shape := ⟨2, ![256, 512]⟩
abbrev S512x256 : Shape := ⟨2, ![512, 256]⟩
abbrev S1x512x256 : Shape := ⟨3, ![1, 512, 256]⟩
abbrev S8x256 : Shape := ⟨2, ![8, 256]⟩
abbrev S8x512 : Shape := ⟨2, ![8, 512]⟩
abbrev S128x256 : Shape := ⟨2, ![128, 256]⟩
abbrev S1x256 : Shape := ⟨2, ![1, 256]⟩
abbrev S16x256 : Shape := ⟨2, ![16, 256]⟩
abbrev S16x512 : Shape := ⟨2, ![16, 512]⟩
abbrev S16x128 : Shape := ⟨2, ![16, 128]⟩
abbrev S16x16 : Shape := ⟨2, ![16, 16]⟩
abbrev S16 : Shape := ⟨1, ![16]⟩
abbrev S16x1 : Shape := ⟨2, ![16, 1]⟩
abbrev S8 : Shape := ⟨1, ![8]⟩
abbrev S8x1 : Shape := ⟨2, ![8, 1]⟩

abbrev nBuf : Space → Nat
  | .hbm => 12
  | .vmem => 20
  | .smem => 0
  | _ => 0

abbrev bufTy : (tb : Table) → Fin (tcTables nBuf tb) → BufTy
  | .hbm, ⟨0, _⟩ => ⟨S256x6272, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S32x4x256x512, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S1x1024, .f32⟩
  | .hbm, ⟨9, _⟩ => ⟨S1x512, .f32⟩
  | .hbm, ⟨10, _⟩ => ⟨S256x2048, .f32⟩
  | .hbm, ⟨11, _⟩ => ⟨S32x4x256x512, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x128, .f32⟩
  | .local _ .vmem, ⟨9, _⟩ => ⟨S8x128, .f32⟩
  | .local _ .vmem, ⟨10, _⟩ => ⟨S128x1024, .f32⟩
  | .local _ .vmem, ⟨11, _⟩ => ⟨S1x1024, .f32⟩
  | .local _ .vmem, ⟨12, _⟩ => ⟨S1x512, .f32⟩
  | .local _ .vmem, ⟨13, _⟩ => ⟨S1x4x256x512, .f32⟩
  | .local _ .vmem, ⟨14, _⟩ => ⟨S1x4x256x512, .f32⟩
  | .local _ .vmem, ⟨15, _⟩ => ⟨S8x2048, .f32⟩
  | .local _ .vmem, ⟨16, _⟩ => ⟨S8x2048, .f32⟩
  | .local _ .vmem, ⟨17, _⟩ => ⟨S1x4x256x512, .f32⟩
  | .local _ .vmem, ⟨18, _⟩ => ⟨S1x4x256x512, .f32⟩
  | .local _ .vmem, ⟨19, _⟩ => ⟨S4x512x256, .f32⟩
  | _, _ => ⟨S256x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_963 : BitVec 32 := 0#32
  let v2771 : BitVec 1 := Scalar.cmpi .eq arg1 c0_i32_963
  let v2772 : BitVec 32 := Scalar.extui v2771
  let c0_i32_964 : BitVec 32 := 0#32
  let v2773 : BitVec 1 := Scalar.cmpi .ne v2772 c0_i32_964
  v2773

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c48_i32 : BitVec 32 := 48#32
  let c0_i32 : BitVec 32 := 0#32
  ![v1.toNat, c48_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlaSampleReferenceIdeal.lean ====
abbrev S256x6272 : Shape := ⟨2, ![256, 6272]⟩
abbrev S16x1024 : Shape := ⟨2, ![16, 1024]⟩
abbrev S1024 : Shape := ⟨1, ![1024]⟩
abbrev S512 : Shape := ⟨1, ![512]⟩
abbrev S32x4x256x512 : Shape := ⟨4, ![32, 4, 256, 512]⟩
abbrev S256x1024 : Shape := ⟨2, ![256, 1024]⟩
abbrev S32x8x4x256 : Shape := ⟨4, ![32, 8, 4, 256]⟩
abbrev S256x2048 : Shape := ⟨2, ![256, 2048]⟩
abbrev S32x8x4x512 : Shape := ⟨4, ![32, 8, 4, 512]⟩
abbrev S256x16 : Shape := ⟨2, ![256, 16]⟩
abbrev S1x1024 : Shape := ⟨2, ![1, 1024]⟩
abbrev S_ : Shape := ⟨0, ![]⟩
abbrev S8x8 : Shape := ⟨2, ![8, 8]⟩
abbrev S1x8x8x1x1 : Shape := ⟨5, ![1, 8, 8, 1, 1]⟩
abbrev S32x4x512x8 : Shape := ⟨4, ![32, 4, 512, 8]⟩
abbrev S32x8x1x4x256 : Shape := ⟨5, ![32, 8, 1, 4, 256]⟩
abbrev S32x1x8x4x256 : Shape := ⟨5, ![32, 1, 8, 4, 256]⟩
abbrev S32x8x8x4x256 : Shape := ⟨5, ![32, 8, 8, 4, 256]⟩
abbrev S32x8x8x4 : Shape := ⟨4, ![32, 8, 8, 4]⟩
abbrev S32x1x4x256 : Shape := ⟨4, ![32, 1, 4, 256]⟩
abbrev S32x4x256 : Shape := ⟨3, ![32, 4, 256]⟩
abbrev S32x4x256x1 : Shape := ⟨4, ![32, 4, 256, 1]⟩
abbrev S32x8x4 : Shape := ⟨3, ![32, 8, 4]⟩
abbrev S32x8x4x1 : Shape := ⟨4, ![32, 8, 4, 1]⟩
abbrev S1x1x1x512 : Shape := ⟨4, ![1, 1, 1, 512]⟩

abbrev nBuf : Space → Nat
  | .hbm => 122
  | .vmem => 0
  | .smem => 0
  | _ => 0

abbrev bufTy : (tb : Table) → Fin (tcTables nBuf tb) → BufTy
  | .hbm, ⟨0, _⟩ => ⟨S256x6272, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S32x4x256x512, .f32⟩
  | .hbm, ⟨5, _⟩ => ⟨S256x1024, .f32⟩
  | .hbm, ⟨6, _⟩ => ⟨S32x8x4x256, .f32⟩
  | .hbm, ⟨7, _⟩ => ⟨S256x1024, .f32⟩
  | .hbm, ⟨8, _⟩ => ⟨S32x8x4x256, .f32⟩
  | .hbm, ⟨9, _⟩ => ⟨S256x2048, .f32⟩
  | .hbm, ⟨10, _⟩ => ⟨S32x8x4x512, .f32⟩
  | .hbm, ⟨11, _⟩ => ⟨S256x16, .f32⟩
  | .hbm, ⟨12, _⟩ => ⟨S256x1024, .f32⟩
  | .hbm, ⟨13, _⟩ => ⟨S1x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .i1⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S32x8x4x256, .f32⟩
  | .hbm, ⟨36, _⟩ => ⟨S_, .i1⟩
  | .hbm, ⟨37, _⟩ => ⟨S8x8, .i1⟩
  | .hbm, ⟨38, _⟩ => ⟨S8x8, .i32⟩
  | .hbm, ⟨39, _⟩ => ⟨S_, .i32⟩
  | .hbm, ⟨40, _⟩ => ⟨S8x8, .i32⟩
  | .hbm, ⟨41, _⟩ => ⟨S8x8, .i32⟩
  | .hbm, ⟨42, _⟩ => ⟨S8x8, .i32⟩
  | .hbm, ⟨43, _⟩ => ⟨S8x8, .i1⟩
  | .hbm, ⟨44, _⟩ => ⟨S_, .i1⟩
  | .hbm, ⟨45, _⟩ => ⟨S8x8, .i1⟩
  | .hbm, ⟨46, _⟩ => ⟨S8x8, .i1⟩
  | .hbm, ⟨47, _⟩ => ⟨S1x8x8x1x1, .i1⟩
  | .hbm, ⟨48, _⟩ => ⟨S_, .f32⟩
  | .hbm, ⟨49, _⟩ => ⟨S32x8x4x256, .f32⟩
  | .hbm, ⟨50, _⟩ => ⟨S32x8x4x256, .f32⟩
  | .hbm, ⟨51, _⟩ => ⟨S_, .f32⟩
  | .hbm, ⟨52, _⟩ => ⟨S_, .f32⟩
  | .hbm, ⟨53, _⟩ => ⟨S32x8x4x256, .f32⟩
  | .hbm, ⟨54, _⟩ => ⟨S32x8x4x256, .f32⟩
  | .hbm, ⟨55, _⟩ => ⟨S32x8x4x256, .f32⟩
  | .hbm, ⟨56, _⟩ => ⟨S32x4x512x8, .f32⟩
  | .hbm, ⟨57, _⟩ => ⟨S32x8x4x512, .f32⟩
  | .hbm, ⟨58, _⟩ => ⟨S32x8x1x4x256, .f32⟩
  | .hbm, ⟨59, _⟩ => ⟨S32x1x8x4x256, .f32⟩
  | .hbm, ⟨60, _⟩ => ⟨S32x8x8x4x256, .f32⟩
  | .hbm, ⟨61, _⟩ => ⟨S32x8x8x4x256, .f32⟩
  | .hbm, ⟨62, _⟩ => ⟨S32x8x8x4x256, .f32⟩
  | .hbm, ⟨63, _⟩ => ⟨S_, .f32⟩
  | .hbm, ⟨64, _⟩ => ⟨S_, .f32⟩
  | .hbm, ⟨65, _⟩ => ⟨S32x8x8x4x256, .i1⟩
  | .hbm, ⟨66, _⟩ => ⟨S32x8x8x4x256, .f32⟩
  | .hbm, ⟨67, _⟩ => ⟨S32x8x8x4x256, .f32⟩
  | .hbm, ⟨68, _⟩ => ⟨S32x8x8x4x256, .f32⟩
  | .hbm, ⟨69, _⟩ => ⟨S32x8x1x4x256, .f32⟩
  | .hbm, ⟨70, _⟩ => ⟨S32x1x8x4x256, .f32⟩
  | .hbm, ⟨71, _⟩ => ⟨S32x8x8x4x256, .f32⟩
  | .hbm, ⟨72, _⟩ => ⟨S32x8x8x4x256, .f32⟩
  | .hbm, ⟨73, _⟩ => ⟨S32x8x8x4x256, .f32⟩
  | .hbm, ⟨74, _⟩ => ⟨S32x8x8x4x256, .f32⟩
  | .hbm, ⟨75, _⟩ => ⟨S_, .f32⟩
  | .hbm, ⟨76, _⟩ => ⟨S32x8x8x4, .f32⟩
  | .hbm, ⟨77, _⟩ => ⟨S32x4x512x8, .f32⟩
  | .hbm, ⟨78, _⟩ => ⟨S32x8x4x512, .f32⟩
  | .hbm, ⟨79, _⟩ => ⟨S32x1x4x256, .f32⟩
  | .hbm, ⟨80, _⟩ => ⟨S32x4x256, .f32⟩
  | .hbm, ⟨81, _⟩ => ⟨S32x4x256, .f32⟩
  | .hbm, ⟨82, _⟩ => ⟨S32x4x256x1, .f32⟩
  | .hbm, ⟨83, _⟩ => ⟨S32x4x256x512, .f32⟩
  | .hbm, ⟨84, _⟩ => ⟨S32x4x256x512, .f32⟩
  | .hbm, ⟨85, _⟩ => ⟨S32x1x4x256, .f32⟩
  | .hbm, ⟨86, _⟩ => ⟨S32x8x4x256, .f32⟩
  | .hbm, ⟨87, _⟩ => ⟨S32x8x4x256, .f32⟩
  | .hbm, ⟨88, _⟩ => ⟨S32x8x4x256, .f32⟩
  | .hbm, ⟨89, _⟩ => ⟨S32x8x4x256, .f32⟩
  | .hbm, ⟨90, _⟩ => ⟨S32x4x256x512, .f32⟩
  | .hbm, ⟨91, _⟩ => ⟨S32x4x256x512, .f32⟩
  | .hbm, ⟨92, _⟩ => ⟨S32x8x4x512, .f32⟩
  | .hbm, ⟨93, _⟩ => ⟨S32x8x4x512, .f32⟩
  | .hbm, ⟨94, _⟩ => ⟨S_, .f32⟩
  | .hbm, ⟨95, _⟩ => ⟨S32x8x4, .f32⟩
  | .hbm, ⟨96, _⟩ => ⟨S32x8x4x1, .f32⟩
  | .hbm, ⟨97, _⟩ => ⟨S_, .f32⟩
  | .hbm, ⟨98, _⟩ => ⟨S32x8x4x1, .f32⟩
  | .hbm, ⟨99, _⟩ => ⟨S32x8x4x1, .f32⟩
  | .hbm, ⟨100, _⟩ => ⟨S_, .f32⟩
  | .hbm, ⟨101, _⟩ => ⟨S32x8x4x1, .f32⟩
  | .hbm, ⟨102, _⟩ => ⟨S32x8x4x1, .f32⟩
  | .hbm, ⟨103, _⟩ => ⟨S32x8x4x1, .f32⟩
  | .hbm, ⟨104, _⟩ => ⟨S32x8x4x512, .f32⟩
  | .hbm, ⟨105, _⟩ => ⟨S32x8x4x512, .f32⟩
  | .hbm, ⟨106, _⟩ => ⟨S1x1x1x512, .f32⟩
  | .hbm, ⟨107, _⟩ => ⟨S32x8x4x512, .f32⟩
  | .hbm, ⟨108, _⟩ => ⟨S32x8x4x512, .f32⟩
  | .hbm, ⟨109, _⟩ => ⟨S256x2048, .f32⟩
  | .hbm, ⟨110, _⟩ => ⟨S32x8x4x512, .f32⟩
  | .hbm, ⟨111, _⟩ => ⟨S32x8x4x512, .f32⟩
  | .hbm, ⟨112, _⟩ => ⟨S32x8x4x512, .f32⟩
  | .hbm, ⟨113, _⟩ => ⟨S_, .f32⟩
  | .hbm, ⟨114, _⟩ => ⟨S32x8x4x512, .f32⟩
  | .hbm, ⟨115, _⟩ => ⟨S32x8x4x512, .f32⟩
  | .hbm, ⟨116, _⟩ => ⟨S_, .f32⟩
  | .hbm, ⟨117, _⟩ => ⟨S32x8x4x512, .f32⟩
  | .hbm, ⟨118, _⟩ => ⟨S32x8x4x512, .f32⟩
  | .hbm, ⟨119, _⟩ => ⟨S32x8x4x512, .f32⟩
  | .hbm, ⟨120, _⟩ => ⟨S32x8x4x512, .f32⟩
  | .hbm, ⟨121, _⟩ => ⟨S256x2048, .f32⟩
  | _, _ => ⟨S256x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_0 : Ref sig .tc := ⟨.hbm, 44, rfl⟩
abbrev main_call1_v5 : Ref sig .tc := ⟨.hbm, 45, rfl⟩
abbrev main_v16 : Ref sig .tc := ⟨.hbm, 46, rfl⟩
abbrev main_v17 : Ref sig .tc := ⟨.hbm, 47, rfl⟩
abbrev main_cst_0 : Ref sig .tc := ⟨.hbm, 48, rfl⟩
abbrev main_v18 : Ref sig .tc := ⟨.hbm, 49, rfl⟩
abbrev main_v19 : Ref sig .tc := ⟨.hbm, 50, rfl⟩
abbrev main_call2_call0_cst : Ref sig .tc := ⟨.hbm, 51, rfl⟩
abbrev main_call2_call0_v0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_1 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_2 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_3 : Ref sig .tc := ⟨.hbm, 94, rfl⟩
abbrev main_v56 : Ref sig .tc := ⟨.hbm, 95, rfl⟩
abbrev main_v57 : Ref sig .tc := ⟨.hbm, 96, rfl⟩
abbrev main_cst_4 : Ref sig .tc := ⟨.hbm, 97, rfl⟩
abbrev main_v58 : Ref sig .tc := ⟨.hbm, 98, rfl⟩
abbrev main_v59 : Ref sig .tc := ⟨.hbm, 99, rfl⟩
abbrev main_cst_5 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_call4_v0 : Ref sig .tc := ⟨.hbm, 111, rfl⟩
abbrev main_call4_v1 : Ref sig .tc := ⟨.hbm, 112, rfl⟩
abbrev main_call4_cst : Ref sig .tc := ⟨.hbm, 113, rfl⟩
abbrev main_call4_v2 : Ref sig .tc := ⟨.hbm, 114, rfl⟩
abbrev main_call4_v3 : Ref sig .tc := ⟨.hbm, 115, rfl⟩
abbrev main_call4_cst_0 : Ref sig .tc := ⟨.hbm, 116, rfl⟩
abbrev main_call4_v4 : Ref sig .tc := ⟨.hbm, 117, rfl⟩
abbrev main_call4_v5 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩

abbrev nD : Nat := 1
abbrev τ : Topo := Topo.v7x

variable {F : FTy → Type} [FloatOps F]
-- ==== Select.lean ====
abbrev S256x2048 : Shape := ⟨2, ![256, 2048]⟩
abbrev S32x64x16x128 : Shape := ⟨4, ![32, 64, 16, 128]⟩
abbrev S32x8x128 : Shape := ⟨3, ![32, 8, 128]⟩
abbrev S8x2048 : Shape := ⟨2, ![8, 2048]⟩
abbrev S1x64x16x128 : Shape := ⟨4, ![1, 64, 16, 128]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S1x64x1x128 : Shape := ⟨4, ![1, 64, 1, 128]⟩
abbrev S64x128 : Shape := ⟨2, ![64, 128]⟩
abbrev S56x128 : Shape := ⟨2, ![56, 128]⟩
abbrev S128x128 : Shape := ⟨2, ![128, 128]⟩
abbrev S8 : Shape := ⟨1, ![8]⟩
abbrev S8x1 : Shape := ⟨2, ![8, 1]⟩

abbrev nBuf : Space → Nat
  | .hbm => 4
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S32x64x16x128, .f32⟩
  | .hbm, ⟨3, _⟩ => ⟨S32x8x128, .i32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S1x64x16x128, .f32⟩
  | .local _ .vmem, ⟨5, _⟩ => ⟨S1x64x16x128, .f32⟩
  | .local _ .vmem, ⟨6, _⟩ => ⟨S1x8x128, .i32⟩
  | .local _ .vmem, ⟨7, _⟩ => ⟨S1x8x128, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SelectReferenceIdeal.lean ====
abbrev S256x2048 : Shape := ⟨2, ![256, 2048]⟩
abbrev S32x64x16x128 : Shape := ⟨4, ![32, 64, 16, 128]⟩
abbrev S8 : Shape := ⟨1, ![8]⟩
abbrev S_ : Shape := ⟨0, ![]⟩
abbrev S32x8x16x128 : Shape := ⟨4, ![32, 8, 16, 128]⟩
abbrev S32x16x128 : Shape := ⟨3, ![32, 16, 128]⟩
abbrev S32x1x16x128 : Shape := ⟨4, ![32, 1, 16, 128]⟩
abbrev S32x65x16x128 : Shape := ⟨4, ![32, 65, 16, 128]⟩
abbrev S32x16x65x8 : Shape := ⟨4, ![32, 16, 65, 8]⟩
abbrev S32x8x16x65 : Shape := ⟨4, ![32, 8, 16, 65]⟩
abbrev S65 : Shape := ⟨1, ![65]⟩
abbrev S1x1x1x65 : Shape := ⟨4, ![1, 1, 1, 65]⟩
abbrev S1x8x1x1 : Shape := ⟨4, ![1, 8, 1, 1]⟩
abbrev S1x8x1x65 : Shape := ⟨4, ![1, 8, 1, 65]⟩
abbrev S32x8x16x3 : Shape := ⟨4, ![32, 8, 16, 3]⟩
abbrev S32x8x48 : Shape := ⟨3, ![32, 8, 48]⟩
abbrev S32x8x128 : Shape := ⟨3, ![32, 8, 128]⟩

abbrev nBuf : Space → Nat
  | .hbm => 53
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S32x64x16x128, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32x8x16x128, .f32⟩
  | .hbm, ⟨8, _⟩ => ⟨S_, .f32⟩
  | .hbm, ⟨9, _⟩ => ⟨S32x16x128, .f32⟩
  | .hbm, ⟨10, _⟩ => ⟨S32x1x16x128, .f32⟩
  | .hbm, ⟨11, _⟩ => ⟨S32x65x16x128, .f32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S32x8x16x128, .f32⟩
  | .hbm, ⟨31, _⟩ => ⟨S_, .f32⟩
  | .hbm, ⟨32, _⟩ => ⟨S32x65x16x128, .f32⟩
  | .hbm, ⟨33, _⟩ => ⟨S32x65x16x128, .f32⟩
  | .hbm, ⟨34, _⟩ => ⟨S32x16x65x8, .f32⟩
  | .hbm, ⟨35, _⟩ => ⟨S32x8x16x65, .f32⟩
  | .hbm, ⟨36, _⟩ => ⟨S65, .i32⟩
  | .hbm, ⟨37, _⟩ => ⟨S1x1x1x65, .i32⟩
  | .hbm, ⟨38, _⟩ => ⟨S1x8x1x1, .i32⟩
  | .hbm, ⟨39, _⟩ => ⟨S1x8x1x65, .i32⟩
  | .hbm, ⟨40, _⟩ => ⟨S1x8x1x65, .i32⟩
  | .hbm, ⟨41, _⟩ => ⟨S1x8x1x65, .i1⟩
  | .hbm, ⟨42, _⟩ => ⟨S_, .f32⟩
  | .hbm, ⟨43, _⟩ => ⟨S_, .f32⟩
  | .hbm, ⟨44, _⟩ => ⟨S32x8x16x65, .i1⟩
  | .hbm, ⟨45, _⟩ => ⟨S32x8x16x65, .f32⟩
  | .hbm, ⟨46, _⟩ => ⟨S32x8x16x65, .f32⟩
  | .hbm, ⟨47, _⟩ => ⟨S32x8x16x3, .f32⟩
  | .hbm, ⟨48, _⟩ => ⟨S32x8x16x3, .i32⟩
  | .hbm, ⟨49, _⟩ => ⟨S32x8x48, .i32⟩
  | .hbm, ⟨50, _⟩ => ⟨S_, .i32⟩
  | .hbm, ⟨51, _⟩ => ⟨S_, .i32⟩
  | .hbm, ⟨52, _⟩ => ⟨S32x8x128, .i32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v19 : Ref sig .tc := ⟨.hbm, 46, rfl⟩
abbrev main_values : Ref sig .tc := ⟨.hbm, 47, rfl⟩
abbrev main_indices : Ref sig .tc := ⟨.hbm, 48, rfl⟩
abbrev main_v20 : Ref sig .tc := ⟨.hbm, 49, rfl⟩
abbrev main_c_3 : Ref sig .tc := ⟨.hbm, 50, rfl⟩
abbrev main_call2_v0 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== FfnSample.lean ====
abbrev S256x2048 : Shape := ⟨2, ![256, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S256 : Shape := ⟨1, ![256]⟩
abbrev S256x1 : Shape := ⟨2, ![256, 1]⟩
abbrev S256x512 : Shape := ⟨2, ![256, 512]⟩

abbrev nBuf : Space → Nat
  | .hbm => 13
  | .vmem => 12
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S256x2048, .f32⟩
  | .hbm, ⟨12, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== FfnSampleReferenceIdeal.lean ====
abbrev S256x2048 : Shape := ⟨2, ![256, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x5632 : Shape := ⟨2, ![256, 5632]⟩

abbrev nBuf : Space → Nat
  | .hbm => 56
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S256x5632, .f32⟩
  | .hbm, ⟨23, _⟩ => ⟨S256x5632, .f32⟩
  | .hbm, ⟨24, _⟩ => ⟨S256x5632, .f32⟩
  | .hbm, ⟨25, _⟩ => ⟨S_, .f32⟩
  | .hbm, ⟨26, _⟩ => ⟨S256x5632, .f32⟩
  | .hbm, ⟨27, _⟩ => ⟨S256x5632, .f32⟩
  | .hbm, ⟨28, _⟩ => ⟨S_, .f32⟩
  | .hbm, ⟨29, _⟩ => ⟨S256x5632, .f32⟩
  | .hbm, ⟨30, _⟩ => ⟨S256x5632, .f32⟩
  | .hbm, ⟨31, _⟩ => ⟨S256x5632, .f32⟩
  | .hbm, ⟨32, _⟩ => ⟨S256x5632, .f32⟩
  | .hbm, ⟨33, _⟩ => ⟨S256x5632, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x1, .f32⟩
  | .hbm, ⟨50, _⟩ => ⟨S256x2048, .f32⟩
  | .hbm, ⟨51, _⟩ => ⟨S256x2048, .f32⟩
  | .hbm, ⟨52, _⟩ => ⟨S1x2048, .f32⟩
  | .hbm, ⟨53, _⟩ => ⟨S256x2048, .f32⟩
  | .hbm, ⟨54, _⟩ => ⟨S256x2048, .f32⟩
  | .hbm, ⟨55, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== OutProjSample.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S2048x2048, .bf16⟩
  | .hbm, ⟨4, _⟩ => ⟨S256x2048, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjSampleReferenceIdeal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MergeSample.lean ====
abbrev S256x2048 : Shape := ⟨2, ![256, 2048]⟩
abbrev S2048x2048 : Shape := ⟨2, ![2048, 2048]⟩
abbrev S2048x512 : Shape := ⟨2, ![2048, 512]⟩
abbrev S256x512 : Shape := ⟨2, ![256, 512]⟩

abbrev nBuf : Space → Nat
  | .hbm => 12
  | .vmem => 13
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S256x2048, .bf16⟩
  | .local _ .vmem, ⟨0, _⟩ => ⟨S256x2048, .bf16⟩
  | .local _ .vmem, ⟨1, _⟩ => ⟨S256x2048, .f32⟩
  | .local _ .vmem, ⟨2, _⟩ => ⟨S256x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S256x512, .bf16⟩
  | .local _ .vmem, ⟨12, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeSampleReferenceIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== ProjGlaSample.lean ====
abbrev S256x2048 : Shape := ⟨2, ![256, 2048]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S2048x6144 : Shape := ⟨2, ![2048, 6144]⟩
abbrev S2048x6272 : Shape := ⟨2, ![2048, 6272]⟩
abbrev S256x6272 : Shape := ⟨2, ![256, 6272]⟩
abbrev S2048x896 : Shape := ⟨2, ![2048, 896]⟩
abbrev S256x896 : Shape := ⟨2, ![256, 896]⟩

abbrev nBuf : Space → Nat
  | .hbm => 10
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x6160, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x6144, .f32⟩
  | .hbm, ⟨7, _⟩ => ⟨S2048x6272, .f32⟩
  | .hbm, ⟨8, _⟩ => ⟨S2048x6272, .bf16⟩
  | .hbm, ⟨9, _⟩ => ⟨S256x6272, .f32⟩
  | .local _ .vmem, ⟨0, _⟩ => ⟨S256x2048, .bf16⟩
  | .local _ .vmem, ⟨1, _⟩ => ⟨S2048x896, .bf16⟩
  | .local _ .vmem, ⟨2, _⟩ => ⟨S2048x896, .bf16⟩
  | .local _ .vmem, ⟨3, _⟩ => ⟨S256x896, .f32⟩
  | .local _ .vmem, ⟨4, _⟩ => ⟨S256x896, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![7, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGlaSampleReferenceIdeal.lean ====
abbrev S256x2048 : Shape := ⟨2, ![256, 2048]⟩
abbrev S2048x6160 : Shape := ⟨2, ![2048, 6160]⟩
abbrev S256x6160 : Shape := ⟨2, ![256, 6160]⟩
abbrev S_ : Shape := ⟨0, ![]⟩
abbrev S256x6272 : Shape := ⟨2, ![256, 6272]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x6160, .f32⟩
  | .hbm, ⟨2, _⟩ => ⟨S256x2048, .f32⟩
  | .hbm, ⟨3, _⟩ => ⟨S256x6160, .f32⟩
  | .hbm, ⟨4, _⟩ => ⟨S_, .i32⟩
  | .hbm, ⟨5, _⟩ => ⟨S_, .f32⟩
  | .hbm, ⟨6, _⟩ => ⟨S256x6272, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.MmValue.lean ====
module

public import proofs.«01_k».proof.Proof.Gen.MmIdeal.Value
public import proofs.«01_k».proof.Proof.Gen.MmReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MmReferenceIdeal.Value

open Cert.MmReferenceIdeal Cert.MmReferenceIdeal.Gen

/-- The reference: the rows times the weights. -/
def REF (x0 : FVec Ideal S8192x2048 .bf16) (x1 : FVec Ideal S2048x2048 .f32) : FVec Ideal S8192x2048 .f32 :=
  Host.dotGeneral dot_S8192x2048_S2048x2048_S8192x2048_1_0_0_1_n_n none (extf .f32 x0 bitsLt_bf16_f32) x1

end Cert.MmReferenceIdeal.Value

namespace Cert.MmIdeal.Value

open Cert.MmIdeal Cert.MmIdeal.Gen
open Cert.MmReferenceIdeal.Value (REF)

variable (m : (ℓ : Loc nD τ sig) → Buf (Elt Ideal) ℓ)

/-- Which block each window shows at a grid point. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- What a grid point stores at a block index is the reference at the array index it sits at. -/
theorem point (c : Dev nD) (t : Fin cfg0.N) (y) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF, Ideal.logistic]
  blk_point [iblk, V, idx t]

/-- The result array is the reference's. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MmIdeal.Value

end
-- ==== Proof.OutProjValue.lean ====
module

public import proofs.«01_k».proof.Proof.Gen.OutProjIdeal.Value
public import proofs.«01_k».proof.Proof.Gen.OutProjReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjReferenceIdeal.Value

open Cert.OutProjReferenceIdeal Cert.OutProjReferenceIdeal.Gen

/-- The reference: the residual plus the rows times the weights. -/
def REF (x0 : FVec Ideal S8192x2048 .bf16) (x1 : FVec Ideal S2048x2048 .f32) (x2 : FVec Ideal S8192x2048 .f32) : FVec Ideal S8192x2048 .f32 :=
  addf x2 (Host.dotGeneral dot_S8192x2048_S2048x2048_S8192x2048_1_0_0_1_n_n none (extf .f32 x0 bitsLt_bf16_f32) x1)

end Cert.OutProjReferenceIdeal.Value

namespace Cert.OutProjIdeal.Value

open Cert.OutProjIdeal Cert.OutProjIdeal.Gen
open Cert.OutProjReferenceIdeal.Value (REF)

variable (m : (ℓ : Loc nD τ sig) → Buf (Elt Ideal) ℓ)

/-- Which block each window shows at a grid point. -/
theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

/-- What a grid point stores at a block index is the reference at the array index it sits at. -/
theorem point (c : Dev nD) (t : Fin cfg0.N) (y) : k0_pay1 (F := Ideal) (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, Ideal.logistic]
  rw [add_comm]
  blk_point [iblk, V, idx t]

/-- The result array is the reference's. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutProjIdeal.Value

end
-- ==== Proof.MergeValue.lean ====
module

public import proofs.«01_k».proof.Proof.Gen.MergeIdeal.Value
public import proofs.«01_k».proof.Proof.Gen.MergeReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeReferenceIdeal.Value

open Cert.MergeReferenceIdeal Cert.MergeReferenceIdeal.Gen

/-- The reference: the two gated projections, added. -/
def REF (x0 : FVec Ideal S8192x2048 .bf16) (x1 : FVec Ideal S8192x2048 .bf16) (x2 : FVec Ideal S8192x2048 .bf16) (x3 : FVec Ideal S2048x2048 .f32) (x4 : FVec Ideal S2048x2048 .f32) (x5 : FVec Ideal S2048x2048 .f32) (x6 : FVec Ideal S2048x2048 .f32) : FVec Ideal S8192x2048 .bf16 :=
  truncf .bf16 (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 x0 bitsLt_bf16_f32) x3))))) (Host.dotGeneral dot_S8192x2048_S2048x2048_S8192x2048_1_0_0_1_n_n none (extf .f32 x1 bitsLt_bf16_f32) x5)) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 x0 bitsLt_bf16_f32) x4))))) (Host.dotGeneral dot_S8192x2048_S2048x2048_S8192x2048_1_0_0_1_n_n none (extf .f32 x2 bitsLt_bf16_f32) x6))) bitsLt_bf16_f32

end Cert.MergeReferenceIdeal.Value

namespace Cert.MergeIdeal.Value

open Cert.MergeIdeal Cert.MergeIdeal.Gen
open Cert.MergeReferenceIdeal.Value (REF)

variable (m : (ℓ : Loc nD τ sig) → Buf (Elt Ideal) ℓ)

/-- Which block each window shows at a grid point. -/
theorem idx : ∀ t : Fin cfg0.N, win0_0.index t = ![t.val / 4, 0] ∧ win0_1.index t = ![t.val / 4, 0] ∧ win0_2.index t = ![t.val / 4, 0] ∧ win0_3.index t = ![0, t.val % 4] ∧ win0_4.index t = ![0, t.val % 4] ∧ win0_5.index t = ![0, t.val % 4] ∧ win0_6.index t = ![0, t.val % 4] ∧ win0_7.index t = ![t.val / 4, t.val % 4] :=
  (by decide +kernel : ∀ t : Fin grid0.N, _)

/-- What a grid point stores at a block index is the reference at the array index it sits at. -/
theorem point (c : Dev nD) (t : Fin cfg0.N) (y) : k0_pay1 (F := Ideal) (iblk m c 0 t) (iblk m c 3 t) (iblk m c 4 t) (iblk m c 1 t) (iblk m c 5 t) (iblk m c 2 t) (iblk m c 6 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  pointwise [k0_pay1, REF, Ideal.logistic]
  blk_point [iblk, V, idx t]

/-- The result array is the reference's. -/
theorem final (c : Dev nD) : (dats m 0 c).arrAt 7 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]; frame_out
  exact point m c t y

end Cert.MergeIdeal.Value

end
-- ==== Proof.PleValue.lean ====
module

public import proofs.«01_k».proof.Proof.Gen.PleIdeal.Value
public import proofs.«01_k».proof.Proof.Gen.PleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleReferenceIdeal.Value

open Cert.PleReferenceIdeal Cert.PleReferenceIdeal.Gen

/-- The reference: the gated per-layer embedding added to the rows, normalised. -/
def REF (x0 : FVec Ideal S8192x2048 .bf16) (x1 : FVec Ideal S8192x2048 .f32) (x2 : FVec Ideal S8192x256 .f32) (x3 : FVec Ideal S2048x2048 .f32) (x4 : FVec Ideal S256x2048 .f32) (x5 : FVec Ideal S2048 .f32) : FVec Ideal S8192x2048 .f32 :=
  mulf (mulf (addf x1 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 x0 bitsLt_bf16_f32) x3))))) (Host.dotGeneral dot_S8192x256_S256x2048_S8192x2048_1_0_0_1_n_n none x2 x4))) (broadcastInDim S8192x2048 ![0, 1] bcast_S8192x1_S8192x2048_0_1 (Host.rsqrt (addf (Host.divf (broadcastInDim S8192x1 ![0] bcast_S8192_S8192x1_0 (Host.reduceAdd (mulf (addf x1 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 x0 bitsLt_bf16_f32) x3))))) (Host.dotGeneral dot_S8192x256_S256x2048_S8192x2048_1_0_0_1_n_n none x2 x4))) (addf x1 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 x0 bitsLt_bf16_f32) x3))))) (Host.dotGeneral dot_S8192x256_S256x2048_S8192x2048_1_0_0_1_n_n none x2 x4)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 x5))

end Cert.PleReferenceIdeal.Value

namespace Cert.PleIdeal.Value

open Cert.PleIdeal Cert.PleIdeal.Gen
open Cert.PleReferenceIdeal.Value (REF)

variable (m : (ℓ : Loc nD τ sig) → Buf (Elt Ideal) ℓ)

/-- Which block each window shows at a grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, _)

/-- What a grid point stores at a block index is the reference at the array index it sits at. -/
theorem point (c : Dev nD) (t : Fin cfg0.N) (y) : k0_pay1 (F := Ideal) (iblk m c 0 t) (iblk m c 3 t) (iblk m c 2 t) (iblk m c 4 t) (iblk m c 1 t) (iblk m c 5 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  pointwise [k0_pay1, REF, Ideal.logistic]
  blk_point [iblk, V, idx t]

/-- The result array is the reference's. -/
theorem final (c : Dev nD) : (dats m 0 c).arrAt 6 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.PleIdeal.Value

end
-- ==== Proof.FfnStep.lean ====
module

public import proofs.«01_k».proof.Proof.Gen.FfnIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The first point of a row block leaves the first tile's product in the accumulator. -/
theorem stepA_acc (c : Dev nD) (t : Fin cfg0.N) (h0 : t.val % 11 = 0) (h1 : ¬t.val % 11 = 10) :
    (outsAt0 m c t.val t.isLt).1
      = k0_pay3 (F := Ideal) (k0_pay1 (iblk m c 0 t) (iblk m c 1 t)) (iblk m c 2 t) (iblk m c 3 t) (k0_pay2 (F := Ideal)) (iblk m c 4 t) := by
  rw [outsAt0_A m c t h0 h1]; frame_out

/-- The first point of a row block leaves the normalised rows in the scratch. -/
theorem stepA_xn (c : Dev nD) (t : Fin cfg0.N) (h0 : t.val % 11 = 0) (h1 : ¬t.val % 11 = 10) :
    (outsAt0 m c t.val t.isLt).2.2 = k0_pay1 (F := Ideal) (iblk m c 0 t) (iblk m c 1 t) := by
  rw [outsAt0_A m c t h0 h1]; frame_out

/-- A later point adds its tile's product to the accumulator. -/
theorem stepB_acc (c : Dev nD) (t : Fin cfg0.N) (h0 : ¬t.val % 11 = 0) (h1 : ¬t.val % 11 = 10) :
    (outsAt0 m c t.val t.isLt).1
      = k0_pay3 (F := Ideal) (outsAt0 m c (t.val - 1) (Nat.lt_of_le_of_lt (Nat.sub_le _ _) t.isLt)).2.2 (iblk m c 2 t) (iblk m c 3 t)
          (outsAt0 m c (t.val - 1) (Nat.lt_of_le_of_lt (Nat.sub_le _ _) t.isLt)).1 (iblk m c 4 t) := by
  rw [outsAt0_B m c t h0 h1]; frame_out
  erw [(Memref.isWhole_whole cc0_scratch0).read_unread]

/-- A later point leaves the scratch as it was. -/
theorem stepB_xn (c : Dev nD) (t : Fin cfg0.N) (h0 : ¬t.val % 11 = 0) (h1 : ¬t.val % 11 = 10) :
    (outsAt0 m c t.val t.isLt).2.2 = (outsAt0 m c (t.val - 1) (Nat.lt_of_le_of_lt (Nat.sub_le _ _) t.isLt)).2.2 := by
  rw [outsAt0_B m c t h0 h1]; rfl

/-- The last point of a row block adds its tile and then the rows. -/
theorem stepC_acc (c : Dev nD) (t : Fin cfg0.N) (h0 : ¬t.val % 11 = 0) (h1 : t.val % 11 = 10) :
    (outsAt0 m c t.val t.isLt).1
      = k0_pay4 (F := Ideal) (iblk m c 0 t) (k0_pay3 (F := Ideal) (outsAt0 m c (t.val - 1) (Nat.lt_of_le_of_lt (Nat.sub_le _ _) t.isLt)).2.2 (iblk m c 2 t) (iblk m c 3 t)
          (outsAt0 m c (t.val - 1) (Nat.lt_of_le_of_lt (Nat.sub_le _ _) t.isLt)).1 (iblk m c 4 t)) := by
  rw [outsAt0_C m c t h0 h1]; frame_out
  erw [(Memref.isWhole_whole cc0_scratch0).read_unread]

/-- The last point of a row block writes the normalised rows of the sum. -/
theorem stepC_u (c : Dev nD) (t : Fin cfg0.N) (h0 : ¬t.val % 11 = 0) (h1 : t.val % 11 = 10) :
    (outsAt0 m c t.val t.isLt).2.1
      = k0_pay5 (F := Ideal) (iblk m c 0 t) (k0_pay3 (F := Ideal) (outsAt0 m c (t.val - 1) (Nat.lt_of_le_of_lt (Nat.sub_le _ _) t.isLt)).2.2 (iblk m c 2 t) (iblk m c 3 t)
          (outsAt0 m c (t.val - 1) (Nat.lt_of_le_of_lt (Nat.sub_le _ _) t.isLt)).1 (iblk m c 4 t)) (iblk m c 5 t) := by
  rw [outsAt0_C m c t h0 h1]; frame_out
  erw [(Memref.isWhole_whole cc0_scratch0).read_unread]

end Cert.FfnIdeal.Value

end
-- ==== Proof.FfnRef.lean ====
module

public import proofs.«01_k».proof.Proof.Gen.FfnReferenceIdeal.Run
public import Idealize.ShloMosaic.Lib.Pipeline.ValueKit

@[expose] public section

set_option maxRecDepth 16384

noncomputable section

open Idealize.ShloMosaic Idealize.ShloMosaic.TcCoe Idealize.SL.Sem

namespace Cert.FfnReferenceIdeal.Value

open Cert.FfnReferenceIdeal Cert.FfnReferenceIdeal.Gen

/-- Rows divided by their root mean square and scaled, as the reference computes it. -/
def NORM (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The gated middle activations of the normalised rows `n`. -/
def MID (n : FVec Ideal S8192x2048 .f32) (x2 x3 : FVec Ideal S2048x5632 .f32) : FVec Ideal S8192x5632 .f32 :=
  mulf (mulf (Host.dotGeneral dot_S8192x2048_S2048x5632_S8192x5632_1_0_0_1_n_n none n x2) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none n x2)))))) (Host.dotGeneral dot_S8192x2048_S2048x5632_S8192x5632_1_0_0_1_n_n none n x3)

/-- The rows plus half of the middle activations' projection. -/
def RES (x : FVec Ideal S8192x2048 .f32) (d : FVec Ideal S8192x5632 .f32) (x4 : FVec Ideal S5632x2048 .f32) : FVec Ideal S8192x2048 .f32 :=
  addf x (mulf (broadcastInDim S8192x2048 ![] bcast_S_S8192x2048 (constant S_ .f32 0x3F000000#32)) (Host.dotGeneral dot_S8192x5632_S5632x2048_S8192x2048_1_0_0_1_n_n none d x4))

/-- The reference's first result. -/
def H (x0 : FVec Ideal S8192x2048 .f32) (x1 : FVec Ideal S2048 .f32) (x2 x3 : FVec Ideal S2048x5632 .f32) (x4 : FVec Ideal S5632x2048 .f32) :
    FVec Ideal S8192x2048 .f32 := RES x0 (MID (NORM x0 x1) x2 x3) x4

/-- The reference's second result. -/
def U (x0 : FVec Ideal S8192x2048 .f32) (x1 : FVec Ideal S2048 .f32) (x2 x3 : FVec Ideal S2048x5632 .f32) (x4 : FVec Ideal S5632x2048 .f32)
    (x5 : FVec Ideal S2048 .f32) : FVec Ideal S8192x2048 .bf16 := truncf .bf16 (NORM (H x0 x1 x2 x3 x4) x5) bitsLt_bf16_f32

variable (m : (ℓ : Loc nD τ sig) → Buf (Elt Ideal) ℓ)

/-- The run's second result, in these words. -/
theorem res_eq (c : Dev nD) : res_main_v34 (F := Ideal) m c = U (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

end Cert.FfnReferenceIdeal.Value

end
-- ==== Proof.FfnAcc.lean ====
module

public import proofs.«01_k».proof.Proof.FfnStep
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen
open Cert.FfnReferenceIdeal.Value (NORM MID RES H U)

variable (m : (ℓ : Loc nD τ sig) → Buf (Elt Ideal) ℓ)

/-- Which block each window shows at a grid point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] ∧ win0_7.index t = ![t.val / 11, 0] :=
  (by decide +kernel : ∀ t : Fin grid0.N, _)

/-- The reference's normalised rows, of the kernel's arguments. -/
def XN (c : Dev nD) := NORM (m ((c : Thread nD τ).loc main_arg0)) (m ((c : Thread nD τ).loc main_arg1))

/-- The reference's middle activations, of the kernel's arguments. -/
def XM (c : Dev nD) := MID (XN m c) (m ((c : Thread nD τ).loc main_arg2)) (m ((c : Thread nD τ).loc main_arg3))

theorem tlt (t : Fin cfg0.N) : t.val < 176 := lt_of_lt_of_eq t.isLt N_0

/-- Row `r` of the row block a grid point works on. -/
def row (t : Fin cfg0.N) (r : Fin 512) : Fin 8192 := ⟨t.val / 11 * 512 + r.val, by have := tlt t; omega⟩

/-- Column `k` of tile `s` of the middle activations. -/
def col (s : Fin 11) (k : Fin 512) : Fin 5632 := ⟨s.val * 512 + k.val, by omega⟩

/-- Tile `s`'s share of the projection at row `R`, column `l`. -/
def part (c : Dev nD) (s : Fin 11) (R : Fin 8192) (l : Fin 2048) : EReal :=
  ∑ k : Fin 512, (show EReal from XM m c (ix2 R (col s k))) * (show EReal from m ((c : Thread nD τ).loc main_arg4) (ix2 (col s k) l))

/-- The tile a grid point works on. -/
def tile (t : Fin cfg0.N) : Fin 11 := ⟨t.val % 11, Nat.mod_lt _ (by decide)⟩

theorem pay1_eq (c : Dev nD) (t : Fin cfg0.N) (r : Fin 512) (l : Fin 2048) :
    k0_pay1 (F := Ideal) (iblk m c 0 t) (iblk m c 1 t) (ix2 r l) = XN m c (ix2 (row t r) l) := by
  pointwise [k0_pay1, XN, NORM, row]
  blk_point [iblk, V, idx t]

theorem pay3_eq (c : Dev nD) (t : Fin cfg0.N) (xn : FVec Ideal S512x2048 .bf16) (acc : FVec Ideal S512x2048 .f32) (r : Fin 512) (l : Fin 2048)
    (hxn : ∀ l, xn (ix2 r l) = XN m c (ix2 (row t r) l)) :
    k0_pay3 (F := Ideal) xn (iblk m c 2 t) (iblk m c 3 t) acc (iblk m c 4 t) (ix2 r l)
      = acc (ix2 r l) + part m c (tile t) (row t r) l := by
  unfold part
  pointwise [k0_pay3, XM, MID, hxn, Ideal.logistic]
  unfold col tile
  blk_point [iblk, V, idx t]

theorem pay2_eq (r : Fin 512) (l : Fin 2048) : k0_pay2 (F := Ideal) (ix2 r l) = 0 := by
  pointwise [k0_pay2]

end Cert.FfnIdeal.Value

end
-- ==== Proof.FfnValue.lean ====
module

public import proofs.«01_k».proof.Proof.FfnAcc

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen
open Cert.FfnReferenceIdeal.Value (NORM MID RES H U)

variable (m : (ℓ : Loc nD τ sig) → Buf (Elt Ideal) ℓ)

/-- The projection summed over the first `k` tiles. -/
def upto (c : Dev nD) (R : Fin 8192) (l : Fin 2048) (k : ℕ) : EReal :=
  ∑ s ∈ Finset.range k, if h : s < 11 then part m c ⟨s, h⟩ R l else 0

theorem upto_succ (c : Dev nD) (R : Fin 8192) (l : Fin 2048) (k : ℕ) (h : k < 11) :
    upto m c R l (k + 1) = upto m c R l k + part m c ⟨k, h⟩ R l := by
  unfold upto; rw [Finset.sum_range_succ, dif_pos h]

/-- All eleven tiles make the whole projection. -/
theorem upto_all (c : Dev nD) (R : Fin 8192) (l : Fin 2048) :
    upto m c R l 11 = ∑ k : Fin 5632, (show EReal from XM m c (ix2 R k)) * (show EReal from m ((c : Thread nD τ).loc main_arg4) (ix2 k l)) := by
  unfold upto
  rw [Finset.sum_range]
  rw [Fin.sum_univ_tiles 11 512 rfl (fun k : Fin 5632 => (show EReal from XM m c (ix2 R k)) * (show EReal from m ((c : Thread nD τ).loc main_arg4) (ix2 k l)))]
  exact Finset.sum_congr rfl fun s _ => by rw [dif_pos s.isLt]; rfl

/-- Between the first and the last point of a row block: the scratch holds the normalised rows, and the accumulator the sum of the tiles so far. -/
theorem inv (c : Dev nD) : ∀ (n : ℕ) (hn : n < cfg0.N), ¬ n % 11 = 10 →
    (∀ (r : Fin 512) (l : Fin 2048), (outsAt0 m c n hn).2.2 (ix2 r l) = XN m c (ix2 (row ⟨n, hn⟩ r) l))
    ∧ (∀ (r : Fin 512) (l : Fin 2048), (outsAt0 m c n hn).1 (ix2 r l) = upto m c (row ⟨n, hn⟩ r) l (n % 11 + 1)) := by
  intro n
  induction n with
  | zero =>
    intro hn h1
    have h0 : (⟨0, hn⟩ : Fin cfg0.N).val % 11 = 0 := rfl
    refine ⟨fun r l => ?_, fun r l => ?_⟩
    · rw [show outsAt0 m c 0 hn = _ from rfl, stepA_xn m c ⟨0, hn⟩ h0 h1]; exact pay1_eq m c ⟨0, hn⟩ r l
    · have e := stepA_acc m c ⟨0, hn⟩ h0 h1
      rw [e, pay3_eq m c ⟨0, hn⟩ _ _ r l (fun l => pay1_eq m c ⟨0, hn⟩ r l), pay2_eq]
      rw [upto_succ m c _ l (0 % 11) (by decide)]
      unfold upto; rfl
  | succ n ih =>
    intro hn h1
    by_cases h0 : (n + 1) % 11 = 0
    · refine ⟨fun r l => ?_, fun r l => ?_⟩
      · rw [stepA_xn m c ⟨n + 1, hn⟩ h0 h1]; exact pay1_eq m c ⟨n + 1, hn⟩ r l
      · have e := stepA_acc m c ⟨n + 1, hn⟩ h0 h1
        rw [e, pay3_eq m c ⟨n + 1, hn⟩ _ _ r l (fun l => pay1_eq m c ⟨n + 1, hn⟩ r l), pay2_eq]
        rw [upto_succ m c _ l ((n + 1) % 11) (by omega)]
        have ht : tile ⟨n + 1, hn⟩ = ⟨(n + 1) % 11, by omega⟩ := rfl
        rw [ht]
        congr 1
        rw [h0]; unfold upto; rfl
    · have hp := ih (by omega) (by omega)
      have hrow : ∀ r, row ⟨n, by omega⟩ r = row ⟨n + 1, hn⟩ r := fun r => Fin.ext (by
        show n / 11 * 512 + r.val = (n + 1) / 11 * 512 + r.val
        omega)
      refine ⟨fun r l => ?_, fun r l => ?_⟩
      · rw [stepB_xn m c ⟨n + 1, hn⟩ h0 h1, ← hrow]; exact hp.1 r l
      · have e := stepB_acc m c ⟨n + 1, hn⟩ h0 h1
        rw [e, pay3_eq m c ⟨n + 1, hn⟩ _ _ r l (fun l => by rw [← hrow]; exact hp.1 r l)]
        rw [upto_succ m c _ l ((n + 1) % 11) (by omega)]
        have ht : tile ⟨n + 1, hn⟩ = ⟨(n + 1) % 11, by omega⟩ := rfl
        rw [ht]
        congr 1
        rw [show (n + 1) % 11 = n % 11 + 1 by omega, ← hrow]
        exact hp.2 r l

/-- What the last point of a row block has in the accumulator before it adds the rows. -/
theorem last (c : Dev nD) (t : Fin cfg0.N) (h1 : t.val % 11 = 10) (r : Fin 512) (l : Fin 2048) :
    k0_pay3 (F := Ideal) (outsAt0 m c (t.val - 1) (Nat.lt_of_le_of_lt (Nat.sub_le _ _) t.isLt)).2.2 (iblk m c 2 t) (iblk m c 3 t)
          (outsAt0 m c (t.val - 1) (Nat.lt_of_le_of_lt (Nat.sub_le _ _) t.isLt)).1 (iblk m c 4 t) (ix2 r l)
      = ∑ k : Fin 5632, (show EReal from XM m c (ix2 (row t r) k)) * (show EReal from m ((c : Thread nD τ).loc main_arg4) (ix2 k l)) := by
  have hp := inv m c (t.val - 1) (Nat.lt_of_le_of_lt (Nat.sub_le _ _) t.isLt) (by omega)
  have hrow : ∀ r, row ⟨t.val - 1, Nat.lt_of_le_of_lt (Nat.sub_le _ _) t.isLt⟩ r = row t r := fun r => Fin.ext (by
        show (t.val - 1) / 11 * 512 + r.val = t.val / 11 * 512 + r.val
        omega)
  rw [pay3_eq m c t _ _ r l (fun l => by rw [← hrow]; exact hp.1 r l), hp.2 r l, hrow, ← upto_all,
    upto_succ m c _ l 10 (by decide), show (t.val - 1) % 11 + 1 = 10 by omega,
    show tile t = ⟨10, by decide⟩ from Fin.ext h1]

variable (c : Dev nD)

/-- The reference's results, of the kernel's arguments. -/
abbrev HH := H (m ((c : Thread nD τ).loc main_arg0)) (m ((c : Thread nD τ).loc main_arg1)) (m ((c : Thread nD τ).loc main_arg2)) (m ((c : Thread nD τ).loc main_arg3)) (m ((c : Thread nD τ).loc main_arg4))
abbrev UU := U (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The last point's first result is the reference's, row for row. -/
theorem pay4_eq (t : Fin cfg0.N) (acc : FVec Ideal S512x2048 .f32) (r : Fin 512) (l : Fin 2048)
    (hacc : acc (ix2 r l) = ∑ k : Fin 5632, (show EReal from XM m c (ix2 (row t r) k)) * (show EReal from m ((c : Thread nD τ).loc main_arg4) (ix2 k l))) :
    k0_pay4 (F := Ideal) (iblk m c 0 t) acc (ix2 r l) = HH m c (ix2 (row t r) l) := by
  unfold HH H XM XN at *
  generalize MID (NORM (m ((c : Thread nD τ).loc main_arg0)) (m ((c : Thread nD τ).loc main_arg1))) (m ((c : Thread nD τ).loc main_arg2)) (m ((c : Thread nD τ).loc main_arg3)) = D at *
  pointwise [k0_pay4, RES, hacc]
  unfold row
  blk_point [iblk, V, idx t]

/-- The last point's second result is the reference's, row for row. -/
theorem pay5_eq (t : Fin cfg0.N) (acc : FVec Ideal S512x2048 .f32) (r : Fin 512) (l : Fin 2048)
    (h4 : ∀ l, k0_pay4 (F := Ideal) (iblk m c 0 t) acc (ix2 r l) = HH m c (ix2 (row t r) l)) :
    k0_pay5 (F := Ideal) (iblk m c 0 t) acc (iblk m c 5 t) (ix2 r l) = UU m c (ix2 (row t r) l) := by
  unfold UU U
  unfold HH at h4
  generalize H (m ((c : Thread nD τ).loc main_arg0)) (m ((c : Thread nD τ).loc main_arg1)) (m ((c : Thread nD τ).loc main_arg2)) (m ((c : Thread nD τ).loc main_arg3)) (m ((c : Thread nD τ).loc main_arg4)) = D at *
  pointwise [k0_pay5, NORM, h4]
  blk_point [iblk, V, idx t]

/-- The first result array is the reference's. -/
theorem final_h : (dats m 0 c).arrAt 6 cfg0.N = HH m c := by
  refine (dats m 0 c).arrAt_eq_of_covers 6 _ (by decide +kernel) fun t hf y => ?_
  have h1 := (flush0_6 t).mp hf
  have e : ((cfg0.win 6).blk t).view.emb y = ix2 (row t (y 0)) (y 1) := by unfold row; blk_ext [idx t]
  blk_simp
  rw [after0_6, stepC_acc m c t (by omega) h1, e]
  refine Eq.trans ?_ (pay4_eq m c t _ (y 0) (y 1) (last m c t h1 (y 0) (y 1)))
  exact congrArg _ (eq_ix2 y)

/-- The second result array is the reference's. -/
theorem final_u : (dats m 0 c).arrAt 7 cfg0.N = UU m c := by
  refine (dats m 0 c).arrAt_eq_of_covers 7 _ (by decide +kernel) fun t hf y => ?_
  have h1 := (flush0_7 t).mp hf
  have e : ((cfg0.win 7).blk t).view.emb y = ix2 (row t (y 0)) (y 1) := by unfold row; blk_ext [idx t]
  blk_simp
  rw [after0_7, stepC_u m c t (by omega) h1, e]
  refine Eq.trans ?_ (pay5_eq m c t _ (y 0) (y 1) fun l => pay4_eq m c t _ (y 0) l (last m c t h1 (y 0) l))
  exact congrArg _ (eq_ix2 y)

end Cert.FfnIdeal.Value

end
-- ==== Proof.DenseClaims.lean ====
module

public import proofs.«01_k».proof.Defs
public import proofs.«01_k».proof.Proof.MmValue
public import proofs.«01_k».proof.Proof.OutProjValue
public import proofs.«01_k».proof.Proof.MergeValue
public import proofs.«01_k».proof.Proof.PleValue
public import proofs.«01_k».proof.Proof.FfnValue
public import Idealize.ShloMosaic.Lib.Claim

@[expose] public section

set_option maxRecDepth 16384

noncomputable section

namespace Cert.Proof

open Idealize.ShloMosaic Idealize.SL.Sem

theorem mm : Cert.algebraic_MmIdeal_MmReferenceIdeal := by
  pair_intro
  · run_from Cert.MmIdeal.Gen.run_main m g
  · run_from Cert.MmReferenceIdeal.Value.run m' g'
    exact (Cert.MmIdeal.Value.final m c).symm

theorem out_proj : Cert.algebraic_OutProjIdeal_OutProjReferenceIdeal := by
  pair_intro
  · run_from Cert.OutProjIdeal.Gen.run_main m g
  · run_from Cert.OutProjReferenceIdeal.Value.run m' g'
    exact (Cert.OutProjIdeal.Value.final m c).symm

theorem merge : Cert.algebraic_MergeIdeal_MergeReferenceIdeal := by
  pair_intro
  · run_from Cert.MergeIdeal.Gen.run_main m g
  · run_from Cert.MergeReferenceIdeal.Value.run m' g'
    exact (Cert.MergeIdeal.Value.final m c).symm

theorem ple : Cert.algebraic_PleIdeal_PleReferenceIdeal := by
  pair_intro
  · run_from Cert.PleIdeal.Gen.run_main m g
  · run_from Cert.PleReferenceIdeal.Value.run m' g'
    exact (Cert.PleIdeal.Value.final m c).symm

theorem ffn : Cert.algebraic_FfnIdeal_FfnReferenceIdeal := by
  pair_intro
  · run_from Cert.FfnIdeal.Gen.run_main m g
  · run_from Cert.FfnReferenceIdeal.Value.run m' g'
    · exact (Cert.FfnIdeal.Value.final_h m c).symm
    · obtain ⟨h0, h1, h2, h3, h4, h5⟩ := hagree c
      rw [Cert.FfnReferenceIdeal.Value.res_eq m' c, h0, h1, h2, h3, h4, h5]
      exact (Cert.FfnIdeal.Value.final_u m c).symm

end Cert.Proof

end
-- ==== Proof.MmSampleValue.lean ====
module

public import proofs.«01_k».proof.Proof.Gen.MmSampleIdeal.Value
public import proofs.«01_k».proof.Proof.Gen.MmSampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MmSampleReferenceIdeal.Value

open Cert.MmSampleReferenceIdeal Cert.MmSampleReferenceIdeal.Gen

/-- The reference: the rows times the weights. -/
def REF (x0 : FVec Ideal S256x2048 .bf16) (x1 : FVec Ideal S2048x2048 .f32) : FVec Ideal S256x2048 .f32 :=
  Host.dotGeneral dot_S256x2048_S2048x2048_S256x2048_1_0_0_1_n_n none (extf .f32 x0 bitsLt_bf16_f32) x1

end Cert.MmSampleReferenceIdeal.Value

namespace Cert.MmSampleIdeal.Value

open Cert.MmSampleIdeal Cert.MmSampleIdeal.Gen
open Cert.MmSampleReferenceIdeal.Value (REF)

variable (m : (ℓ : Loc nD τ sig) → Buf (Elt Ideal) ℓ)

/-- Which block each window shows at a grid point. -/
theorem idx : ∀ t : Fin cfg0.N, win0_0.index t = ![0, 0] ∧ win0_1.index t = ![0, t.val] ∧ win0_2.index t = ![0, t.val] :=
  (by decide +kernel : ∀ t : Fin grid0.N, _)

/-- What a grid point stores at a block index is the reference at the array index it sits at. -/
theorem point (c : Dev nD) (t : Fin cfg0.N) (y) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF, Ideal.logistic]
  blk_point [iblk, V, idx t]

/-- The result array is the reference's. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MmSampleIdeal.Value

end
-- ==== Proof.PleSampleValue.lean ====
module

public import proofs.«01_k».proof.Proof.Gen.PleSampleIdeal.Value
public import proofs.«01_k».proof.Proof.Gen.PleSampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleSampleReferenceIdeal.Value

open Cert.PleSampleReferenceIdeal Cert.PleSampleReferenceIdeal.Gen

/-- The reference: the gated per-layer embedding added to the rows, normalised. -/
def REF (x0 : FVec Ideal S256x2048 .bf16) (x1 : FVec Ideal S256x2048 .f32) (x2 : FVec Ideal S256x256 .f32) (x3 : FVec Ideal S2048x2048 .f32) (x4 : FVec Ideal S256x2048 .f32) (x5 : FVec Ideal S2048 .f32) : FVec Ideal S256x2048 .f32 :=
  mulf (mulf (addf x1 (mulf (Host.divf (broadcastInDim S256x2048 ![] bcast_S_S256x2048 (constant S_ .f32 0x3F800000#32)) (addf (broadcastInDim S256x2048 ![] bcast_S_S256x2048 (constant S_ .f32 0x3F800000#32)) (Host.exp (Host.negf (Host.dotGeneral dot_S256x2048_S2048x2048_S256x2048_1_0_0_1_n_n none (extf .f32 x0 bitsLt_bf16_f32) x3))))) (Host.dotGeneral dot_S256x256_S256x2048_S256x2048_1_0_0_1_n_n none x2 x4))) (broadcastInDim S256x2048 ![0, 1] bcast_S256x1_S256x2048_0_1 (Host.rsqrt (addf (Host.divf (broadcastInDim S256x1 ![0] bcast_S256_S256x1_0 (Host.reduceAdd (mulf (addf x1 (mulf (Host.divf (broadcastInDim S256x2048 ![] bcast_S_S256x2048 (constant S_ .f32 0x3F800000#32)) (addf (broadcastInDim S256x2048 ![] bcast_S_S256x2048 (constant S_ .f32 0x3F800000#32)) (Host.exp (Host.negf (Host.dotGeneral dot_S256x2048_S2048x2048_S256x2048_1_0_0_1_n_n none (extf .f32 x0 bitsLt_bf16_f32) x3))))) (Host.dotGeneral dot_S256x256_S256x2048_S256x2048_1_0_0_1_n_n none x2 x4))) (addf x1 (mulf (Host.divf (broadcastInDim S256x2048 ![] bcast_S_S256x2048 (constant S_ .f32 0x3F800000#32)) (addf (broadcastInDim S256x2048 ![] bcast_S_S256x2048 (constant S_ .f32 0x3F800000#32)) (Host.exp (Host.negf (Host.dotGeneral dot_S256x2048_S2048x2048_S256x2048_1_0_0_1_n_n none (extf .f32 x0 bitsLt_bf16_f32) x3))))) (Host.dotGeneral dot_S256x256_S256x2048_S256x2048_1_0_0_1_n_n none x2 x4)))) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 x5))

end Cert.PleSampleReferenceIdeal.Value

namespace Cert.PleSampleIdeal.Value

open Cert.PleSampleIdeal Cert.PleSampleIdeal.Gen
open Cert.PleSampleReferenceIdeal.Value (REF)

variable (m : (ℓ : Loc nD τ sig) → Buf (Elt Ideal) ℓ)

/-- Which block each window shows at a grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, _)

/-- What a grid point stores at a block index is the reference at the array index it sits at. -/
theorem point (c : Dev nD) (t : Fin cfg0.N) (y) : k0_pay1 (F := Ideal) (iblk m c 0 t) (iblk m c 3 t) (iblk m c 2 t) (iblk m c 4 t) (iblk m c 1 t) (iblk m c 5 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  pointwise [k0_pay1, REF, Ideal.logistic]
  blk_point [iblk, V, idx t]

/-- The result array is the reference's. -/
theorem final (c : Dev nD) : (dats m 0 c).arrAt 6 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.PleSampleIdeal.Value

end
-- ==== Proof.ProjGlaValue.lean ====
module

public import proofs.«01_k».proof.Proof.Gen.ProjGlaIdeal.Value
public import proofs.«01_k».proof.Proof.Gen.ProjGlaReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjGlaReferenceIdeal.Value

open Cert.ProjGlaReferenceIdeal Cert.ProjGlaReferenceIdeal.Gen

/-- The reference: the rows times the weights, widened by zero columns. -/
def REF (x0 : FVec Ideal S8192x2048 .bf16) (x1 : FVec Ideal S2048x6160 .f32) : FVec Ideal S8192x6272 .f32 :=
  pad S8192x6272 ![0, 0] ![0, 112] ![0, 0] (Host.dotGeneral dot_S8192x2048_S2048x6160_S8192x6160_1_0_0_1_n_n none (extf .f32 x0 bitsLt_bf16_f32) x1) (sitofp .f32 (constantI S_ 32 0#32)) pads_S8192x6160_S8192x6272_000_01120 h_S_

/-- The padding's integer zero is the number zero. -/
theorem pad_zero : (FloatOps.sitofp FTy.f32 0#32 : Ideal .f32) = (0 : EReal) := by
  show (((0#32 : BitVec 32).toInt : ℝ) : EReal) = 0
  simp

/-- An entry of the reference: a row times a column, or zero. -/
theorem ref_at (x0 : FVec Ideal S8192x2048 .bf16) (x1 : FVec Ideal S2048x6160 .f32) (i : Fin 8192) (j : Fin 6272) :
    REF x0 x1 (ix2 i j) = if h : j.val < 6160 then ∑ k : Fin 2048, x0 (ix2 i k) * x1 (ix2 k ⟨j.val, h⟩) else (0 : EReal) := by
  pointwise [REF]
  split
  · rfl
  · exact pad_zero

end Cert.ProjGlaReferenceIdeal.Value

namespace Cert.ProjGlaIdeal.Value

open Cert.ProjGlaIdeal Cert.ProjGlaIdeal.Gen
open Cert.ProjGlaReferenceIdeal.Value (REF ref_at pad_zero)

/-- Rows times weights at the widened width. -/
def WIDE (x0 : FVec Ideal S8192x2048 .bf16) (w : FVec Ideal S2048x6272 .bf16) : FVec Ideal S8192x6272 .f32 :=
  fun i => ∑ k : Fin 2048, x0 (ix2 (i 0) k) * w (ix2 k (i 1))

/-- The weights as the call takes them. -/
def W (x1 : FVec Ideal S2048x6160 .f32) : FVec Ideal S2048x6272 .bf16 :=
  truncf .bf16 (concatenate S2048x6272 1 [⟨S2048x6144, extractStridedSlice S2048x6144 ![0, 0] x1 slices_S2048x6160_S2048x6144_0_0⟩, ⟨S2048x128, pad S2048x128 ![0, 0] ![0, 112] ![0, 0] (extractStridedSlice S2048x16 ![0, 6144] x1 slices_S2048x6160_S2048x16_0_6144) (sitofp .f32 (constantI S_ 32 0#32)) pads_S2048x16_S2048x128_000_01120 h_S_⟩] concatenates_S2048x6144_S2048x128_S2048x6272_d1) bitsLt_bf16_f32

theorem w_at (x1 : FVec Ideal S2048x6160 .f32) (k : Fin 2048) (j : Fin 6272) :
    W x1 (ix2 k j) = if h : j.val < 6160 then x1 (ix2 k ⟨j.val, h⟩) else (0 : EReal) := by
  pointwise [W]
  by_cases h : j.val < 6144
  · rw [dif_pos h, dif_pos (show j.val < 6160 by omega)]
  · rw [dif_neg h]
    by_cases h' : j.val < 6160
    · refine (dif_pos (show j.val - 6144 < 16 by omega)).trans (Eq.trans ?_ (dif_pos h').symm)
      have e : (6144 + (j.val - 6144)) = j.val := by omega
      simp only [e]
    · rw [dif_neg (show ¬ j.val - 6144 < 16 by omega), dif_neg h']
      exact pad_zero

theorem wide_eq (x0 : FVec Ideal S8192x2048 .bf16) (x1 : FVec Ideal S2048x6160 .f32) : WIDE x0 (W x1) = REF x0 x1 := by
  funext i
  obtain ⟨a, b, rfl⟩ : ∃ (a : Fin 8192) (b : Fin 6272), i = ix2 a b := ⟨i 0, i 1, by ext k; fin_cases k <;> rfl⟩
  refine Eq.trans ?_ (ref_at x0 x1 a b).symm
  show (∑ k : Fin 2048, x0 (ix2 a k) * W x1 (ix2 k b)) = _
  by_cases h : b.val < 6160
  · rw [dif_pos h]
    exact Finset.sum_congr rfl fun k _ => Ideal.mul_congr rfl ((w_at x1 k b).trans (dif_pos h))
  · rw [dif_neg h]
    exact Finset.sum_eq_zero fun k _ => (Ideal.mul_congr rfl ((w_at x1 k b).trans (dif_neg h))).trans (mul_zero (M₀ := EReal) _)

variable (m : (ℓ : Loc nD τ sig) → Buf (Elt Ideal) ℓ)

theorem V_w (c : Dev nD) : V m c main_v4 = W (m ((c : Thread nD τ).loc main_arg1)) := by
  simp only [V, hostOps0, hostOps0_1, hostOps0_2, List.flatten_cons, List.flatten_nil, List.append_nil, List.cons_append, List.nil_append]; after_results; try rfl

/-- Which block each window shows at a grid point. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- What a grid point stores at a block index is the product at the array index it sits at. -/
theorem point (c : Dev nD) (t : Fin cfg0.N) (y) : k0_pay1 (F := Ideal) (iblk m c 0 t) (iblk m c 1 t) y
    = WIDE (m ((c : Thread nD τ).loc main_arg0)) (V m c main_v4) (((cfg0.win 2).blk t).view.emb y) := by
  unfold WIDE
  pointwise [k0_pay1]
  blk_point [iblk, V_main_arg0, idx t]

/-- The result array is the reference's. -/
theorem final (c : Dev nD) : (dats m 0 c).arrAt 2 cfg0.N
    = REF (m ((c : Thread nD τ).loc main_arg0)) (m ((c : Thread nD τ).loc main_arg1)) := by
  rw [← wide_eq, ← V_w]
  refine (dats m 0 c).arrAt_eq_of_covers 2 _ (by decide +kernel) fun t _ y => ?_
  blk_simp
  rw [after0_2]; frame_out
  exact point m c t y

end Cert.ProjGlaIdeal.Value

end
-- ==== Proof.MoreClaims.lean ====
module

public import proofs.«01_k».proof.Defs
public import proofs.«01_k».proof.Proof.MmSampleValue
public import proofs.«01_k».proof.Proof.PleSampleValue
public import proofs.«01_k».proof.Proof.ProjGlaValue
public import Idealize.ShloMosaic.Lib.Claim

@[expose] public section

set_option maxRecDepth 16384

noncomputable section

namespace Cert.Proof

open Idealize.ShloMosaic Idealize.SL.Sem

theorem mm_sample : Cert.algebraic_MmSampleIdeal_MmSampleReferenceIdeal := by
  pair_intro
  · run_from Cert.MmSampleIdeal.Gen.run_main m g
  · run_from Cert.MmSampleReferenceIdeal.Value.run m' g'
    exact (Cert.MmSampleIdeal.Value.final m c).symm

theorem ple_sample : Cert.algebraic_PleSampleIdeal_PleSampleReferenceIdeal := by
  pair_intro
  · run_from Cert.PleSampleIdeal.Gen.run_main m g
  · run_from Cert.PleSampleReferenceIdeal.Value.run m' g'
    exact (Cert.PleSampleIdeal.Value.final m c).symm

theorem proj_gla : Cert.algebraic_ProjGlaIdeal_ProjGlaReferenceIdeal := by
  pair_intro
  · run_from Cert.ProjGlaIdeal.Gen.run_main m g
    exact Cert.ProjGlaIdeal.Gen.V_main_arg1 m c
  · run_from Cert.ProjGlaReferenceIdeal.Value.run m' g'
    exact (Cert.ProjGlaIdeal.Value.final m c).symm

end Cert.Proof

end
-- ==== Proof.GlaModel.lean ====
module

public import proofs.«01_k».proof.Proof.Gen.GlaIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! One head of one chunk, as array functions that all four heads share. -/

namespace Cert.GlaIdeal.Value

open Cert.GlaIdeal Cert.GlaIdeal.Gen

/-- The row and column numbers of a chunk's square matrix. -/
abbrev rowI : IVec S64x64 32 := iota .tc S64x64 32 [0] iota_S64x64_d0_w32
abbrev colI : IVec S64x64 32 := iota .tc S64x64 32 [1] iota_S64x64_d1_w32

/-- A row number's remainder by the sub-block's sixteen rows. -/
def remRow : IVec S64x64 32 :=
  have a : IVec S64x64 32 := broadcast S64x64 (Scalar.select (Scalar.cmpi .eq 16#32 0#32) 1#32 16#32)
  have r : IVec S64x64 32 := remsi rowI a
  have z : IVec S64x64 32 := broadcast S64x64 0#32
  select (andi (xori (cmpi .slt r z) (broadcastTo S64x64 (broadcast S64x64 (Scalar.cmpi .slt (Scalar.select (Scalar.cmpi .eq 16#32 0#32) 1#32 16#32) 0#32) : IVec S64x64 1) broadcasts_S64x64_S64x64)) (cmpi .ne r z)) (addi r a) r

/-- Where the diagonal at distance `d` of the sixteen-row blocks lies. -/
def diagMask (d : BitVec 32) : IVec S64x64 1 :=
  andi (cmpi .eq (subi rowI colI) (broadcast S64x64 d)) (cmpi .sge remRow (broadcast S64x64 d))

/-- The scores at distance `d` below the diagonal, one per row. -/
def diagAt (d : BitVec 32) (q k g : FVec Ideal S64x256 .f32) : FVec Ideal S64x1 .f32 :=
  shapeCast S64x1 (multiReduction .add [1] S64
    (mulf (mulf q (dynamicRotate 0 d none k rotates_S64x256_d0))
      (exp (minimumf (subf g (dynamicRotate 0 d none g rotates_S64x256_d0)) (broadcast S64x256 (Scalar.ofBits .f32 0x00000000#32)))))
    0x00000000#32 reduces_S64x256_S64 (.inl rfl) rfl) shapeCasts_S64_S64x1

/-- The scores on the diagonal. -/
def diagZero (q k : FVec Ideal S64x256 .f32) : FVec Ideal S64x1 .f32 :=
  shapeCast S64x1 (multiReduction .add [1] S64 (mulf q k) 0x00000000#32 reduces_S64x256_S64 (.inl rfl) rfl) shapeCasts_S64_S64x1

/-- One diagonal written over the scores so far. -/
def putDiag (d : BitVec 32) (col : FVec Ideal S64x1 .f32) (att : FVec Ideal S64x64 .f32) : FVec Ideal S64x64 .f32 :=
  select (diagMask d) (broadcastTo S64x64 (shapeCast S64x1 col shapeCasts_S64x1_S64x1) broadcasts_S64x1_S64x64) att

/-- The sixteen-row block a row or a column lies in. -/
def blkOf (x : IVec S64x64 32) : IVec S64x64 32 := select (k0_pay26 x) (subi (k0_pay25 x) (broadcast S64x64 1#32)) (k0_pay25 x)

/-- The scores of the blocks below the diagonal blocks, and zero elsewhere. -/
def farAtt (q k la : FVec Ideal S64x256 .f32) : FVec Ideal S64x64 .f32 :=
  select (cmpi .sgt (k0_pay24 rowI) (blkOf colI))
    (concatenate S64x64 0 [⟨S16x64, k0_pay18⟩, ⟨S16x64, k0_pay19 k q la⟩, ⟨S16x64, k0_pay20 k q la⟩,
      ⟨S16x64, k0_pay23 (k0_pay21 k la) (k0_pay22 q la)⟩] concatenates_S16x64_S16x64_S16x64_S16x64_S64x64_d0)
    (broadcast S64x64 (Scalar.ofBits .f32 0x00000000#32))

/-- The scores after the diagonals at distances below `n + 1`. -/
def attUpTo (q k la : FVec Ideal S64x256 .f32) : ℕ → FVec Ideal S64x64 .f32
  | 0 => putDiag 0#32 (diagZero q k) (farAtt q k la)
  | n + 1 => putDiag (BitVec.ofNat 32 (n + 1)) (diagAt (BitVec.ofNat 32 (n + 1)) q k (k0_pay15 la)) (attUpTo q k la n)

/-- The read of the carried state and the chunk's own values, before the norm. -/
def headO (q k la : FVec Ideal S64x256 .f32) (v : FVec Ideal S64x512 .f32) (st : FVec Ideal S512x256 .f32) : FVec Ideal S64x512 .f32 :=
  addf (matmul dot_S64x256_S512x256_S64x512_1_1_0_0_n_n none (truncf .bf16 (mulf q (exp (k0_pay15 la))) bitsLt_bf16_f32) (truncf .bf16 st bitsLt_bf16_f32) (constant S64x512 .f32 0x00000000#32))
    (matmul dot_S64x64_S64x512_S64x512_1_0_0_1_n_n none (truncf .bf16 (attUpTo q k la 15) bitsLt_bf16_f32) (truncf .bf16 v bitsLt_bf16_f32) (constant S64x512 .f32 0x00000000#32))

/-- The head's rows after the norm and the output gate. -/
def headOut (o r : FVec Ideal S64x512 .f32) (go : FVec Ideal S1x512 .f32) : FVec Ideal S64x512 .f32 :=
  mulf (mulf (mulf o (broadcastTo S64x512 (rsqrt (addf (divf (shapeCast S64x1 (multiReduction .add [1] S64 (mulf o o) 0x00000000#32 reduces_S64x512_S64 (.inl rfl) rfl) shapeCasts_S64_S64x1)
    (broadcast S64x1 (Scalar.ofBits .f32 0x44000000#32))) (broadcast S64x1 (Scalar.ofBits .f32 0x358637BD#32)))) broadcasts_S64x1_S64x512))
    (broadcastTo S64x512 (shapeCast S1x512 go shapeCasts_S1x512_S1x512) broadcasts_S1x512_S64x512)) (mulf r (logistic r))

/-- The state carried to the next chunk. -/
def headSt (k la : FVec Ideal S64x256 .f32) (v : FVec Ideal S64x512 .f32) (st : FVec Ideal S512x256 .f32) : FVec Ideal S512x256 .f32 :=
  addf (mulf (broadcastTo S512x256 (exp (k0_pay16 la)) broadcasts_S1x256_S512x256) st)
    (matmul dot_S64x512_S64x256_S512x256_0_0_1_1_n_n none (truncf .bf16 v bitsLt_bf16_f32)
      (truncf .bf16 (mulf k (exp (subf (broadcastTo S64x256 (k0_pay16 la) broadcasts_S1x256_S64x256) (k0_pay15 la)))) bitsLt_bf16_f32)
      (constant S512x256 .f32 0x00000000#32))

/-- Head `h`'s 256 columns of a block of queries or keys. -/
def colsK (X : FVec Ideal S64x1024 .f32) : Fin 4 → FVec Ideal S64x256 .f32
  | 0 => View.ld (Val := Elt Ideal) (e' := .f32) X (Rect.unit (s := S64x1024) ![0, 0] ![64, 256] inb_S64x1024_S64x256_0_0)
  | 1 => View.ld (Val := Elt Ideal) (e' := .f32) X (Rect.unit (s := S64x1024) ![0, 256] ![64, 256] inb_S64x1024_S64x256_0_256)
  | 2 => View.ld (Val := Elt Ideal) (e' := .f32) X (Rect.unit (s := S64x1024) ![0, 512] ![64, 256] inb_S64x1024_S64x256_0_512)
  | 3 => View.ld (Val := Elt Ideal) (e' := .f32) X (Rect.unit (s := S64x1024) ![0, 768] ![64, 256] inb_S64x1024_S64x256_0_768)

/-- Head `h`'s 512 columns of a block of values or gates. -/
def colsV (X : FVec Ideal S64x2048 .f32) : Fin 4 → FVec Ideal S64x512 .f32
  | 0 => View.ld (Val := Elt Ideal) (e' := .f32) X (Rect.unit (s := S64x2048) ![0, 0] ![64, 512] inb_S64x2048_S64x512_0_0)
  | 1 => View.ld (Val := Elt Ideal) (e' := .f32) X (Rect.unit (s := S64x2048) ![0, 512] ![64, 512] inb_S64x2048_S64x512_0_512)
  | 2 => View.ld (Val := Elt Ideal) (e' := .f32) X (Rect.unit (s := S64x2048) ![0, 1024] ![64, 512] inb_S64x2048_S64x512_0_1024)
  | 3 => View.ld (Val := Elt Ideal) (e' := .f32) X (Rect.unit (s := S64x2048) ![0, 1536] ![64, 512] inb_S64x2048_S64x512_0_1536)

/-- Head `h`'s 256 columns of the decay's weight. -/
def colsW (X : FVec Ideal S128x1024 .f32) : Fin 4 → FVec Ideal S128x256 .f32
  | 0 => View.ld (Val := Elt Ideal) (e' := .f32) X (Rect.unit (s := S128x1024) ![0, 0] ![128, 256] inb_S128x1024_S128x256_0_0)
  | 1 => View.ld (Val := Elt Ideal) (e' := .f32) X (Rect.unit (s := S128x1024) ![0, 256] ![128, 256] inb_S128x1024_S128x256_0_256)
  | 2 => View.ld (Val := Elt Ideal) (e' := .f32) X (Rect.unit (s := S128x1024) ![0, 512] ![128, 256] inb_S128x1024_S128x256_0_512)
  | 3 => View.ld (Val := Elt Ideal) (e' := .f32) X (Rect.unit (s := S128x1024) ![0, 768] ![128, 256] inb_S128x1024_S128x256_0_768)

/-- Head `h`'s 256 entries of the decay's bias. -/
def colsB (X : FVec Ideal S1x1024 .f32) : Fin 4 → FVec Ideal S1x256 .f32
  | 0 => View.ld (Val := Elt Ideal) (e' := .f32) X (Rect.unit (s := S1x1024) ![0, 0] ![1, 256] inb_S1x1024_S1x256_0_0)
  | 1 => View.ld (Val := Elt Ideal) (e' := .f32) X (Rect.unit (s := S1x1024) ![0, 256] ![1, 256] inb_S1x1024_S1x256_0_256)
  | 2 => View.ld (Val := Elt Ideal) (e' := .f32) X (Rect.unit (s := S1x1024) ![0, 512] ![1, 256] inb_S1x1024_S1x256_0_512)
  | 3 => View.ld (Val := Elt Ideal) (e' := .f32) X (Rect.unit (s := S1x1024) ![0, 768] ![1, 256] inb_S1x1024_S1x256_0_768)

/-- Head `h`'s part of the carried state. -/
def carryOf (X : FVec Ideal S4x512x256 .f32) : Fin 4 → FVec Ideal S512x256 .f32
  | 0 => shapeCast S512x256 (View.ld (Val := Elt Ideal) (e' := .f32) X (Rect.unit (s := S4x512x256) ![0, 0, 0] ![1, 512, 256] inb_S4x512x256_S1x512x256_0_0_0)) shapeCasts_S1x512x256_S512x256
  | 1 => shapeCast S512x256 (View.ld (Val := Elt Ideal) (e' := .f32) X (Rect.unit (s := S4x512x256) ![1, 0, 0] ![1, 512, 256] inb_S4x512x256_S1x512x256_1_0_0)) shapeCasts_S1x512x256_S512x256
  | 2 => shapeCast S512x256 (View.ld (Val := Elt Ideal) (e' := .f32) X (Rect.unit (s := S4x512x256) ![2, 0, 0] ![1, 512, 256] inb_S4x512x256_S1x512x256_2_0_0)) shapeCasts_S1x512x256_S512x256
  | 3 => shapeCast S512x256 (View.ld (Val := Elt Ideal) (e' := .f32) X (Rect.unit (s := S4x512x256) ![3, 0, 0] ![1, 512, 256] inb_S4x512x256_S1x512x256_3_0_0)) shapeCasts_S1x512x256_S512x256

/-- Head `h`'s part of the first state, turned. -/
def startOf (X : FVec Ideal S1x4x256x512 .f32) : Fin 4 → FVec Ideal S512x256 .f32
  | 0 => shapeCast S512x256 (k0_pay7 (View.ld (Val := Elt Ideal) (e' := .f32) X (Rect.unit (s := S1x4x256x512) ![0, 0, 0, 0] ![1, 1, 256, 512] inb_S1x4x256x512_S1x1x256x512_0_0_0_0))) shapeCasts_S1x512x256_S512x256
  | 1 => shapeCast S512x256 (k0_pay8 (View.ld (Val := Elt Ideal) (e' := .f32) X (Rect.unit (s := S1x4x256x512) ![0, 1, 0, 0] ![1, 1, 256, 512] inb_S1x4x256x512_S1x1x256x512_0_1_0_0))) shapeCasts_S1x512x256_S512x256
  | 2 => shapeCast S512x256 (k0_pay9 (View.ld (Val := Elt Ideal) (e' := .f32) X (Rect.unit (s := S1x4x256x512) ![0, 2, 0, 0] ![1, 1, 256, 512] inb_S1x4x256x512_S1x1x256x512_0_2_0_0))) shapeCasts_S1x512x256_S512x256
  | 3 => shapeCast S512x256 (k0_pay10 (View.ld (Val := Elt Ideal) (e' := .f32) X (Rect.unit (s := S1x4x256x512) ![0, 3, 0, 0] ![1, 1, 256, 512] inb_S1x4x256x512_S1x1x256x512_0_3_0_0))) shapeCasts_S1x512x256_S512x256

variable (m : (ℓ : Loc nD τ sig) → Buf (Elt Ideal) ℓ)

/-- Head `h`'s queries, keys, log decays, values and gates at chunk `t`. -/
def qAt (c : Dev nD) (t : Fin cfg0.N) (h : Fin 4) : FVec Ideal S64x256 .f32 := k0_pay13 (colsK (X0_0 m c t) h)
def kAt (c : Dev nD) (t : Fin cfg0.N) (h : Fin 4) : FVec Ideal S64x256 .f32 := colsK (X0_1 m c t) h
def laAt (c : Dev nD) (t : Fin cfg0.N) (h : Fin 4) : FVec Ideal S64x256 .f32 := k0_pay14 (iblk m c 4 t) (colsW (iblk m c 5 t) h) (colsB (iblk m c 6 t) h)
def vAt (c : Dev nD) (t : Fin cfg0.N) (h : Fin 4) : FVec Ideal S64x512 .f32 := colsV (X0_2 m c t) h
def rAt (c : Dev nD) (t : Fin cfg0.N) (h : Fin 4) : FVec Ideal S64x512 .f32 := colsV (X0_3 m c t) h

/-- Head `h`'s output rows of chunk `t` from the state before it. -/
def outAt (c : Dev nD) (t : Fin cfg0.N) (st : Fin 4 → FVec Ideal S512x256 .f32) (h : Fin 4) : FVec Ideal S64x512 .bf16 :=
  truncf .bf16 (headOut (headO (qAt m c t h) (kAt m c t h) (laAt m c t h) (vAt m c t h) (st h)) (rAt m c t h) (iblk m c 7 t)) bitsLt_bf16_f32

/-- Head `h`'s state after chunk `t` from the state before it. -/
def nextAt (c : Dev nD) (t : Fin cfg0.N) (st : Fin 4 → FVec Ideal S512x256 .f32) (h : Fin 4) : FVec Ideal S512x256 .f32 :=
  headSt (kAt m c t h) (laAt m c t h) (vAt m c t h) (st h)

/-- Four heads' rows side by side. -/
def putO (P : Fin 4 → FVec Ideal S64x512 .bf16) : FVec Ideal S64x2048 .bf16 :=
  View.canon (Val := Elt Ideal) (s := S64x2048) (e := .bf16) [⟨Rect.unit (s := S64x2048) ![0, 1536] ![64, 512] inb_S64x2048_S64x512_0_1536, P 3⟩, ⟨Rect.unit (s := S64x2048) ![0, 1024] ![64, 512] inb_S64x2048_S64x512_0_1024, P 2⟩, ⟨Rect.unit (s := S64x2048) ![0, 512] ![64, 512] inb_S64x2048_S64x512_0_512, P 1⟩, ⟨Rect.unit (s := S64x2048) ![0, 0] ![64, 512] inb_S64x2048_S64x512_0_0, P 0⟩]

/-- Four heads' states one after the other, over what was stored before. -/
def putS (P : Fin 4 → FVec Ideal S512x256 .f32) (L : List (View.Piece (Elt Ideal) S4x512x256 .f32)) : FVec Ideal S4x512x256 .f32 :=
  View.canon (Val := Elt Ideal) (s := S4x512x256) (e := .f32) (⟨Rect.unit (s := S4x512x256) ![3, 0, 0] ![1, 512, 256] inb_S4x512x256_S1x512x256_3_0_0, shapeCast S1x512x256 (P 3) shapeCasts_S512x256_S1x512x256⟩ :: ⟨Rect.unit (s := S4x512x256) ![2, 0, 0] ![1, 512, 256] inb_S4x512x256_S1x512x256_2_0_0, shapeCast S1x512x256 (P 2) shapeCasts_S512x256_S1x512x256⟩ :: ⟨Rect.unit (s := S4x512x256) ![1, 0, 0] ![1, 512, 256] inb_S4x512x256_S1x512x256_1_0_0, shapeCast S1x512x256 (P 1) shapeCasts_S512x256_S1x512x256⟩ :: ⟨Rect.unit (s := S4x512x256) ![0, 0, 0] ![1, 512, 256] inb_S4x512x256_S1x512x256_0_0_0, shapeCast S1x512x256 (P 0) shapeCasts_S512x256_S1x512x256⟩ :: L)

/-- Four heads' states turned back, one after the other. -/
def putF (P : Fin 4 → FVec Ideal S512x256 .f32) : FVec Ideal S1x4x256x512 .f32 :=
  View.canon (Val := Elt Ideal) (s := S1x4x256x512) (e := .f32) [⟨Rect.unit (s := S1x4x256x512) ![0, 3, 0, 0] ![1, 1, 256, 512] inb_S1x4x256x512_S1x1x256x512_0_3_0_0, k0_pay6 (F := Ideal) (shapeCast S1x512x256 (P 3) shapeCasts_S512x256_S1x512x256)⟩, ⟨Rect.unit (s := S1x4x256x512) ![0, 2, 0, 0] ![1, 1, 256, 512] inb_S1x4x256x512_S1x1x256x512_0_2_0_0, k0_pay5 (F := Ideal) (shapeCast S1x512x256 (P 2) shapeCasts_S512x256_S1x512x256)⟩, ⟨Rect.unit (s := S1x4x256x512) ![0, 1, 0, 0] ![1, 1, 256, 512] inb_S1x4x256x512_S1x1x256x512_0_1_0_0, k0_pay4 (F := Ideal) (shapeCast S1x512x256 (P 1) shapeCasts_S512x256_S1x512x256)⟩, ⟨Rect.unit (s := S1x4x256x512) ![0, 0, 0, 0] ![1, 1, 256, 512] inb_S1x4x256x512_S1x1x256x512_0_0_0_0, k0_pay3 (F := Ideal) (shapeCast S1x512x256 (P 0) shapeCasts_S512x256_S1x512x256)⟩]

end Cert.GlaIdeal.Value

end
-- ==== Proof.GlaMath.lean ====
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The mathematics both programs share: running sums of log decays, decayed scores, and the exponentials. -/

namespace Cert.GlaMath

/-- The running sum of the first rows of a column. -/
def runSum (a : Fin 64 → EReal) (i : Fin 64) : EReal := ∑ j : Fin 64, if j ≤ i then a j else 0

/-- The decayed score of row `i` with row `j`. -/
def score (q k : Fin 64 → Fin 256 → EReal) (g : Fin 64 → Fin 256 → EReal) (i j : Fin 64) : EReal :=
  if j ≤ i then ∑ x : Fin 256, q i x * k j x * Ideal.exp (g i x - g j x) else 0

/-- A column of real numbers, none above zero. -/
def Decays (a : Fin 64 → Fin 256 → EReal) : Prop := ∀ i x, ∃ r : ℝ, r ≤ 0 ∧ a i x = (r : EReal)

theorem coe_sum_ite (f : Fin 64 → ℝ) (i : Fin 64) :
    (∑ j : Fin 64, if j ≤ i then ((f j : ℝ) : EReal) else 0) = ((∑ j : Fin 64, if j ≤ i then f j else 0 : ℝ) : EReal) := by
  have h : ∀ s : Finset (Fin 64), (∑ j ∈ s, if j ≤ i then ((f j : ℝ) : EReal) else 0) = ((∑ j ∈ s, if j ≤ i then f j else 0 : ℝ) : EReal) := by
    intro s
    induction s using Finset.induction_on with
    | empty => simp
    | insert a s ha ih =>
      rw [Finset.sum_insert ha, Finset.sum_insert ha, ih, EReal.coe_add]
      congr 1
      by_cases hj : a ≤ i <;> simp [hj]
  exact h _

/-- The running sums of decays are real and fall with the row. -/
theorem Decays.sums {a : Fin 64 → Fin 256 → EReal} (h : Decays a) :
    ∃ G : Fin 64 → Fin 256 → ℝ, (∀ i x, runSum (fun j => a j x) i = (G i x : EReal)) ∧ ∀ i j x, j ≤ i → G i x ≤ G j x := by
  choose r hr0 hr using h
  refine ⟨fun i x => ∑ j : Fin 64, if j ≤ i then r j x else 0, fun i x => ?_, fun i j x hji => ?_⟩
  · unfold runSum
    simp only [hr]
    exact coe_sum_ite _ _
  · refine Finset.sum_le_sum fun y _ => ?_
    by_cases h1 : y ≤ j
    · rw [if_pos h1, if_pos (h1.trans hji)]
    · rw [if_neg h1]
      by_cases h2 : y ≤ i
      · rw [if_pos h2]; exact hr0 y x
      · rw [if_neg h2]

theorem exp_min {a b : ℝ} (h : a ≤ b) : Ideal.exp (min ((a : EReal) - (b : EReal)) 0) = Ideal.exp ((a : EReal) - (b : EReal)) := by
  rw [min_eq_left]
  rw [← EReal.coe_sub]
  exact_mod_cast sub_nonpos.mpr h

theorem exp_split {a b c : ℝ} (h : b ≤ c) :
    Ideal.exp ((a : EReal) - (b : EReal)) * Ideal.exp (min ((b : EReal) - (c : EReal)) 0) = Ideal.exp ((a : EReal) - (c : EReal)) := by
  rw [exp_min h, ← EReal.coe_sub, ← EReal.coe_sub, ← EReal.coe_sub, Ideal.exp_coe, Ideal.exp_coe, Ideal.exp_coe, ← EReal.coe_mul, ← Real.exp_add]
  congr 2; ring

/-- The log decay of a gate's argument as the reference takes it: a log sigmoid over sixteen. -/
def refDecay (p : EReal) : EReal :=
  Ideal.div (-if -p ≠ -p then -p else max (-p) 0 + Ideal.log1p (Ideal.exp (-(FloatOps.absf (F := Ideal) (φ := .f32) (-p))))) (Ideal.ofBits .f32 0x41800000#32)

/-- The same as the kernel takes it. -/
def kerDecay (p : EReal) : EReal :=
  (min p 0 - Ideal.log1p (Ideal.exp (0 - FloatOps.absf (F := Ideal) (φ := .f32) p))) * Ideal.ofBits .f32 0x3D800000#32

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem log1p_exp (r : ℝ) : Ideal.log1p (Ideal.exp (r : EReal)) = ((Real.log (1 + Real.exp r) : ℝ) : EReal) := by
  rw [Ideal.exp_coe]
  unfold Ideal.log1p
  rw [show (1 : EReal) + (Real.exp r : EReal) = ((1 + Real.exp r : ℝ) : EReal) by rw [EReal.coe_add]; rfl]
  show (if 1 + Real.exp r ≤ 0 then ⊥ else ((Real.log (1 + Real.exp r) : ℝ) : EReal)) = _
  rw [if_neg (by have := Real.exp_pos r; linarith)]

theorem sixteenth : Ideal.ofBits .f32 0x3D800000#32 = (((1 : ℝ) / 16 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

theorem absf_coe (r : ℝ) : FloatOps.absf (F := Ideal) (φ := .f32) (r : EReal) = ((|r| : ℝ) : EReal) := by
  rw [Ideal.absf_def]
  show max (r : EReal) (-(r : EReal)) = _
  rw [← EReal.coe_neg, ← coe_max]; rfl

theorem kerDecay_coe (r : ℝ) : kerDecay (r : EReal) = (((min r 0 - Real.log (1 + Real.exp (-|r|))) * (1 / 16) : ℝ) : EReal) := by
  unfold kerDecay
  rw [absf_coe, zero_sub, ← EReal.coe_neg, log1p_exp, sixteenth, ← EReal.coe_zero, ← coe_min, ← EReal.coe_sub, ← EReal.coe_mul]

theorem refDecay_coe (r : ℝ) : refDecay (r : EReal) = (((min r 0 - Real.log (1 + Real.exp (-|r|))) * (1 / 16) : ℝ) : EReal) := by
  unfold refDecay
  rw [if_neg (by simp), sixteen, Ideal.div_coe (by norm_num), ← EReal.coe_neg, absf_coe, ← EReal.coe_neg, log1p_exp, ← EReal.coe_zero, ← coe_max, ← EReal.coe_add, ← EReal.coe_neg, ← EReal.coe_mul]
  congr 2
  rw [abs_neg, ← neg_zero, max_neg_neg]
  ring_nf

/-- A finite gate argument has a real log decay, not above zero. -/
theorem refDecay_nonpos (r : ℝ) : ∃ d : ℝ, d ≤ 0 ∧ refDecay (r : EReal) = (d : EReal) := by
  refine ⟨_, ?_, refDecay_coe r⟩
  have h1 : min r 0 ≤ 0 := min_le_right _ _
  have h2 : 0 ≤ Real.log (1 + Real.exp (-|r|)) := Real.log_nonneg (by have := Real.exp_pos (-|r|); linarith)
  nlinarith

theorem kerDecay_eq (r : ℝ) : kerDecay (r : EReal) = refDecay (r : EReal) := (kerDecay_coe r).trans (refDecay_coe r).symm

/-- An extended real whose absolute value compares below +∞ is real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have e : Ideal.ofBits FTy.f32 0x7F800000#32 = ⊤ := by simp [Ideal.ofBits, Ideal.ieee]
  rw [e] at h
  replace h : Ideal.cmp .olt (max x (-x)) ⊤ = 1#1 := h
  induction x with
  | coe r => exact ⟨r, rfl⟩
  | bot => exact absurd h (by simp [Ideal.cmp])
  | top => exact absurd h (by simp [Ideal.cmp])

/-- The sum over the padded codes is the sum over the sixteen codes. -/
theorem sum_low (f : Fin 128 → EReal) (h : ∀ x : Fin 128, 16 ≤ x.val → f x = 0) : ∑ x : Fin 128, f x = ∑ x : Fin 16, f ⟨x.val, by omega⟩ := by
  refine (Fin.sum_univ_add (a := 16) (b := 112) f).trans ?_
  rw [Finset.sum_eq_zero (s := Finset.univ) (f := fun i : Fin 112 => f (Fin.natAdd 16 i)) fun x _ => h _ (by simp), add_zero]
  rfl

/-- A left-to-right sum is the sum. -/
theorem foldl_add (n : ℕ) (f : Fin n → EReal) (v : EReal) : (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

end Cert.GlaMath

end
-- ==== Proof.GlaAtt.lean ====
module

public import proofs.«01_k».proof.Proof.GlaModel
public import proofs.«01_k».proof.Proof.GlaMath

@[expose] public section

set_option maxRecDepth 16384

noncomputable section

open Idealize.ShloMosaic Idealize.ShloMosaic.TcCoe Idealize.SL.Sem

/-! The kernel's scores: three blocks below the diagonal blocks and sixteen diagonals inside them are the decayed scores. -/

namespace Cert.GlaIdeal.Value

open Cert.GlaIdeal Cert.GlaIdeal.Gen Cert.GlaMath

theorem rem_at (i j : Fin 64) : remRow (ix2 i j) = BitVec.ofNat 32 (i.val % 16) := by
  pointwise [remRow]
  revert i; decide +kernel

theorem blk_row (i j : Fin 64) : k0_pay24 rowI (ix2 i j) = BitVec.ofNat 32 (i.val / 16) := by
  pointwise [k0_pay24]
  revert i; decide +kernel

theorem blk_col (i j : Fin 64) : blkOf colI (ix2 i j) = BitVec.ofNat 32 (j.val / 16) := by
  pointwise [blkOf, k0_pay25, k0_pay26]
  revert j; decide +kernel

/-- One entry of the matrix that sums the rows so far. -/
theorem below (i j : Fin 64) : FloatOps.sitofp (F := Ideal) FTy.f32 (BitVec.setWidth 32 (IntOp.cmpi CmpIPredicate.sle (BitVec.ofNat 32 j.val) (BitVec.ofNat 32 i.val)))
    = (if j ≤ i then (1 : EReal) else 0) := by
  have h : IntOp.cmpi CmpIPredicate.sle (BitVec.ofNat 32 j.val) (BitVec.ofNat 32 i.val) = if j ≤ i then 1#1 else 0#1 := by
    revert i j; decide +kernel
  rw [h]
  by_cases hj : j ≤ i
  · rw [if_pos hj, if_pos hj]; show (((BitVec.setWidth 32 1#1).toInt : ℝ) : EReal) = 1
    simp
  · rw [if_neg hj, if_neg hj]; show (((BitVec.setWidth 32 0#1).toInt : ℝ) : EReal) = 0
    simp

theorem g_at (la : FVec Ideal S64x256 .f32) (i : Fin 64) (x : Fin 256) :
    k0_pay15 la (ix2 i x) = runSum (fun j => la (ix2 j x)) i := by
  unfold runSum
  pointwise [k0_pay15]
  refine Finset.sum_congr rfl fun j _ => ?_
  rw [below]
  by_cases hj : j ≤ i
  · rw [if_pos hj, if_pos hj]; exact one_mul _
  · rw [if_neg hj, if_neg hj]; exact zero_mul _

/-- Whether a diagonal passes through an entry. -/
theorem mask_at (d : Fin 16) (i j : Fin 64) :
    IntOp.andi (IntOp.cmpi CmpIPredicate.eq (IntOp.subi (BitVec.ofNat 32 i.val) (BitVec.ofNat 32 j.val)) (BitVec.ofNat 32 d.val))
      (IntOp.cmpi CmpIPredicate.sge (BitVec.ofNat 32 (i.val % 16)) (BitVec.ofNat 32 d.val))
    = if i.val = j.val + d.val ∧ d.val ≤ i.val % 16 then 1#1 else 0#1 := by
  have h1 : IntOp.cmpi CmpIPredicate.sge (BitVec.ofNat 32 (i.val % 16)) (BitVec.ofNat 32 d.val) = if d.val ≤ i.val % 16 then 1#1 else 0#1 := by
    revert d i; decide +kernel
  have h2 : (BitVec.ofNat 32 i.val - BitVec.ofNat 32 j.val = BitVec.ofNat 32 d.val) ↔ i.val = j.val + d.val := by
    rw [← BitVec.toNat_inj, BitVec.toNat_sub, BitVec.toNat_ofNat, BitVec.toNat_ofNat, BitVec.toNat_ofNat]
    have := i.isLt; have := j.isLt; have := d.isLt
    omega
  have h3 : IntOp.cmpi CmpIPredicate.eq (IntOp.subi (BitVec.ofNat 32 i.val) (BitVec.ofNat 32 j.val)) (BitVec.ofNat 32 d.val) = if i.val = j.val + d.val then 1#1 else 0#1 := by
    show BitVec.ofBool (BitVec.ofNat 32 i.val - BitVec.ofNat 32 j.val == BitVec.ofNat 32 d.val) = _
    by_cases h : i.val = j.val + d.val
    · rw [if_pos h, beq_iff_eq.mpr (h2.mpr h)]; rfl
    · rw [if_neg h, beq_eq_false_iff_ne.mpr fun hc => h (h2.mp hc)]; rfl
  rw [h1, h3]
  by_cases h : i.val = j.val + d.val
  · by_cases h' : d.val ≤ i.val % 16
    · rw [if_pos h, if_pos h', if_pos ⟨h, h'⟩]; rfl
    · rw [if_pos h, if_neg h', if_neg fun c => h' c.2]; rfl
  · by_cases h' : d.val ≤ i.val % 16
    · rw [if_neg h, if_pos h', if_neg fun c => h c.1]; rfl
    · rw [if_neg h, if_neg h', if_neg fun c => h c.1]; rfl

theorem putDiag_at (d : Fin 16) (col : FVec Ideal S64x1 .f32) (att : FVec Ideal S64x64 .f32) (i j : Fin 64) :
    putDiag (BitVec.ofNat 32 d.val) col att (ix2 i j) = if i.val = j.val + d.val ∧ d.val ≤ i.val % 16 then col (ix2 i 0) else att (ix2 i j) := by
  pointwise [putDiag, diagMask, rem_at]
  rw [mask_at]
  by_cases h : i.val = j.val + d.val ∧ d.val ≤ i.val % 16
  · rw [if_pos h, if_pos h]; rfl
  · rw [if_neg h, if_neg h]; rfl

theorem diagAt_at (d : Fin 16) (q k g : FVec Ideal S64x256 .f32) (i j : Fin 64) (h : i.val = j.val + d.val) :
    diagAt (BitVec.ofNat 32 d.val) q k g (ix2 i 0) = ∑ x : Fin 256, q (ix2 i x) * k (ix2 j x) * Ideal.exp (min (g (ix2 i x) - g (ix2 j x)) 0) := by
  pointwise [diagAt]
  have hj : (⟨(i.val + 64 - (BitVec.ofNat 32 d.val).toNat % 64) % 64, Nat.mod_lt _ (by decide)⟩ : Fin 64) = j := by
    apply Fin.ext
    rw [BitVec.toNat_ofNat]
    show (i.val + 64 - d.val % 2 ^ 32 % 64) % 64 = j.val
    have := d.isLt; have := j.isLt; have := i.isLt
    omega
  show (∑ x : Fin 256, q (ix2 i x) * k (ix2 (⟨(i.val + 64 - (BitVec.ofNat 32 d.val).toNat % 64) % 64, Nat.mod_lt _ (by decide)⟩ : Fin 64) x) *
    Ideal.exp (min (g (ix2 i x) - g (ix2 (⟨(i.val + 64 - (BitVec.ofNat 32 d.val).toNat % 64) % 64, Nat.mod_lt _ (by decide)⟩ : Fin 64) x)) 0)) = _
  rw [hj]

variable (q k la : FVec Ideal S64x256 .f32)

theorem pay19_at (i : Fin 16) (j : Fin 64) :
    k0_pay19 (F := Ideal) k q la (ix2 i j) = ∑ x : Fin 256, q (ix2 ⟨16 + i.val, by omega⟩ x) * Ideal.exp (k0_pay15 la (ix2 ⟨16 + i.val, by omega⟩ x) - k0_pay15 la (ix2 15 x))
      * (k (ix2 j x) * Ideal.exp (min (k0_pay15 la (ix2 15 x) - k0_pay15 la (ix2 j x)) 0)) := by
  pointwise [k0_pay19, k0_pay17]

theorem pay20_at (i : Fin 16) (j : Fin 64) :
    k0_pay20 (F := Ideal) k q la (ix2 i j) = ∑ x : Fin 256, q (ix2 ⟨32 + i.val, by omega⟩ x) * Ideal.exp (k0_pay15 la (ix2 ⟨32 + i.val, by omega⟩ x) - k0_pay15 la (ix2 31 x))
      * (k (ix2 j x) * Ideal.exp (min (k0_pay15 la (ix2 31 x) - k0_pay15 la (ix2 j x)) 0)) := by
  pointwise [k0_pay20, k0_pay17]
  refine Finset.sum_congr rfl fun x _ => ?_
  rw [dif_neg (by omega), dif_neg (by omega), dif_pos (by omega)]

theorem pay23_at (i : Fin 16) (j : Fin 64) :
    k0_pay23 (F := Ideal) (k0_pay21 k la) (k0_pay22 q la) (ix2 i j) = ∑ x : Fin 256, q (ix2 ⟨48 + i.val, by omega⟩ x) * Ideal.exp (k0_pay15 la (ix2 ⟨48 + i.val, by omega⟩ x) - k0_pay15 la (ix2 47 x))
      * (k (ix2 j x) * Ideal.exp (min (k0_pay15 la (ix2 47 x) - k0_pay15 la (ix2 j x)) 0)) := by
  pointwise [k0_pay23, k0_pay21, k0_pay22, k0_pay17]
  refine Finset.sum_congr rfl fun x _ => ?_
  rw [dif_neg (by omega), dif_neg (by omega), dif_neg (by omega)]

variable (G : Fin 64 → Fin 256 → ℝ) (hG : ∀ i x, k0_pay15 la (ix2 i x) = (G i x : EReal)) (hm : ∀ i j x, j ≤ i → G i x ≤ G j x)

include hG hm in
/-- A far entry's product, split at the row before the block, is the decayed product. -/
theorem far_split (i r j : Fin 64) (hj : j ≤ r) (x : Fin 256) :
    q (ix2 i x) * Ideal.exp (k0_pay15 la (ix2 i x) - k0_pay15 la (ix2 r x)) * (k (ix2 j x) * Ideal.exp (min (k0_pay15 la (ix2 r x) - k0_pay15 la (ix2 j x)) 0))
      = q (ix2 i x) * k (ix2 j x) * Ideal.exp (k0_pay15 la (ix2 i x) - k0_pay15 la (ix2 j x)) := by
  rw [hG, hG, hG, ← exp_split (hm r j x hj)]
  exact mul_mul_mul_comm _ _ _ _

theorem far_sel (i j : Fin 64) (a b : EReal) : Scalar.select (IntOp.cmpi CmpIPredicate.sgt (BitVec.ofNat 32 (i.val / 16)) (BitVec.ofNat 32 (j.val / 16))) a b
    = if j.val / 16 < i.val / 16 then a else b := by
  have h : IntOp.cmpi CmpIPredicate.sgt (BitVec.ofNat 32 (i.val / 16)) (BitVec.ofNat 32 (j.val / 16)) = if j.val / 16 < i.val / 16 then 1#1 else 0#1 := by
    revert i j; decide +kernel
  rw [h]
  by_cases h : j.val / 16 < i.val / 16
  · rw [if_pos h, if_pos h]; rfl
  · rw [if_neg h, if_neg h]; rfl

include hG hm in
theorem farAtt_at (i j : Fin 64) : farAtt q k la (ix2 i j)
    = if j.val / 16 < i.val / 16 then ∑ x : Fin 256, q (ix2 i x) * k (ix2 j x) * Ideal.exp (k0_pay15 la (ix2 i x) - k0_pay15 la (ix2 j x)) else 0 := by
  pointwise [farAtt, blk_row, blk_col]
  rw [far_sel]
  by_cases h : j.val / 16 < i.val / 16
  · rw [if_pos h, if_pos h]
    have hi := i.isLt
    by_cases h0 : i.val < 16
    · omega
    rw [dif_neg h0]
    by_cases h1 : i.val - 16 < 16
    · rw [dif_pos h1, pay19_at]
      have e : (⟨16 + (⟨i.val - 16, h1⟩ : Fin 16).val, by omega⟩ : Fin 64) = i := Fin.ext (by show 16 + (i.val - 16) = i.val; omega)
      refine Finset.sum_congr rfl fun x _ => ?_
      rw [e]
      exact far_split q k la G hG hm i 15 j (Fin.le_def.mpr (by show j.val ≤ 15; omega)) x
    rw [dif_neg h1]
    by_cases h2 : i.val - 16 - 16 < 16
    · rw [dif_pos h2, pay20_at]
      have e : (⟨32 + (⟨i.val - 16 - 16, h2⟩ : Fin 16).val, by omega⟩ : Fin 64) = i := Fin.ext (by show 32 + (i.val - 16 - 16) = i.val; omega)
      refine Finset.sum_congr rfl fun x _ => ?_
      rw [e]
      exact far_split q k la G hG hm i 31 j (Fin.le_def.mpr (by show j.val ≤ 31; omega)) x
    rw [dif_neg h2, pay23_at]
    have e : (⟨48 + (⟨i.val - 16 - 16 - 16, by omega⟩ : Fin 16).val, by omega⟩ : Fin 64) = i := Fin.ext (by show 48 + (i.val - 16 - 16 - 16) = i.val; omega)
    refine Finset.sum_congr rfl fun x _ => ?_
    rw [e]
    exact far_split q k la G hG hm i 47 j (Fin.le_def.mpr (by show j.val ≤ 47; omega)) x
  · rw [if_neg h, if_neg h]

include hG hm in
/-- After the diagonals at distances up to `n`: the blocks below, and the entries no further than `n` below the diagonal. -/
theorem attUpTo_at (n : ℕ) (hn : n < 16) (i j : Fin 64) : attUpTo q k la n (ix2 i j)
    = if j.val / 16 < i.val / 16 ∨ (j.val / 16 = i.val / 16 ∧ j ≤ i ∧ i.val - j.val ≤ n) then
        ∑ x : Fin 256, q (ix2 i x) * k (ix2 j x) * Ideal.exp (k0_pay15 la (ix2 i x) - k0_pay15 la (ix2 j x)) else 0 := by
  induction n with
  | zero =>
    show putDiag (BitVec.ofNat 32 (0 : Fin 16).val) _ _ (ix2 i j) = _
    rw [putDiag_at]
    by_cases h : i.val = j.val + (0 : Fin 16).val ∧ (0 : Fin 16).val ≤ i.val % 16
    · have e : i = j := Fin.ext h.1
      subst e
      rw [if_pos h, if_pos (Or.inr ⟨rfl, le_refl _, by omega⟩)]
      pointwise [diagZero]
      refine Finset.sum_congr rfl fun x _ => ?_
      rw [hG, ← EReal.coe_sub, sub_self, Ideal.exp_coe, Real.exp_zero]
      exact (mul_one _).symm
    · rw [if_neg h, farAtt_at q k la G hG hm]
      have e : (j.val / 16 < i.val / 16 ∨ (j.val / 16 = i.val / 16 ∧ j ≤ i ∧ i.val - j.val ≤ 0)) ↔ j.val / 16 < i.val / 16 := by
        refine ⟨fun hh => ?_, Or.inl⟩
        rcases hh with hh | ⟨_, h2, h3⟩
        · exact hh
        · exact absurd ⟨by have := Fin.le_def.mp h2; show i.val = j.val + 0; omega, Nat.zero_le _⟩ h
      simp only [e]
  | succ n ih =>
    show putDiag (BitVec.ofNat 32 (⟨n + 1, hn⟩ : Fin 16).val) (diagAt (BitVec.ofNat 32 (⟨n + 1, hn⟩ : Fin 16).val) q k (k0_pay15 la)) (attUpTo q k la n) (ix2 i j) = _
    rw [putDiag_at]
    by_cases h : i.val = j.val + (⟨n + 1, hn⟩ : Fin 16).val ∧ (⟨n + 1, hn⟩ : Fin 16).val ≤ i.val % 16
    · have h1 : i.val = j.val + (n + 1) := h.1
      have h2 : n + 1 ≤ i.val % 16 := h.2
      have hle : j ≤ i := Fin.le_def.mpr (by omega)
      rw [if_pos h, diagAt_at _ q k _ i j h.1, if_pos (Or.inr ⟨by omega, hle, by omega⟩)]
      refine Finset.sum_congr rfl fun x _ => ?_
      rw [hG, hG, exp_min (hm i j x hle)]
    · rw [if_neg h, ih (by omega)]
      have e : (j.val / 16 < i.val / 16 ∨ (j.val / 16 = i.val / 16 ∧ j ≤ i ∧ i.val - j.val ≤ n + 1)) ↔ (j.val / 16 < i.val / 16 ∨ (j.val / 16 = i.val / 16 ∧ j ≤ i ∧ i.val - j.val ≤ n)) := by
        refine ⟨fun hh => ?_, fun hh => ?_⟩
        · rcases hh with hh | ⟨h1, h2, h3⟩
          · exact Or.inl hh
          · refine Or.inr ⟨h1, h2, ?_⟩
            by_contra hc
            have := Fin.le_def.mp h2
            exact h ⟨by show i.val = j.val + (n + 1); omega, by show n + 1 ≤ i.val % 16; omega⟩
        · rcases hh with hh | ⟨h1, h2, h3⟩
          · exact Or.inl hh
          · exact Or.inr ⟨h1, h2, by omega⟩
      simp only [e]

/-- The kernel's scores are the decayed scores of the running sums. -/
theorem att_at (h : Decays fun i x => la (ix2 i x)) (i j : Fin 64) : attUpTo q k la 15 (ix2 i j)
    = score (fun i x => q (ix2 i x)) (fun i x => k (ix2 i x)) (fun i x => runSum (fun j => la (ix2 j x)) i) i j := by
  obtain ⟨G, hG, hm⟩ := h.sums
  have hG' : ∀ i x, k0_pay15 la (ix2 i x) = (G i x : EReal) := fun i x => (g_at la i x).trans (hG i x)
  rw [attUpTo_at q k la G hG' hm 15 (by decide) i j]
  unfold score
  have e : (j.val / 16 < i.val / 16 ∨ (j.val / 16 = i.val / 16 ∧ j ≤ i ∧ i.val - j.val ≤ 15)) ↔ j ≤ i := by
    rw [Fin.le_def]; omega
  simp only [e, g_at]

end Cert.GlaIdeal.Value

end
-- ==== Proof.GlaSpec.lean ====
module

public import proofs.«01_k».proof.Proof.GlaMath

@[expose] public section

set_option maxRecDepth 16384

noncomputable section

open Idealize.ShloMosaic

/-! The recurrence over the chunks, which both programs compute. -/

namespace Cert.GlaMath

/-- A chunk's queries, keys, log decays (head, row, column) and values. -/
structure Chunks where
  q : Fin 128 → Fin 4 → Fin 64 → Fin 256 → EReal
  k : Fin 128 → Fin 4 → Fin 64 → Fin 256 → EReal
  a : Fin 128 → Fin 4 → Fin 64 → Fin 256 → EReal
  v : Fin 128 → Fin 4 → Fin 64 → Fin 512 → EReal

/-- The chunk of a number. -/
def chunk (n : ℕ) : Fin 128 := ⟨n % 128, Nat.mod_lt _ (by decide)⟩

theorem chunk_val (n : Fin 128) : chunk n.val = n := Fin.ext (Nat.mod_eq_of_lt n.isLt)

/-- The running sums of a chunk's log decays. -/
def Chunks.g (D : Chunks) (n : Fin 128) (h : Fin 4) (i : Fin 64) (x : Fin 256) : EReal := runSum (fun j => D.a n h j x) i

/-- The state before chunk `n`: zero before the first, then decayed by the chunk's whole decay plus the chunk's own keys and values. -/
def Chunks.state (D : Chunks) : ℕ → Fin 4 → Fin 256 → Fin 512 → EReal
  | 0 => fun _ _ _ => 0
  | n + 1 => fun h x l => Ideal.exp (D.g (chunk n) h 63 x) * D.state n h x l
      + ∑ j : Fin 64, D.k (chunk n) h j x * Ideal.exp (D.g (chunk n) h 63 x - D.g (chunk n) h j x) * D.v (chunk n) h j l

/-- A chunk's rows before the norm: the read of the state and the chunk's own scores. -/
def Chunks.rows (D : Chunks) (n : Fin 128) (h : Fin 4) (i : Fin 64) (l : Fin 512) : EReal :=
  ∑ x : Fin 256, D.state n.val h x l * (D.q n h i x * Ideal.exp (D.g n h i x))
    + ∑ j : Fin 64, D.v n h j l * score (D.q n h) (D.k n h) (D.g n h) i j

/-- The norm over a head's columns, the gain and the output gate. -/
def gated (o : Fin 512 → EReal) (gain r : EReal) (l : Fin 512) : EReal :=
  o l * Ideal.rsqrt (Ideal.div (∑ x : Fin 512, o x * o x) (Ideal.ofBits .f32 0x44000000#32) + Ideal.ofBits .f32 0x358637BD#32) * gain
    * (r * Ideal.div 1 (1 + Ideal.exp (-r)))

end Cert.GlaMath

end
-- ==== Proof.GlaHead.lean ====
module

public import proofs.«01_k».proof.Proof.GlaAtt
public import proofs.«01_k».proof.Proof.GlaSpec

@[expose] public section

set_option maxRecDepth 16384

noncomputable section

open Idealize.ShloMosaic Idealize.ShloMosaic.TcCoe Idealize.SL.Sem
open Idealize.ShloMosaic.Pipeline (Dat)

/-! One head of one chunk, entry by entry. -/

namespace Cert.GlaIdeal.Value

open Cert.GlaIdeal Cert.GlaIdeal.Gen Cert.GlaMath

/-- The running sums of an array of log decays. -/
abbrev sums (la : FVec Ideal S64x256 .f32) (i : Fin 64) (x : Fin 256) : EReal := runSum (fun j => la (ix2 j x)) i

theorem headO_at (q k la : FVec Ideal S64x256 .f32) (v : FVec Ideal S64x512 .f32) (st : FVec Ideal S512x256 .f32)
    (hd : Decays fun i x => la (ix2 i x)) (i : Fin 64) (l : Fin 512) :
    headO q k la v st (ix2 i l) = ∑ x : Fin 256, st (ix2 l x) * (q (ix2 i x) * Ideal.exp (sums la i x))
      + ∑ j : Fin 64, v (ix2 j l) * score (fun i x => q (ix2 i x)) (fun i x => k (ix2 i x)) (sums la) i j := by
  pointwise [headO]
  refine Ideal.add_congr (Finset.sum_congr rfl fun x _ => ?_) (Finset.sum_congr rfl fun j _ => ?_)
  · rw [g_at]; exact _root_.mul_comm (G := EReal) _ _
  · rw [att_at q k la hd]; exact _root_.mul_comm (G := EReal) _ _

theorem headSt_at (k la : FVec Ideal S64x256 .f32) (v : FVec Ideal S64x512 .f32) (st : FVec Ideal S512x256 .f32) (l : Fin 512) (x : Fin 256) :
    headSt k la v st (ix2 l x) = Ideal.exp (sums la 63 x) * st (ix2 l x)
      + ∑ j : Fin 64, k (ix2 j x) * Ideal.exp (sums la 63 x - sums la j x) * v (ix2 j l) := by
  pointwise [headSt, k0_pay16]
  refine Ideal.add_congr (Ideal.mul_congr (congrArg Ideal.exp (g_at la 63 x)) rfl) (Finset.sum_congr rfl fun j _ => ?_)
  rw [g_at, g_at]
  exact _root_.mul_comm (G := EReal) _ _

theorem headOut_at (o r : FVec Ideal S64x512 .f32) (go : FVec Ideal S1x512 .f32) (i : Fin 64) (l : Fin 512) :
    headOut o r go (ix2 i l) = gated (fun x => o (ix2 i x)) (go (ix2 0 l)) (r (ix2 i l)) l := by
  unfold gated
  pointwise [headOut, Ideal.logistic]

theorem decay_at (z : FVec Ideal S64x128 .f32) (w : FVec Ideal S128x256 .f32) (b : FVec Ideal S1x256 .f32) (i : Fin 64) (l : Fin 256) :
    k0_pay14 (F := Ideal) z w b (ix2 i l) = kerDecay (∑ x : Fin 128, z (ix2 i x) * w (ix2 x l) + b (ix2 0 l)) := by
  unfold kerDecay
  pointwise [k0_pay14]

theorem query_at (q : FVec Ideal S64x256 .f32) (i : Fin 64) (l : Fin 256) :
    k0_pay13 (F := Ideal) q (ix2 i l) = q (ix2 i l) * Ideal.ofBits .f32 0x3D800000#32 := by
  pointwise [k0_pay13]

theorem colsK_at (X : FVec Ideal S64x1024 .f32) (h : Fin 4) (i : Fin 64) (l : Fin 256) :
    colsK X h (ix2 i l) = X (ix2 i ⟨h.val * 256 + l.val, by omega⟩) := by
  match h with
  | 0 => simp only [colsK]; pointwise []
  | 1 => simp only [colsK]; pointwise []
  | 2 => simp only [colsK]; pointwise []
  | 3 => simp only [colsK]; pointwise []

theorem colsV_at (X : FVec Ideal S64x2048 .f32) (h : Fin 4) (i : Fin 64) (l : Fin 512) :
    colsV X h (ix2 i l) = X (ix2 i ⟨h.val * 512 + l.val, by omega⟩) := by
  match h with
  | 0 => simp only [colsV]; pointwise []
  | 1 => simp only [colsV]; pointwise []
  | 2 => simp only [colsV]; pointwise []
  | 3 => simp only [colsV]; pointwise []

theorem colsW_at (X : FVec Ideal S128x1024 .f32) (h : Fin 4) (i : Fin 128) (l : Fin 256) :
    colsW X h (ix2 i l) = X (ix2 i ⟨h.val * 256 + l.val, by omega⟩) := by
  match h with
  | 0 => simp only [colsW]; pointwise []
  | 1 => simp only [colsW]; pointwise []
  | 2 => simp only [colsW]; pointwise []
  | 3 => simp only [colsW]; pointwise []

theorem colsB_at (X : FVec Ideal S1x1024 .f32) (h : Fin 4) (l : Fin 256) :
    colsB X h (ix2 0 l) = X (ix2 0 ⟨h.val * 256 + l.val, by omega⟩) := by
  match h with
  | 0 => simp only [colsB]; pointwise []
  | 1 => simp only [colsB]; pointwise []
  | 2 => simp only [colsB]; pointwise []
  | 3 => simp only [colsB]; pointwise []

theorem carryOf_at (X : FVec Ideal S4x512x256 .f32) (h : Fin 4) (l : Fin 512) (x : Fin 256) :
    carryOf X h (ix2 l x) = X (ix3 h l x) := by
  match h with
  | 0 => simp only [carryOf]; pointwise []
  | 1 => simp only [carryOf]; pointwise []
  | 2 => simp only [carryOf]; pointwise []
  | 3 => simp only [carryOf]; pointwise []

theorem startOf_at (X : FVec Ideal S1x4x256x512 .f32) (h : Fin 4) (l : Fin 512) (x : Fin 256) :
    startOf X h (ix2 l x) = X (ix4 0 h x l) := by
  match h with
  | 0 => simp only [startOf]; pointwise [k0_pay7]
  | 1 => simp only [startOf]; pointwise [k0_pay8]
  | 2 => simp only [startOf]; pointwise [k0_pay9]
  | 3 => simp only [startOf]; pointwise [k0_pay10]

theorem putO_at (P : Fin 4 → FVec Ideal S64x512 .bf16) (h : Fin 4) (i : Fin 64) (l : Fin 512) :
    putO P (ix2 i ⟨h.val * 512 + l.val, by omega⟩) = P h (ix2 i l) := by
  unfold putO
  canon_tiles x e
  case piece0 =>
    have a0 : i.val = (x 0).val := e0
    have a1 : h.val * 512 + l.val = 1536 + (x 1).val := e1
    obtain rfl : h = 3 := Fin.ext (by show h.val = 3; omega)
    refine congrArg (P 3) (funext fun a => ?_)
    match a with
    | 0 => exact Fin.ext a0.symm
    | 1 => exact Fin.ext (by show (x 1).val = l.val; have : (((3 : Fin 4)).val) = 3 := rfl; omega)
  case piece1 =>
    have a0 : i.val = (x 0).val := e0
    have a1 : h.val * 512 + l.val = 1024 + (x 1).val := e1
    obtain rfl : h = 2 := Fin.ext (by show h.val = 2; omega)
    refine congrArg (P 2) (funext fun a => ?_)
    match a with
    | 0 => exact Fin.ext a0.symm
    | 1 => exact Fin.ext (by show (x 1).val = l.val; have : (((2 : Fin 4)).val) = 2 := rfl; omega)
  case piece2 =>
    have a0 : i.val = (x 0).val := e0
    have a1 : h.val * 512 + l.val = 512 + (x 1).val := e1
    obtain rfl : h = 1 := Fin.ext (by show h.val = 1; omega)
    refine congrArg (P 1) (funext fun a => ?_)
    match a with
    | 0 => exact Fin.ext a0.symm
    | 1 => exact Fin.ext (by show (x 1).val = l.val; have : (((1 : Fin 4)).val) = 1 := rfl; omega)
  case piece3 =>
    have a0 : i.val = (x 0).val := e0
    have a1 : h.val * 512 + l.val = (x 1).val := e1
    obtain rfl : h = 0 := Fin.ext (by show h.val = 0; omega)
    refine congrArg (P 0) (funext fun a => ?_)
    match a with
    | 0 => exact Fin.ext a0.symm
    | 1 => exact Fin.ext (by show (x 1).val = l.val; have : (((0 : Fin 4)).val) = 0 := rfl; omega)

/-- Earlier stores do not show where the later ones cover. -/
theorem canon_over {s : Shape} {ty : EltTy} (A L : List (View.Piece (Elt Ideal) s ty)) (y : s.Idx) (hc : ∃ p ∈ A, y ∈ p.1.set) :
    View.canon (Val := Elt Ideal) (A ++ L) y = View.canon (Val := Elt Ideal) A y := by
  induction A with
  | nil => obtain ⟨p, hp, _⟩ := hc; exact absurd hp List.not_mem_nil
  | cons p A ih =>
    by_cases hm : y ∈ p.1.set
    · obtain ⟨x, rfl⟩ := p.1.exists_idx_of_mem hm
      exact (View.canon_cons_emb p.1 p.2 (A ++ L) x).trans (View.canon_cons_emb p.1 p.2 A x).symm
    · refine (View.canon_cons_of_not_mem p (A ++ L) hm).trans (Eq.trans (ih ?_) (View.canon_cons_of_not_mem p A hm).symm)
      obtain ⟨q, hq, hy⟩ := hc
      rcases List.mem_cons.mp hq with rfl | hq
      · exact absurd hy hm
      · exact ⟨q, hq, hy⟩

theorem putS_nil_at (P : Fin 4 → FVec Ideal S512x256 .f32) (h : Fin 4) (l : Fin 512) (x : Fin 256) :
    putS P [] (ix3 h l x) = P h (ix2 l x) := by
  unfold putS
  canon_tiles y e
  case piece0 =>
    have a0 : h.val = 3 + (y 0).val := e0
    obtain rfl : h = 3 := Fin.ext (by show h.val = 3; omega)
    have b1 : l = y 1 := Fin.ext e1
    have b2 : x = y 2 := Fin.ext e2
    subst b1 b2
    pointwise []
  case piece1 =>
    have a0 : h.val = 2 + (y 0).val := e0
    obtain rfl : h = 2 := Fin.ext (by show h.val = 2; omega)
    have b1 : l = y 1 := Fin.ext e1
    have b2 : x = y 2 := Fin.ext e2
    subst b1 b2
    pointwise []
  case piece2 =>
    have a0 : h.val = 1 + (y 0).val := e0
    obtain rfl : h = 1 := Fin.ext (by show h.val = 1; omega)
    have b1 : l = y 1 := Fin.ext e1
    have b2 : x = y 2 := Fin.ext e2
    subst b1 b2
    pointwise []
  case piece3 =>
    have a0 : h.val = (y 0).val := e0
    obtain rfl : h = 0 := Fin.ext (by show h.val = 0; omega)
    have b1 : l = y 1 := Fin.ext e1
    have b2 : x = y 2 := Fin.ext e2
    subst b1 b2
    pointwise []

theorem putS_at (P : Fin 4 → FVec Ideal S512x256 .f32) (L : List (View.Piece (Elt Ideal) S4x512x256 .f32)) (h : Fin 4) (l : Fin 512) (x : Fin 256) :
    putS P L (ix3 h l x) = P h (ix2 l x) := by
  refine Eq.trans ?_ (putS_nil_at P h l x)
  exact canon_over [_, _, _, _] L _ (View.cover_of_tiled_head _ _ _ rfl _)

theorem putF_at (P : Fin 4 → FVec Ideal S512x256 .f32) (h : Fin 4) (l : Fin 512) (x : Fin 256) :
    putF P (ix4 0 h x l) = P h (ix2 l x) := by
  unfold putF
  canon_tiles y e
  case piece0 =>
    have a0 : h.val = 3 + (y 1).val := e1
    obtain rfl : h = 3 := Fin.ext (by show h.val = 3; omega)
    have b1 : x = y 2 := Fin.ext e2
    have b2 : l = y 3 := Fin.ext e3
    subst b1 b2
    pointwise [k0_pay6]
  case piece1 =>
    have a0 : h.val = 2 + (y 1).val := e1
    obtain rfl : h = 2 := Fin.ext (by show h.val = 2; omega)
    have b1 : x = y 2 := Fin.ext e2
    have b2 : l = y 3 := Fin.ext e3
    subst b1 b2
    pointwise [k0_pay5]
  case piece2 =>
    have a0 : h.val = 1 + (y 1).val := e1
    obtain rfl : h = 1 := Fin.ext (by show h.val = 1; omega)
    have b1 : x = y 2 := Fin.ext e2
    have b2 : l = y 3 := Fin.ext e3
    subst b1 b2
    pointwise [k0_pay4]
  case piece3 =>
    have a0 : h.val = (y 1).val := e1
    obtain rfl : h = 0 := Fin.ext (by show h.val = 0; omega)
    have b1 : x = y 2 := Fin.ext e2
    have b2 : l = y 3 := Fin.ext e3
    subst b1 b2
    pointwise [k0_pay3]

end Cert.GlaIdeal.Value

end
-- ==== Proof.GlaBlk.lean ====
module

public import proofs.«01_k».proof.Proof.GlaHead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The blocks a chunk reads, as entries of the arguments. -/

namespace Cert.GlaIdeal.Value

open Cert.GlaIdeal Cert.GlaIdeal.Gen Cert.GlaMath

variable (m : (ℓ : Loc nD τ sig) → Buf (Elt Ideal) ℓ) (c : Dev nD)

/-- The kernel's arguments. -/
abbrev kerG : FVec Ideal S8192x6272 .f32 := m ((c.tc : Thread nD τ).loc main_arg0)
abbrev kerW : FVec Ideal S16x1024 .f32 := m ((c.tc : Thread nD τ).loc main_arg1)
abbrev kerB : FVec Ideal S1024 .f32 := m ((c.tc : Thread nD τ).loc main_arg2)
abbrev kerN : FVec Ideal S512 .f32 := m ((c.tc : Thread nD τ).loc main_arg3)

/-- Which block each window shows at a grid point. -/
theorem idx : ∀ t : Fin cfg0.N, win0_0.index t = ![t.val, 0] ∧ win0_1.index t = ![t.val, 1] ∧ win0_2.index t = ![t.val, 1]
    ∧ win0_3.index t = ![t.val, 2] ∧ win0_4.index t = ![t.val, 48] ∧ win0_5.index t = ![0, 0] ∧ win0_6.index t = ![0, 0]
    ∧ win0_7.index t = ![0, 0] ∧ win0_8.index t = ![0, 0, 0, 0] :=
  (by decide +kernel : ∀ t : Fin grid0.N, _)

theorem tlt (t : Fin cfg0.N) : t.val < 128 := lt_of_lt_of_eq t.isLt N_0

/-- Row `i` of chunk `t`. -/
def row (t : Fin cfg0.N) (i : Fin 64) : Fin 8192 := ⟨t.val * 64 + i.val, by have := tlt t; omega⟩

theorem x0_at (t : Fin cfg0.N) (i : Fin 64) (l : Fin 1024) :
    X0_0 m c t (ix2 i l) = kerG m c (ix2 (row t i) ⟨l.val, by omega⟩) := by
  unfold X0_0 Pipeline.Window.fill row
  rw [dif_pos (moved0_0 t _)]
  blk_point [iblk, V, idx t]

theorem x1_at (t : Fin cfg0.N) (i : Fin 64) (l : Fin 1024) :
    X0_1 m c t (ix2 i l) = kerG m c (ix2 (row t i) ⟨1024 + l.val, by omega⟩) := by
  unfold X0_1 Pipeline.Window.fill row
  rw [dif_pos (moved0_1 t _)]
  blk_point [iblk, V, idx t]

theorem x2_at (t : Fin cfg0.N) (i : Fin 64) (l : Fin 2048) :
    X0_2 m c t (ix2 i l) = kerG m c (ix2 (row t i) ⟨2048 + l.val, by omega⟩) := by
  unfold X0_2 Pipeline.Window.fill row
  rw [dif_pos (moved0_2 t _)]
  blk_point [iblk, V, idx t]

theorem x3_at (t : Fin cfg0.N) (i : Fin 64) (l : Fin 2048) :
    X0_3 m c t (ix2 i l) = kerG m c (ix2 (row t i) ⟨4096 + l.val, by omega⟩) := by
  unfold X0_3 Pipeline.Window.fill row
  rw [dif_pos (moved0_3 t _)]
  blk_point [iblk, V, idx t]

theorem x4_at (t : Fin cfg0.N) (i : Fin 64) (l : Fin 128) :
    (show FVec Ideal S64x128 .f32 from iblk m c 4 t) (ix2 i l) = kerG m c (ix2 (row t i) ⟨6144 + l.val, by omega⟩) := by
  unfold row
  blk_point [iblk, V, idx t]

theorem start_eq : V m c main_v0 = broadcastInDim S1x4x256x512 ![] bcast_S_S1x4x256x512 (constant (F := Ideal) S_ .f32 0x00000000#32) := by
  simp only [V, hostOps0, hostOps0_1, hostOps0_2, List.flatten_cons, List.flatten_nil, List.append_nil, List.cons_append, List.nil_append]; after_results; try rfl

theorem bias_eq : V m c main_v2 = shapeCast S1x1024 (kerB m c) shapeCasts_S1024_S1x1024 := by
  simp only [V, hostOps0, hostOps0_1, hostOps0_2, List.flatten_cons, List.flatten_nil, List.append_nil, List.cons_append, List.nil_append]; after_results; try rfl

theorem gain_eq : V m c main_v3 = shapeCast S1x512 (kerN m c) shapeCasts_S512_S1x512 := by
  simp only [V, hostOps0, hostOps0_1, hostOps0_2, List.flatten_cons, List.flatten_nil, List.append_nil, List.cons_append, List.nil_append]; after_results; try rfl

theorem weight_eq : V m c main_v1 = pad S128x1024 ![0, 0] ![112, 0] ![0, 0] (kerW m c) (sitofp (F := Ideal) .f32 (constantI S_ 32 0#32)) pads_S16x1024_S128x1024_01120_000 h_S_ := by
  simp only [V, hostOps0, hostOps0_1, hostOps0_2, List.flatten_cons, List.flatten_nil, List.append_nil, List.cons_append, List.nil_append]; after_results; try rfl

theorem x5_at (t : Fin cfg0.N) (x : Fin 128) (l : Fin 1024) :
    (show FVec Ideal S128x1024 .f32 from iblk m c 5 t) (ix2 x l) = if hx : x.val < 16 then kerW m c (ix2 ⟨x.val, hx⟩ l) else 0 := by
  have e : (show FVec Ideal S128x1024 .f32 from iblk m c 5 t) (ix2 x l) = (show FVec Ideal S128x1024 .f32 from V m c main_v1) (ix2 x l) := by
    blk_simp [iblk, idx t]
    blk_ext [idx t]
  rw [e, weight_eq]
  pointwise []
  have z : FloatOps.sitofp (F := Ideal) FTy.f32 (0#32) = (0 : EReal) := by
    show (((0#32 : BitVec 32).toInt : ℝ) : EReal) = 0
    simp
  rw [z]

theorem x6_at (t : Fin cfg0.N) (l : Fin 1024) :
    (show FVec Ideal S1x1024 .f32 from iblk m c 6 t) (ix2 0 l) = kerB m c (ix1 l) := by
  blk_simp [iblk, idx t]
  rw [bias_eq]
  pointwise []
  blk_point [idx t]

theorem x7_at (t : Fin cfg0.N) (l : Fin 512) :
    (show FVec Ideal S1x512 .f32 from iblk m c 7 t) (ix2 0 l) = kerN m c (ix1 l) := by
  blk_simp [iblk, idx t]
  rw [gain_eq]
  pointwise []
  blk_point [idx t]

theorem x8_at (t : Fin cfg0.N) (h : Fin 4) (x : Fin 256) (l : Fin 512) :
    (show FVec Ideal S1x4x256x512 .f32 from iblk m c 8 t) (ix4 0 h x l) = 0 := by
  blk_simp [iblk, idx t]
  rw [start_eq]
  pointwise []

end Cert.GlaIdeal.Value

end
-- ==== Proof.GlaPre.lean ====
module

public import proofs.«01_k».proof.Proof.GlaBlk
public import proofs.«01_k».proof.Proof.Gen.Pre_finite_gate
public import Idealize.ShloMosaic.Lib.ReduceAll

@[expose] public section

set_option maxRecDepth 16384

noncomputable section

open Idealize.ShloMosaic Idealize.ShloMosaic.TcCoe Idealize.SL.Sem

/-! Under the precondition a gate's argument is a real number. -/

namespace Cert.GlaIdeal.Value

open Cert.GlaIdeal Cert.GlaIdeal.Gen Cert.GlaMath

theorem pre_real (G : FVec Ideal S8192x6272 .f32) (W : FVec Ideal S16x1024 .f32) (B : FVec Ideal S1024 .f32) (N : FVec Ideal S512 .f32)
    (h : Cert.Pre_finite_gate.fn (F := Ideal) G W B N = fun _ => 1#1) :
    (∀ (r : Fin 8192) (x : Fin 16), ∃ a : ℝ, G (ix2 r ⟨6144 + x.val, by omega⟩) = (a : EReal))
    ∧ (∀ (x : Fin 16) (l : Fin 1024), ∃ a : ℝ, W (ix2 x l) = (a : EReal)) ∧ (∀ l : Fin 1024, ∃ a : ℝ, B (ix1 l) = (a : EReal)) := by
  have h' := congrFun h ix0
  unfold Cert.Pre_finite_gate.fn at h'
  obtain ⟨h12, h3⟩ := IntOp.andi_eq_one.1 h'
  obtain ⟨h1, h2⟩ := IntOp.andi_eq_one.1 h12
  refine ⟨fun r x => ?_, fun x l => ?_, fun l => ?_⟩
  · have := Host.reduce_andi_all _ _ _ _ _ h1 (ix2 r x)
    have e : extractStridedSlice Cert.Pre_finite_gate.S8192x16 ![0, 6144] G Cert.Pre_finite_gate.Facts.slices_S8192x6272_S8192x16_0_6144 (ix2 r x) = G (ix2 r ⟨6144 + x.val, by omega⟩) := by
      pointwise []
    rw [← e]
    exact real_of_lt _ this
  · have := Host.reduce_andi_all _ _ _ _ _ h2 (ix2 x l)
    exact real_of_lt _ this
  · have := Host.reduce_andi_all _ _ _ _ _ h3 (ix1 l)
    exact real_of_lt _ this

variable (m : (ℓ : Loc nD τ sig) → Buf (Elt Ideal) ℓ) (c : Dev nD)

/-- A gate's argument, of the kernel's arguments. -/
def kerGate (r : Fin 8192) (l : Fin 1024) : EReal :=
  ∑ x : Fin 16, kerG m c (ix2 r ⟨6144 + x.val, by omega⟩) * kerW m c (ix2 x l) + kerB m c (ix1 l)

theorem gate_real (h : Cert.Pre_finite_gate.fn (F := Ideal) (kerG m c) (kerW m c) (kerB m c) (kerN m c) = fun _ => 1#1) (r : Fin 8192) (l : Fin 1024) :
    ∃ a : ℝ, kerGate m c r l = (a : EReal) := by
  obtain ⟨hG, hW, hB⟩ := pre_real _ _ _ _ h
  choose g hg using fun x => hG r x
  choose w hw using fun x => hW x l
  obtain ⟨b, hb⟩ := hB l
  refine ⟨∑ x : Fin 16, g x * w x + b, ?_⟩
  unfold kerGate
  rw [hb]
  have e : ∀ s : Finset (Fin 16), ∑ x ∈ s, kerG m c (ix2 r ⟨6144 + x.val, by omega⟩) * kerW m c (ix2 x l) = ((∑ x ∈ s, g x * w x : ℝ) : EReal) := by
    intro s
    induction s using Finset.induction_on with
    | empty => simp
    | insert a s ha ih =>
      rw [Finset.sum_insert ha, Finset.sum_insert ha, ih, hg, hw, EReal.coe_add, EReal.coe_mul]
  refine Eq.trans (Ideal.add_congr (e Finset.univ) rfl) ?_
  rw [EReal.coe_add]

/-- Head `h`'s log decays at chunk `t`. -/
theorem la_at (t : Fin cfg0.N) (h : Fin 4) (i : Fin 64) (l : Fin 256) :
    laAt m c t h (ix2 i l) = kerDecay (kerGate m c (row t i) ⟨h.val * 256 + l.val, by omega⟩) := by
  unfold laAt
  refine (decay_at _ _ _ i l).trans (congrArg kerDecay ?_)
  unfold kerGate
  refine Ideal.add_congr ((sum_low _ fun x hx => ?_).trans (Finset.sum_congr rfl fun x _ => ?_)) ((colsB_at _ h l).trans (x6_at m c t _))
  · exact (Ideal.mul_congr rfl ((colsW_at _ h x l).trans ((x5_at m c t x _).trans (dif_neg (by omega))))).trans (mul_zero (M₀ := EReal) _)
  · exact Ideal.mul_congr (x4_at m c t i _) ((colsW_at _ h _ l).trans ((x5_at m c t _ _).trans (dif_pos x.isLt)))

end Cert.GlaIdeal.Value

end
-- ==== Proof.GlaStep.lean ====
module

public import proofs.«01_k».proof.Proof.GlaModel

@[expose] public section

set_option maxRecDepth 16384

noncomputable section

open Idealize.ShloMosaic Idealize.ShloMosaic.TcCoe Idealize.SL.Sem
open Idealize.ShloMosaic.Pipeline (Dat)

namespace Cert.GlaIdeal.Value

open Cert.GlaIdeal Cert.GlaIdeal.Gen

variable (m : (ℓ : Loc nD τ sig) → Buf (Elt Ideal) ℓ)

set_option maxHeartbeats 1000000

theorem stepA_o (c : Dev nD) (t : Fin cfg0.N) (h0 : t.val % 128 = 0) (h1 : ¬t.val % 128 = 127) :
    (outsAt0 m c t.val t.isLt).1 = putO (outAt m c t (startOf (iblk m c 8 t))) := by
  rw [outsAt0_A m c t h0 h1]; frame_open; simp (disch := decide) only [↓ View.readCov_skip, ↓ View.readCov_cons_toLoadRect]; frame_out
  rfl

theorem stepA_s (c : Dev nD) (t : Fin cfg0.N) (h0 : t.val % 128 = 0) (h1 : ¬t.val % 128 = 127) :
    ∃ L, (outsAt0 m c t.val t.isLt).2.2 = putS (nextAt m c t (startOf (iblk m c 8 t))) L := by
  rw [outsAt0_A m c t h0 h1]; frame_open; simp (disch := decide) only [↓ View.readCov_skip, ↓ View.readCov_cons_toLoadRect]; frame_out
  exact ⟨_, rfl⟩

theorem stepB_o (c : Dev nD) (t : Fin cfg0.N) (h0 : ¬t.val % 128 = 0) (h1 : ¬t.val % 128 = 127) :
    (outsAt0 m c t.val t.isLt).1 = putO (outAt m c t (carryOf (outsAt0 m c (t.val - 1) (Nat.lt_of_le_of_lt (Nat.sub_le _ _) t.isLt)).2.2)) := by
  rw [outsAt0_B m c t h0 h1]; frame_open; simp (disch := decide) only [↓ View.readCov_skip, ↓ View.readCov_cons_toLoadRect]; frame_out
  erw [(Memref.isWhole_whole cc0_scratch0).read_unread]; rfl

theorem stepB_s (c : Dev nD) (t : Fin cfg0.N) (h0 : ¬t.val % 128 = 0) (h1 : ¬t.val % 128 = 127) :
    (outsAt0 m c t.val t.isLt).2.2 = putS (nextAt m c t (carryOf (outsAt0 m c (t.val - 1) (Nat.lt_of_le_of_lt (Nat.sub_le _ _) t.isLt)).2.2)) [] := by
  rw [outsAt0_B m c t h0 h1]; frame_open; simp (disch := decide) only [↓ View.readCov_skip, ↓ View.readCov_cons_toLoadRect]; frame_out
  erw [(Memref.isWhole_whole cc0_scratch0).read_unread]; rfl

theorem stepC_o (c : Dev nD) (t : Fin cfg0.N) (h0 : ¬t.val % 128 = 0) (h1 : t.val % 128 = 127) :
    (outsAt0 m c t.val t.isLt).1 = putO (outAt m c t (carryOf (outsAt0 m c (t.val - 1) (Nat.lt_of_le_of_lt (Nat.sub_le _ _) t.isLt)).2.2)) := by
  rw [outsAt0_C m c t h0 h1]; frame_open; simp (disch := decide) only [↓ View.readCov_skip, ↓ View.readCov_cons_toLoadRect]; frame_out
  erw [(Memref.isWhole_whole cc0_scratch0).read_unread]; rfl

theorem stepC_s (c : Dev nD) (t : Fin cfg0.N) (h0 : ¬t.val % 128 = 0) (h1 : t.val % 128 = 127) :
    (outsAt0 m c t.val t.isLt).2.2 = putS (nextAt m c t (carryOf (outsAt0 m c (t.val - 1) (Nat.lt_of_le_of_lt (Nat.sub_le _ _) t.isLt)).2.2)) [] := by
  rw [outsAt0_C m c t h0 h1]; frame_open; simp (disch := decide) only [↓ View.readCov_skip, ↓ View.readCov_cons_toLoadRect]; frame_out
  erw [(Memref.isWhole_whole cc0_scratch0).read_unread]; rfl

theorem stepC_f (c : Dev nD) (t : Fin cfg0.N) (h0 : ¬t.val % 128 = 0) (h1 : t.val % 128 = 127) :
    (outsAt0 m c t.val t.isLt).2.1 = putF (nextAt m c t (carryOf (outsAt0 m c (t.val - 1) (Nat.lt_of_le_of_lt (Nat.sub_le _ _) t.isLt)).2.2)) := by
  rw [outsAt0_C m c t h0 h1]; frame_open; simp (disch := decide) only [↓ View.readCov_skip, ↓ View.readCov_cons_toLoadRect]; frame_out
  erw [(Memref.isWhole_whole cc0_scratch0).read_unread]; rfl

end Cert.GlaIdeal.Value
end
-- ==== Proof.GlaRef.lean ====
module

public import proofs.«01_k».proof.Proof.GlaMath
public import proofs.«01_k».proof.Proof.Gen.GlaReferenceIdeal.Run

@[expose] public section

set_option maxRecDepth 16384

noncomputable section

open Idealize.ShloMosaic Idealize.ShloMosaic.TcCoe Idealize.SL.Sem Idealize.ShloMosaic.Pipeline

/-! One trip of the reference's scan, entry by entry. -/

namespace Cert.GlaReferenceIdeal.Value

open Cert.GlaReferenceIdeal Cert.GlaReferenceIdeal.Gen Cert.GlaMath

/-- The window's positions run along the first axis. -/
theorem window_pos (n : Fin (⟨S64x4x256.rank, ![64, 1, 1]⟩ : Shape).numel) : ((⟨S64x4x256.rank, ![64, 1, 1]⟩ : Shape).rowMajor.symm n 0).val = n.val
    ∧ ((⟨S64x4x256.rank, ![64, 1, 1]⟩ : Shape).rowMajor.symm n 1).val = 0 ∧ ((⟨S64x4x256.rank, ![64, 1, 1]⟩ : Shape).rowMajor.symm n 2).val = 0 := by
  revert n; decide +kernel

/-- The host's running sum along the first axis. -/
theorem cumsum_at (x : FVec Ideal S64x4x256 .f32) (v : FVec Ideal S_ .f32) (hv : v (Shape.Idx.first h_S_) = (0 : EReal)) (i : Fin 64) (h : Fin 4) (l : Fin 256) :
    Host.reduceWindowAdd ![64, 1, 1] ![1, 1, 1] ![63, 0, 0] ![0, 0, 0] x v reduceWindows_S64x4x256_S64x4x256_w64s1p63_0_w1s1p0_0_w1s1p0_0 h_S_ (ix3 i h l)
      = runSum (fun j => x (ix3 j h l)) i := by
  unfold Host.reduceWindowAdd
  rw [Ideal.hostReduceWindowAdd_def]
  unfold Ideal.hostReduceWindowAdd Host.reduceWindow
  rw [hv]
  refine (foldl_add _ _ _).trans ?_
  rw [zero_add]
  unfold runSum
  refine Fintype.sum_equiv ((finCongr (by decide : (⟨S64x4x256.rank, ![64, 1, 1]⟩ : Shape).numel = 64)).trans (Equiv.addRight (i + 1 : Fin 64))) _ _ fun n => ?_
  obtain ⟨e0, e1, e2⟩ := window_pos n
  have hi := i.isLt
  have hn : n.val < 64 := n.isLt
  obtain ⟨r, hr⟩ : ∃ r : Fin 64, r = ((finCongr (by decide : (⟨S64x4x256.rank, ![64, 1, 1]⟩ : Shape).numel = 64)).trans (Equiv.addRight (i + 1 : Fin 64))) n := ⟨_, rfl⟩
  have ev : r.val = (n.val + (i.val + 1) % 64) % 64 := by
    rw [hr]
    show (Fin.cast (by decide : (⟨S64x4x256.rank, ![64, 1, 1]⟩ : Shape).numel = 64) n + (i + 1) : Fin 64).val = _
    rw [Fin.val_add, Fin.val_add]; rfl
  rw [← hr]
  by_cases hc : 63 ≤ i.val + n.val
  · have hle : r ≤ i := by
      rw [Fin.le_def, ev]; omega
    rw [if_pos hle, dif_pos]
    · congr 1
      funext a
      apply Fin.ext
      fin_cases a
      · show i.val * 1 + ((⟨S64x4x256.rank, ![64, 1, 1]⟩ : Shape).rowMajor.symm n 0).val - 63 = r.val
        rw [e0, ev]; omega
      · show h.val * 1 + ((⟨S64x4x256.rank, ![64, 1, 1]⟩ : Shape).rowMajor.symm n 1).val - 0 = h.val
        rw [e1]; omega
      · show l.val * 1 + ((⟨S64x4x256.rank, ![64, 1, 1]⟩ : Shape).rowMajor.symm n 2).val - 0 = l.val
        rw [e2]; omega
    · intro a
      fin_cases a
      · show 63 ≤ i.val * 1 + ((⟨S64x4x256.rank, ![64, 1, 1]⟩ : Shape).rowMajor.symm n 0).val ∧ i.val * 1 + ((⟨S64x4x256.rank, ![64, 1, 1]⟩ : Shape).rowMajor.symm n 0).val - 63 < 64
        rw [e0]; omega
      · show 0 ≤ h.val * 1 + ((⟨S64x4x256.rank, ![64, 1, 1]⟩ : Shape).rowMajor.symm n 1).val ∧ h.val * 1 + ((⟨S64x4x256.rank, ![64, 1, 1]⟩ : Shape).rowMajor.symm n 1).val - 0 < 4
        rw [e1]; have := h.isLt; omega
      · show 0 ≤ l.val * 1 + ((⟨S64x4x256.rank, ![64, 1, 1]⟩ : Shape).rowMajor.symm n 2).val ∧ l.val * 1 + ((⟨S64x4x256.rank, ![64, 1, 1]⟩ : Shape).rowMajor.symm n 2).val - 0 < 256
        rw [e2]; have := l.isLt; omega
  · have hle : ¬ r ≤ i := by
      rw [Fin.le_def, ev]; omega
    rw [if_neg hle, dif_neg]
    intro hin
    have h0 : 63 ≤ i.val * 1 + ((⟨S64x4x256.rank, ![64, 1, 1]⟩ : Shape).rowMajor.symm n 0).val := (hin 0).1
    rw [e0] at h0
    omega

/-- One chunk's rows of a stack of key-wide or value-wide arrays. -/
def sliceK (X : FVec Ideal S128x64x4x256 .f32) (st : Fin 4 → ℤ) : FVec Ideal S64x4x256 .f32 :=
  shapeCast S64x4x256 (Host.dynamicSlice S1x64x4x256 X st sliceFits_S128x64x4x256_S1x64x4x256) shapeCasts_S1x64x4x256_S64x4x256
def sliceV (X : FVec Ideal S128x64x4x512 .f32) (st : Fin 4 → ℤ) : FVec Ideal S64x4x512 .f32 :=
  shapeCast S64x4x512 (Host.dynamicSlice S1x64x4x512 X st sliceFits_S128x64x4x512_S1x64x4x512) shapeCasts_S1x64x4x512_S64x4x512

/-- One chunk's rows written into the stack. -/
def putRows (X : FVec Ideal S128x64x4x512 .f32) (Y : FVec Ideal S64x4x512 .f32) (st : Fin 4 → ℤ) : FVec Ideal S128x64x4x512 .f32 :=
  Host.dynamicUpdateSlice X (broadcastInDim S1x64x4x512 ![1, 2, 3] bcast_S64x4x512_S1x64x4x512_1_2_3 Y) st updateFits_S128x64x4x512_S1x64x4x512

/-- One chunk's rows, and the state after it. -/
def rowsOf (S : FVec Ideal S4x256x512 .f32) (q g k : FVec Ideal S64x4x256 .f32) (v : FVec Ideal S64x4x512 .f32) (mk : IVec S64x64x1x1 1) : FVec Ideal S64x4x512 .f32 :=
  addf (transpose S64x4x512 [2, 0, 1] (Host.dotGeneral dot_S4x256x512_S64x4x256_S4x512x64_1_2_2_0_0_1 none S (mulf q (Host.exp g))) transposes_S4x512x64_S64x4x512_2_0_1) (transpose S64x4x512 [2, 0, 1] (Host.dotGeneral dot_S64x4x512_S64x64x4_S4x512x64_0_1_2_0_1_2 none v (Host.reduceAdd (mulf (mulf (broadcastInDim S64x64x4x256 ![0, 1, 2, 3] bcast_S64x1x4x256_S64x64x4x256_0_1_2_3 (broadcastInDim S64x1x4x256 ![0, 2, 3] bcast_S64x4x256_S64x1x4x256_0_2_3 q)) (broadcastInDim S64x64x4x256 ![0, 1, 2, 3] bcast_S1x64x4x256_S64x64x4x256_0_1_2_3 (broadcastInDim S1x64x4x256 ![1, 2, 3] bcast_S64x4x256_S1x64x4x256_1_2_3 k))) (Host.exp (select (broadcastInDim S64x64x4x256 ![0, 1, 2, 3] bcast_S64x64x1x1_S64x64x4x256_0_1_2_3 mk) (subf (broadcastInDim S64x64x4x256 ![0, 1, 2, 3] bcast_S64x1x4x256_S64x64x4x256_0_1_2_3 (broadcastInDim S64x1x4x256 ![0, 2, 3] bcast_S64x4x256_S64x1x4x256_0_2_3 g)) (broadcastInDim S64x64x4x256 ![0, 1, 2, 3] bcast_S1x64x4x256_S64x64x4x256_0_1_2_3 (broadcastInDim S1x64x4x256 ![1, 2, 3] bcast_S64x4x256_S1x64x4x256_1_2_3 g))) (broadcastInDim S64x64x4x256 ![] bcast_S_S64x64x4x256 (id (constant S_ .f32 0xFF800000#32)))))) (constant S_ .f32 0x00000000#32) reducesTo_S64x64x4x256_S64x64x4_d3 h_S_)) transposes_S4x512x64_S64x4x512_2_0_1)
def stateOf (S : FVec Ideal S4x256x512 .f32) (gl : FVec Ideal S4x256 .f32) (g k : FVec Ideal S64x4x256 .f32) (v : FVec Ideal S64x4x512 .f32) : FVec Ideal S4x256x512 .f32 :=
  addf (mulf (broadcastInDim S4x256x512 ![0, 1, 2] bcast_S4x256x1_S4x256x512_0_1_2 (broadcastInDim S4x256x1 ![0, 1] bcast_S4x256_S4x256x1_0_1 (Host.exp gl))) S) (Host.dotGeneral dot_S64x4x256_S64x4x512_S4x256x512_0_0_2_2_1_1 none (mulf k (Host.exp (subf (broadcastInDim S64x4x256 ![0, 1, 2] bcast_S1x4x256_S64x4x256_0_1_2 (broadcastInDim S1x4x256 ![1, 2] bcast_S4x256_S1x4x256_1_2 gl)) g))) v)

theorem sliceK_at (X : FVec Ideal S128x64x4x256 .f32) (n : Fin 128) (i : Fin 64) (h : Fin 4) (l : Fin 256) :
    sliceK X ![(n.val : ℤ), 0, 0, 0] (ix3 i h l) = X (ix4 n i h l) := by
  have e0 : Host.clampedStart S128x64x4x256 S1x64x4x256 rfl ![(n.val : ℤ), 0, 0, 0] 0 = n.val := by
    revert n; decide +kernel
  have e1 : Host.clampedStart S128x64x4x256 S1x64x4x256 rfl ![(n.val : ℤ), 0, 0, 0] 1 = 0 := rfl
  have e2 : Host.clampedStart S128x64x4x256 S1x64x4x256 rfl ![(n.val : ℤ), 0, 0, 0] 2 = 0 := rfl
  have e3 : Host.clampedStart S128x64x4x256 S1x64x4x256 rfl ![(n.val : ℤ), 0, 0, 0] 3 = 0 := rfl
  pointwise [sliceK]
  refine congrArg X ((ix4_inj ..).2 ⟨Fin.ext e0, Fin.ext ?_, Fin.ext ?_, Fin.ext ?_⟩)
  · show _ + i.val = i.val; rw [e1, Nat.zero_add]
  · show _ + h.val = h.val; rw [e2, Nat.zero_add]
  · show _ + l.val = l.val; rw [e3, Nat.zero_add]

theorem sliceV_at (X : FVec Ideal S128x64x4x512 .f32) (n : Fin 128) (i : Fin 64) (h : Fin 4) (l : Fin 512) :
    sliceV X ![(n.val : ℤ), 0, 0, 0] (ix3 i h l) = X (ix4 n i h l) := by
  have e0 : Host.clampedStart S128x64x4x512 S1x64x4x512 rfl ![(n.val : ℤ), 0, 0, 0] 0 = n.val := by
    revert n; decide +kernel
  have e1 : Host.clampedStart S128x64x4x512 S1x64x4x512 rfl ![(n.val : ℤ), 0, 0, 0] 1 = 0 := rfl
  have e2 : Host.clampedStart S128x64x4x512 S1x64x4x512 rfl ![(n.val : ℤ), 0, 0, 0] 2 = 0 := rfl
  have e3 : Host.clampedStart S128x64x4x512 S1x64x4x512 rfl ![(n.val : ℤ), 0, 0, 0] 3 = 0 := rfl
  pointwise [sliceV]
  refine congrArg X ((ix4_inj ..).2 ⟨Fin.ext e0, Fin.ext ?_, Fin.ext ?_, Fin.ext ?_⟩)
  · show _ + i.val = i.val; rw [e1, Nat.zero_add]
  · show _ + h.val = h.val; rw [e2, Nat.zero_add]
  · show _ + l.val = l.val; rw [e3, Nat.zero_add]

theorem putRows_at (X : FVec Ideal S128x64x4x512 .f32) (Y : FVec Ideal S64x4x512 .f32) (n t : Fin 128) (i : Fin 64) (h : Fin 4) (l : Fin 512) :
    putRows X Y ![(n.val : ℤ), 0, 0, 0] (ix4 t i h l) = if t = n then Y (ix3 i h l) else X (ix4 t i h l) := by
  have e0 : Host.clampedStart S128x64x4x512 S1x64x4x512 rfl ![(n.val : ℤ), 0, 0, 0] 0 = n.val := by
    revert n; decide +kernel
  have e1 : Host.clampedStart S128x64x4x512 S1x64x4x512 rfl ![(n.val : ℤ), 0, 0, 0] 1 = 0 := rfl
  have e2 : Host.clampedStart S128x64x4x512 S1x64x4x512 rfl ![(n.val : ℤ), 0, 0, 0] 2 = 0 := rfl
  have e3 : Host.clampedStart S128x64x4x512 S1x64x4x512 rfl ![(n.val : ℤ), 0, 0, 0] 3 = 0 := rfl
  pointwise [putRows, e0, e1, e2, e3]
  by_cases ht : t = n
  · subst ht
    rw [if_pos rfl]
    rw [dif_pos ⟨by omega, by omega⟩]
  · rw [if_neg ht, dif_neg]
    intro hc
    exact ht (Fin.ext (by omega))

theorem rowsOf_at (S : FVec Ideal S4x256x512 .f32) (q g k : FVec Ideal S64x4x256 .f32) (v : FVec Ideal S64x4x512 .f32) (mk : IVec S64x64x1x1 1)
    (hmk : ∀ i j : Fin 64, mk (ix4 i j 0 0) = if j ≤ i then 1#1 else 0#1) (i : Fin 64) (h : Fin 4) (l : Fin 512) :
    rowsOf S q g k v mk (ix3 i h l) = ∑ x : Fin 256, S (ix3 h x l) * (q (ix3 i h x) * Ideal.exp (g (ix3 i h x)))
      + ∑ j : Fin 64, v (ix3 j h l) * score (fun i x => q (ix3 i h x)) (fun i x => k (ix3 i h x)) (fun i x => g (ix3 i h x)) i j := by
  pointwise [rowsOf, id_eq]
  refine Ideal.add_congr rfl (Finset.sum_congr rfl fun j _ => Ideal.mul_congr rfl ?_)
  unfold score
  by_cases hj : j ≤ i
  · rw [if_pos hj]
    refine Finset.sum_congr rfl fun x _ => ?_
    rw [hmk, if_pos hj]; rfl
  · rw [if_neg hj]
    refine Finset.sum_eq_zero fun x _ => ?_
    rw [hmk, if_neg hj]
    show _ * Ideal.exp (Ideal.ofBits FTy.f32 4286578688#32) = 0
    rw [show Ideal.ofBits FTy.f32 4286578688#32 = ⊥ by simp [Ideal.ofBits, Ideal.ieee], Ideal.exp_bot, mul_zero]

theorem stateOf_at (S : FVec Ideal S4x256x512 .f32) (gl : FVec Ideal S4x256 .f32) (g k : FVec Ideal S64x4x256 .f32) (v : FVec Ideal S64x4x512 .f32) (h : Fin 4) (l : Fin 256) (x : Fin 512) :
    stateOf S gl g k v (ix3 h l x) = Ideal.exp (gl (ix2 h l)) * S (ix3 h l x)
      + ∑ j : Fin 64, k (ix3 j h l) * Ideal.exp (gl (ix2 h l) - g (ix3 j h l)) * v (ix3 j h x) := by
  pointwise [stateOf]

variable (V : Valuation τ sig (Elt Ideal)) (n : Fin 128) (hn : V (Proc.devRef .tc main_v24_5) = fun _ => BitVec.ofNat 32 n.val)

include hn in
theorem start_at : (fun k : Fin 4 => (((![V (Proc.devRef .tc main_v24_5), constantI S_ 32 0#32, constantI S_ 32 0#32, constantI S_ 32 0#32] : Fin 4 → (⟨S_, .i32⟩ : BufTy).Contents (Elt Ideal))) k (Shape.Idx.first h_S_)).toInt)
    = ![(n.val : ℤ), 0, 0, 0] := by
  rw [hn]
  funext k
  fin_cases k
  · show (BitVec.ofNat 32 n.val).toInt = (n.val : ℤ)
    clear hn; revert n; decide +kernel
  · rfl
  · rfl
  · rfl

include hn in
theorem v47_eq : res_main_while0b_v47 (F := Ideal) V = sliceK (V (Proc.devRef .tc main_v24_1)) ![(n.val : ℤ), 0, 0, 0] := by
  rw [← start_at V n hn]; rfl

include hn in
theorem v48_eq : res_main_while0b_v48 (F := Ideal) V = sliceV (V (Proc.devRef .tc main_v24_2)) ![(n.val : ℤ), 0, 0, 0] := by
  rw [← start_at V n hn]; rfl

include hn in
theorem v51_at (i : Fin 64) (h : Fin 4) (l : Fin 256) : res_main_while0b_v51 (F := Ideal) V (ix3 i h l) = (show EReal from V (Proc.devRef .tc main_v24_0) (ix4 n i h l)) * Ideal.ofBits .f32 0x3D800000#32 := by
  have e : res_main_while0b_v51 (F := Ideal) V = mulf (sliceK (V (Proc.devRef .tc main_v24_0)) ![(n.val : ℤ), 0, 0, 0]) (broadcastInDim S64x4x256 ![] bcast_S_S64x4x256 (constant S_ .f32 0x3D800000#32)) := by
    rw [← start_at V n hn]; rfl
  rw [e]
  pointwise [sliceK_at]

include hn in
theorem v52_at (i : Fin 64) (h : Fin 4) (l : Fin 256) : res_main_while0b_v52 (F := Ideal) V (ix3 i h l) = runSum (fun j => V (Proc.devRef .tc main_v24_3) (ix4 n j h l)) i := by
  have e : res_main_while0b_v52 (F := Ideal) V = Host.reduceWindowAdd ![64, 1, 1] ![1, 1, 1] ![63, 0, 0] ![0, 0, 0] (sliceK (V (Proc.devRef .tc main_v24_3)) ![(n.val : ℤ), 0, 0, 0]) (broadcastInDim S_ ![] bcast_S_S_ (constant S_ .f32 0x00000000#32)) reduceWindows_S64x4x256_S64x4x256_w64s1p63_0_w1s1p0_0_w1s1p0_0 h_S_ := by
    rw [← start_at V n hn]; rfl
  rw [e, cumsum_at _ _ (by rw [← ix0_eta (Shape.Idx.first h_S_)]; pointwise [])]
  simp only [sliceK_at]

theorem v74_at (h : Fin 4) (l : Fin 256) : res_main_while0b_v74 (F := Ideal) V (ix2 h l) = res_main_while0b_v52 (F := Ideal) V (ix3 63 h l) := by
  pointwise [res_main_while0b_v74]

theorem step6_eq : step_main_v24_6 (F := Ideal) V = stateOf (V (Proc.devRef .tc main_v24_6)) (res_main_while0b_v74 V) (res_main_while0b_v52 V) (res_main_while0b_v47 V) (res_main_while0b_v48 V) := rfl

include hn in
theorem step7_eq : step_main_v24_7 (F := Ideal) V = putRows (V (Proc.devRef .tc main_v24_7)) (rowsOf (V (Proc.devRef .tc main_v24_6)) (res_main_while0b_v51 V) (res_main_while0b_v52 V) (res_main_while0b_v47 V) (res_main_while0b_v48 V) (V (Proc.devRef .tc main_v24_4))) ![(n.val : ℤ), 0, 0, 0] := by
  rw [← start_at V n hn]; rfl

end Cert.GlaReferenceIdeal.Value

end
-- ==== Proof.GlaEntry.lean ====
module

public import proofs.«01_k».proof.Proof.GlaRef

@[expose] public section

set_option maxRecDepth 16384

noncomputable section

open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.StableHlo

/-! What the reference's scan starts from, entry by entry. -/

namespace Cert.GlaReferenceIdeal.Value

open Cert.GlaReferenceIdeal Cert.GlaReferenceIdeal.Gen Cert.GlaMath

variable (m : (ℓ : Loc nD τ sig) → Buf (Elt Ideal) ℓ) (c : Dev nD)

/-- The reference's four arguments. -/
abbrev argG : FVec Ideal S8192x6272 .f32 := m ((c.tc : Thread nD τ).loc main_arg0)
abbrev argW : FVec Ideal S16x1024 .f32 := m ((c.tc : Thread nD τ).loc main_arg1)
abbrev argB : FVec Ideal S1024 .f32 := m ((c.tc : Thread nD τ).loc main_arg2)
abbrev argN : FVec Ideal S512 .f32 := m ((c.tc : Thread nD τ).loc main_arg3)

theorem entry0 : entryContents preI m c (Proc.devRef .tc main_v24_0) = shapeCast S128x64x4x256 (shapeCast S8192x4x256 (extractStridedSlice S8192x1024 ![0, 0] (argG m c) slices_S8192x6272_S8192x1024_0_0) shapeCasts_S8192x1024_S8192x4x256) shapeCasts_S8192x4x256_S128x64x4x256 := by
  simp only [entryContents, afterL_cons, afterL_nil]
  after_reads_simp
  rfl

theorem entry1 : entryContents preI m c (Proc.devRef .tc main_v24_1) = shapeCast S128x64x4x256 (shapeCast S8192x4x256 (extractStridedSlice S8192x1024 ![0, 1024] (argG m c) slices_S8192x6272_S8192x1024_0_1024) shapeCasts_S8192x1024_S8192x4x256) shapeCasts_S8192x4x256_S128x64x4x256 := by
  simp only [entryContents, afterL_cons, afterL_nil]
  after_reads_simp
  rfl

theorem entry2 : entryContents preI m c (Proc.devRef .tc main_v24_2) = shapeCast S128x64x4x512 (shapeCast S8192x4x512 (extractStridedSlice S8192x2048 ![0, 2048] (argG m c) slices_S8192x6272_S8192x2048_0_2048) shapeCasts_S8192x2048_S8192x4x512) shapeCasts_S8192x4x512_S128x64x4x512 := by
  simp only [entryContents, afterL_cons, afterL_nil]
  after_reads_simp
  rfl

/-- The gate's argument, and its log sigmoid over the temperature. -/
def preRef : FVec Ideal S8192x1024 .f32 :=
  addf (Host.dotGeneral dot_S8192x16_S16x1024_S8192x1024_1_0_0_1_n_n none (extractStridedSlice S8192x16 ![0, 6144] (argG m c) slices_S8192x6272_S8192x16_0_6144) (argW m c))
    (broadcastInDim S8192x1024 ![0, 1] bcast_S1x1024_S8192x1024_0_1 (broadcastInDim S1x1024 ![1] bcast_S1024_S1x1024_1 (argB m c)))

def zeros : FVec Ideal S8192x1024 .f32 := broadcastInDim S8192x1024 ![] bcast_S_S8192x1024 (constant S_ .f32 0x00000000#32)

def decayRef (p : FVec Ideal S8192x1024 .f32) : FVec Ideal S8192x1024 .f32 :=
  Host.divf (Host.negf (select (cmpf .une (subf (Host.negf p) zeros) (subf (Host.negf p) zeros)) (addf (Host.negf p) zeros)
    (addf (maximumf (Host.negf p) zeros) (Host.log1p (Host.exp (Host.negf (Host.absf (subf (Host.negf p) zeros))))))))
    (broadcastInDim S8192x1024 ![] bcast_S_S8192x1024 (constant S_ .f32 0x41800000#32))

theorem entry3 : entryContents preI m c (Proc.devRef .tc main_v24_3) = shapeCast S128x64x4x256 (shapeCast S8192x4x256 (decayRef (preRef m c)) shapeCasts_S8192x1024_S8192x4x256) shapeCasts_S8192x4x256_S128x64x4x256 := by
  simp only [entryContents, afterL_cons, afterL_nil]
  after_reads_simp
  rfl

def causalRef : IVec S64x64x1x1 1 :=
  broadcastInDim S64x64x1x1 ![0, 1] bcast_S64x64_S64x64x1x1_0_1 (select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)))

theorem entry4 : entryContents preI m c (Proc.devRef .tc main_v24_4) = causalRef := by
  simp only [entryContents, afterL_cons, afterL_nil]
  after_reads_simp
  rfl

theorem entry6 : entryContents preI m c (Proc.devRef .tc main_v24_6) = (broadcastInDim S4x256x512 ![] bcast_S_S4x256x512 (constant S_ .f32 0x00000000#32) : FVec Ideal S4x256x512 .f32) := by
  simp only [entryContents, afterL_cons, afterL_nil]
  after_reads_simp
  rfl

theorem entry0_at (n : Fin 128) (i : Fin 64) (h : Fin 4) (l : Fin 256) : entryContents preI m c (Proc.devRef .tc main_v24_0) (ix4 n i h l)
    = argG m c (ix2 ⟨n.val * 64 + i.val, by omega⟩ ⟨h.val * 256 + l.val, by omega⟩) := by
  rw [entry0]
  pointwise []

theorem entry1_at (n : Fin 128) (i : Fin 64) (h : Fin 4) (l : Fin 256) : entryContents preI m c (Proc.devRef .tc main_v24_1) (ix4 n i h l)
    = argG m c (ix2 ⟨n.val * 64 + i.val, by omega⟩ ⟨1024 + (h.val * 256 + l.val), by omega⟩) := by
  rw [entry1]
  pointwise []

theorem entry2_at (n : Fin 128) (i : Fin 64) (h : Fin 4) (l : Fin 512) : entryContents preI m c (Proc.devRef .tc main_v24_2) (ix4 n i h l)
    = argG m c (ix2 ⟨n.val * 64 + i.val, by omega⟩ ⟨2048 + (h.val * 512 + l.val), by omega⟩) := by
  rw [entry2]
  pointwise []

/-- The gate's argument at one token and column. -/
def gateArg (r : Fin 8192) (l : Fin 1024) : EReal :=
  ∑ x : Fin 16, argG m c (ix2 r ⟨6144 + x.val, by omega⟩) * argW m c (ix2 x l) + argB m c (ix1 l)

theorem entry3_at (n : Fin 128) (i : Fin 64) (h : Fin 4) (l : Fin 256) : entryContents preI m c (Proc.devRef .tc main_v24_3) (ix4 n i h l)
    = refDecay (gateArg m c ⟨n.val * 64 + i.val, by omega⟩ ⟨h.val * 256 + l.val, by omega⟩) := by
  rw [entry3]
  unfold refDecay gateArg
  pointwise [decayRef, zeros, preRef]

theorem entry6_at (h : Fin 4) (l : Fin 256) (x : Fin 512) : entryContents preI m c (Proc.devRef .tc main_v24_6) (ix3 h l x) = (0 : EReal) := by
  rw [entry6]
  pointwise []

theorem causal_at (i j : Fin 64) : causalRef (ix4 i j 0 0) = if j ≤ i then 1#1 else 0#1 := by
  pointwise [causalRef]
  revert i j; decide +kernel

end Cert.GlaReferenceIdeal.Value

end
-- ==== Proof.GlaRefRun.lean ====
module

public import proofs.«01_k».proof.Proof.GlaEntry
public import proofs.«01_k».proof.Proof.GlaSpec

@[expose] public section

set_option maxRecDepth 16384

noncomputable section

open Idealize.ShloMosaic Idealize.ShloMosaic.TcCoe Idealize.SL.Sem Idealize.ShloMosaic.StableHlo

/-! The reference's scan runs the recurrence. -/

namespace Cert.GlaReferenceIdeal.Value

open Cert.GlaReferenceIdeal Cert.GlaReferenceIdeal.Gen Cert.GlaMath

variable (m : (ℓ : Loc nD τ sig) → Buf (Elt Ideal) ℓ) (c : Dev nD)

/-- The reference's chunks. -/
def data : Chunks where
  q n h i x := (argG m c (ix2 ⟨n.val * 64 + i.val, by omega⟩ ⟨h.val * 256 + x.val, by omega⟩)) * Ideal.ofBits .f32 0x3D800000#32
  k n h i x := argG m c (ix2 ⟨n.val * 64 + i.val, by omega⟩ ⟨1024 + (h.val * 256 + x.val), by omega⟩)
  a n h i x := refDecay (gateArg m c ⟨n.val * 64 + i.val, by omega⟩ ⟨h.val * 256 + x.val, by omega⟩)
  v n h i l := argG m c (ix2 ⟨n.val * 64 + i.val, by omega⟩ ⟨2048 + (h.val * 512 + l.val), by omega⟩)

/-- The contents after `n` trips. -/
def trip (n : ℕ) : Valuation τ sig (Elt Ideal) := STEP^[n] (entryContents preI m c)

theorem trip_succ (n : ℕ) : trip m c (n + 1) = STEP (trip m c n) := Function.iterate_succ_apply' ..

theorem trip0 (n : ℕ) : trip m c n (Proc.devRef .tc main_v24_0) = entryContents preI m c (Proc.devRef .tc main_v24_0) := by
  induction n with
  | zero => rfl
  | succ n ih => rw [trip_succ, STEP_main_v24_0, ih]
theorem trip1 (n : ℕ) : trip m c n (Proc.devRef .tc main_v24_1) = entryContents preI m c (Proc.devRef .tc main_v24_1) := by
  induction n with
  | zero => rfl
  | succ n ih => rw [trip_succ, STEP_main_v24_1, ih]
theorem trip2 (n : ℕ) : trip m c n (Proc.devRef .tc main_v24_2) = entryContents preI m c (Proc.devRef .tc main_v24_2) := by
  induction n with
  | zero => rfl
  | succ n ih => rw [trip_succ, STEP_main_v24_2, ih]
theorem trip3 (n : ℕ) : trip m c n (Proc.devRef .tc main_v24_3) = entryContents preI m c (Proc.devRef .tc main_v24_3) := by
  induction n with
  | zero => rfl
  | succ n ih => rw [trip_succ, STEP_main_v24_3, ih]
theorem trip4 (n : ℕ) : trip m c n (Proc.devRef .tc main_v24_4) = entryContents preI m c (Proc.devRef .tc main_v24_4) := by
  induction n with
  | zero => rfl
  | succ n ih => rw [trip_succ, STEP_main_v24_4, ih]

theorem trip5 (n : ℕ) : trip m c n (Proc.devRef .tc main_v24_5) = fun _ => BitVec.ofNat 32 n := by
  induction n with
  | zero => exact ctr_entry m c
  | succ n ih =>
    rw [trip_succ, STEP_main_v24_5]
    unfold step_main_v24_5
    rw [ih]
    funext i
    show BitVec.ofNat 32 n + 1#32 = BitVec.ofNat 32 (n + 1)
    rw [BitVec.ofNat_add]

variable (n : Fin 128)

theorem g_trip (h : Fin 4) (i : Fin 64) (x : Fin 256) : res_main_while0b_v52 (F := Ideal) (trip m c n.val) (ix3 i h x) = (data m c).g n h i x :=
  (v52_at _ n (trip5 m c n.val) i h x).trans (congrArg (fun a => runSum a i) (funext fun j => (congrFun (trip3 m c n.val) _).trans (entry3_at m c n j h x)))

theorem q_trip (h : Fin 4) (i : Fin 64) (x : Fin 256) : res_main_while0b_v51 (F := Ideal) (trip m c n.val) (ix3 i h x) = (data m c).q n h i x :=
  (v51_at _ n (trip5 m c n.val) i h x).trans (congrArg (· * Ideal.ofBits .f32 0x3D800000#32) ((congrFun (trip0 m c n.val) _).trans (entry0_at m c n i h x)))

theorem k_trip (h : Fin 4) (i : Fin 64) (x : Fin 256) : res_main_while0b_v47 (F := Ideal) (trip m c n.val) (ix3 i h x) = (data m c).k n h i x := by
  rw [v47_eq _ n (trip5 m c n.val)]
  exact (sliceK_at _ n i h x).trans ((congrFun (trip1 m c n.val) _).trans (entry1_at m c n i h x))

theorem v_trip (h : Fin 4) (i : Fin 64) (x : Fin 512) : res_main_while0b_v48 (F := Ideal) (trip m c n.val) (ix3 i h x) = (data m c).v n h i x := by
  rw [v48_eq _ n (trip5 m c n.val)]
  exact (sliceV_at _ n i h x).trans ((congrFun (trip2 m c n.val) _).trans (entry2_at m c n i h x))

/-- The state before each chunk. -/
theorem state_trip (n : ℕ) (hn : n ≤ 128) (h : Fin 4) (x : Fin 256) (l : Fin 512) :
    trip m c n (Proc.devRef .tc main_v24_6) (ix3 h x l) = (data m c).state n h x l := by
  induction n generalizing h x l with
  | zero => exact entry6_at m c h x l
  | succ n ih =>
    obtain ⟨t, ht⟩ : ∃ t : Fin 128, t.val = n := ⟨⟨n, hn⟩, rfl⟩
    subst ht
    rw [trip_succ, STEP_main_v24_6, step6_eq]
    refine (stateOf_at _ _ _ _ _ h x l).trans ?_
    show _ = Ideal.exp ((data m c).g (chunk t.val) h 63 x) * (data m c).state t.val h x l + _
    simp only [v74_at, g_trip, k_trip, v_trip, chunk_val]
    exact Ideal.add_congr (Ideal.mul_congr rfl (ih (by omega) h x l)) rfl

/-- The stacked rows after `n` chunks. -/
theorem rows_trip (n : ℕ) (hn : n ≤ 128) (t : Fin 128) (ht : t.val < n) (i : Fin 64) (h : Fin 4) (l : Fin 512) :
    trip m c n (Proc.devRef .tc main_v24_7) (ix4 t i h l) = (data m c).rows t h i l := by
  induction n with
  | zero => exact absurd ht (Nat.not_lt_zero _)
  | succ n ih =>
    obtain ⟨s, hs⟩ : ∃ s : Fin 128, s.val = n := ⟨⟨n, hn⟩, rfl⟩
    subst hs
    rw [trip_succ, STEP_main_v24_7, step7_eq _ s (trip5 m c s.val)]
    refine (putRows_at _ _ s t i h l).trans ?_
    by_cases e : t = s
    · subst e
      rw [if_pos rfl]
      refine (rowsOf_at _ _ _ _ _ _ (fun i j => by rw [trip4, entry4]; exact causal_at i j) i h l).trans ?_
      unfold Chunks.rows
      simp only [g_trip, q_trip, k_trip, v_trip]
      exact Ideal.add_congr (Finset.sum_congr rfl fun x _ => Ideal.mul_congr (state_trip m c t.val (by omega) h x l) rfl) rfl
    · rw [if_neg e]
      exact ih (by omega) (by have : t.val ≠ s.val := fun hc => e (Fin.ext hc); omega)

/-- The reference's first result, entry by entry. -/
theorem out44_at (t : Fin 128) (i : Fin 64) (h : Fin 4) (l : Fin 512) :
    out_main_v44 (F := Ideal) (trip m c 128) (ix2 ⟨t.val * 64 + i.val, by omega⟩ ⟨h.val * 512 + l.val, by omega⟩)
      = gated ((data m c).rows t h i) (argN m c (ix1 l)) (argG m c (ix2 ⟨t.val * 64 + i.val, by omega⟩ ⟨4096 + (h.val * 512 + l.val), by omega⟩)) l := by
  unfold gated
  pointwise [out_main_v44]
  have e : ∀ x : Fin 512, trip m c 128 (Proc.devRef .tc main_v24_7) (ix4 t i h x) = (data m c).rows t h i x := fun x => rows_trip m c 128 (le_refl _) t t.isLt i h x
  have eg : trip m c 128 (Proc.devRef .tc main_arg0) = argG m c := iter_main_arg0 m c 128
  have en : trip m c 128 (Proc.devRef .tc main_arg3) = argN m c := iter_main_arg3 m c 128
  simp only [e, eg, en]

theorem out45_at (h : Fin 4) (x : Fin 256) (l : Fin 512) :
    out_main_v45 (F := Ideal) (trip m c 128) (ix4 0 h x l) = (data m c).state 128 h x l := by
  refine Eq.trans ?_ (state_trip m c 128 (le_refl _) h x l)
  pointwise [out_main_v45]

end Cert.GlaReferenceIdeal.Value

end
-- ==== Proof.GlaValue.lean ====
module

public import proofs.«01_k».proof.Proof.GlaPre
public import proofs.«01_k».proof.Proof.GlaStep
public import proofs.«01_k».proof.Proof.GlaRefRun

@[expose] public section

set_option maxRecDepth 16384

noncomputable section

open Idealize.ShloMosaic Idealize.ShloMosaic.TcCoe Idealize.SL.Sem
open Idealize.ShloMosaic.Pipeline (Dat)

/-! The kernel runs the recurrence. -/

namespace Cert.GlaIdeal.Value

open Cert.GlaIdeal Cert.GlaIdeal.Gen Cert.GlaMath

variable (m : (ℓ : Loc nD τ sig) → Buf (Elt Ideal) ℓ) (c : Dev nD)

/-- The kernel's chunks. -/
def data : Chunks where
  q n h i x := kerG m c (ix2 ⟨n.val * 64 + i.val, by omega⟩ ⟨h.val * 256 + x.val, by omega⟩) * Ideal.ofBits .f32 0x3D800000#32
  k n h i x := kerG m c (ix2 ⟨n.val * 64 + i.val, by omega⟩ ⟨1024 + (h.val * 256 + x.val), by omega⟩)
  a n h i x := refDecay (kerGate m c ⟨n.val * 64 + i.val, by omega⟩ ⟨h.val * 256 + x.val, by omega⟩)
  v n h i l := kerG m c (ix2 ⟨n.val * 64 + i.val, by omega⟩ ⟨2048 + (h.val * 512 + l.val), by omega⟩)

/-- The chunk a grid point works on. -/
def num (t : Fin cfg0.N) : Fin 128 := ⟨t.val, tlt t⟩

theorem qAt_at (t : Fin cfg0.N) (h : Fin 4) (i : Fin 64) (x : Fin 256) : qAt m c t h (ix2 i x) = (data m c).q (num t) h i x := by
  unfold qAt
  exact (query_at _ i x).trans (congrArg (· * Ideal.ofBits .f32 0x3D800000#32) ((colsK_at _ h i x).trans (x0_at m c t i _)))

theorem kAt_at (t : Fin cfg0.N) (h : Fin 4) (i : Fin 64) (x : Fin 256) : kAt m c t h (ix2 i x) = (data m c).k (num t) h i x := by
  unfold kAt
  exact (colsK_at _ h i x).trans (x1_at m c t i _)

theorem vAt_at (t : Fin cfg0.N) (h : Fin 4) (i : Fin 64) (l : Fin 512) : vAt m c t h (ix2 i l) = (data m c).v (num t) h i l := by
  unfold vAt
  exact (colsV_at _ h i l).trans (x2_at m c t i _)

theorem rAt_at (t : Fin cfg0.N) (h : Fin 4) (i : Fin 64) (l : Fin 512) :
    rAt m c t h (ix2 i l) = kerG m c (ix2 (row t i) ⟨4096 + (h.val * 512 + l.val), by omega⟩) := by
  unfold rAt
  exact (colsV_at _ h i l).trans (x3_at m c t i _)

variable (hp : Cert.Pre_finite_gate.fn (F := Ideal) (kerG m c) (kerW m c) (kerB m c) (kerN m c) = fun _ => 1#1)

include hp

theorem laAt_at (t : Fin cfg0.N) (h : Fin 4) (i : Fin 64) (x : Fin 256) : laAt m c t h (ix2 i x) = (data m c).a (num t) h i x := by
  obtain ⟨a, ha⟩ := gate_real m c hp (row t i) ⟨h.val * 256 + x.val, by omega⟩
  refine (la_at m c t h i x).trans ?_
  refine Eq.trans ?_ (congrArg refDecay (show kerGate m c (row t i) ⟨h.val * 256 + x.val, by omega⟩ = _ from rfl))
  rw [ha]
  exact kerDecay_eq a

theorem decays (t : Fin cfg0.N) (h : Fin 4) : Decays fun i x => laAt m c t h (ix2 i x) := by
  intro i x
  obtain ⟨a, ha⟩ := gate_real m c hp (row t i) ⟨h.val * 256 + x.val, by omega⟩
  obtain ⟨d, hd, e⟩ := refDecay_nonpos a
  exact ⟨d, hd, (la_at m c t h i x).trans (by rw [ha]; exact (kerDecay_eq a).trans e)⟩

theorem sums_at (t : Fin cfg0.N) (h : Fin 4) (i : Fin 64) (x : Fin 256) : sums (laAt m c t h) i x = (data m c).g (num t) h i x :=
  congrArg (fun a => runSum a i) (funext fun j => laAt_at m c hp t h j x)

variable (t : Fin cfg0.N) (st : Fin 4 → FVec Ideal S512x256 .f32) (hst : ∀ h l x, st h (ix2 l x) = (data m c).state t.val h x l)

include hst

theorem next_at (h : Fin 4) (l : Fin 512) (x : Fin 256) : nextAt m c t st h (ix2 l x) = (data m c).state (t.val + 1) h x l := by
  unfold nextAt
  refine (headSt_at _ _ _ _ l x).trans ?_
  have e : chunk t.val = num t := Fin.ext (Nat.mod_eq_of_lt (tlt t))
  show _ = Ideal.exp ((data m c).g (chunk t.val) h 63 x) * (data m c).state t.val h x l + _
  rw [e]
  refine Ideal.add_congr (Ideal.mul_congr (congrArg Ideal.exp (sums_at m c hp t h 63 x)) (hst h l x)) (Finset.sum_congr rfl fun j _ => ?_)
  exact Ideal.mul_congr (Ideal.mul_congr (kAt_at m c t h j x) (by rw [sums_at m c hp, sums_at m c hp])) (vAt_at m c t h j l)

theorem rows_at (h : Fin 4) (i : Fin 64) (l : Fin 512) :
    headO (qAt m c t h) (kAt m c t h) (laAt m c t h) (vAt m c t h) (st h) (ix2 i l) = (data m c).rows (num t) h i l := by
  refine (headO_at _ _ _ _ _ (decays m c hp t h) i l).trans ?_
  unfold Chunks.rows
  have eq : (fun i x => qAt m c t h (ix2 i x)) = (data m c).q (num t) h := funext fun i => funext fun x => qAt_at m c t h i x
  have ek : (fun i x => kAt m c t h (ix2 i x)) = (data m c).k (num t) h := funext fun i => funext fun x => kAt_at m c t h i x
  have eg : sums (laAt m c t h) = (data m c).g (num t) h := funext fun i => funext fun x => sums_at m c hp t h i x
  rw [eq, ek, eg]
  refine Ideal.add_congr (Finset.sum_congr rfl fun x _ => Ideal.mul_congr (hst h l x) (Ideal.mul_congr (qAt_at m c t h i x) rfl))
    (Finset.sum_congr rfl fun j _ => Ideal.mul_congr (vAt_at m c t h j l) rfl)

theorem out_at (h : Fin 4) (i : Fin 64) (l : Fin 512) :
    outAt m c t st h (ix2 i l)
      = gated ((data m c).rows (num t) h i) (kerN m c (ix1 l)) (kerG m c (ix2 (row t i) ⟨4096 + (h.val * 512 + l.val), by omega⟩)) l := by
  unfold outAt
  refine (headOut_at _ _ _ i l).trans ?_
  have e : (fun x => headO (qAt m c t h) (kAt m c t h) (laAt m c t h) (vAt m c t h) (st h) (ix2 i x)) = (data m c).rows (num t) h i :=
    funext fun x => rows_at m c hp t st hst h i x
  rw [e, rAt_at]
  exact congrArg (fun g => gated ((data m c).rows (num t) h i) g (kerG m c (ix2 (row t i) ⟨4096 + (h.val * 512 + l.val), by omega⟩)) l) (x7_at m c t l)

omit hst

omit hp in
theorem start_zero (h : Fin 4) (l : Fin 512) (x : Fin 256) (t : Fin cfg0.N) (h0 : t.val = 0) : startOf (iblk m c 8 t) h (ix2 l x) = (data m c).state t.val h x l := by
  rw [h0]
  exact (startOf_at _ h l x).trans (x8_at m c t h x l)

/-- The carried state after each chunk. -/
theorem carry (n : ℕ) (hn : n < cfg0.N) (h : Fin 4) (l : Fin 512) (x : Fin 256) :
    carryOf (outsAt0 m c n hn).2.2 h (ix2 l x) = (data m c).state (n + 1) h x l := by
  have hN : n < 128 := lt_of_lt_of_eq hn N_0
  refine (carryOf_at _ h l x).trans ?_
  induction n generalizing h l x with
  | zero =>
    obtain ⟨L, e⟩ := stepA_s m c ⟨0, hn⟩ (show 0 % 128 = 0 from rfl) (show ¬0 % 128 = 127 by omega)
    refine (congrFun e _).trans ((putS_at _ L h l x).trans ?_)
    exact next_at m c hp ⟨0, hn⟩ _ (fun h l x => start_zero m c h l x ⟨0, hn⟩ rfl) h l x
  | succ n ih =>
    have hs : ∀ h l x, carryOf (outsAt0 m c n (Nat.lt_of_succ_lt hn)).2.2 h (ix2 l x) = (data m c).state (n + 1) h x l :=
      fun h l x => (carryOf_at _ h l x).trans (ih (Nat.lt_of_succ_lt hn) h l x (Nat.lt_of_succ_lt hN))
    by_cases h1 : (n + 1) % 128 = 127
    · refine (congrFun (stepC_s m c ⟨n + 1, hn⟩ (by show ¬(n + 1) % 128 = 0; omega) h1) _).trans ((putS_at _ [] h l x).trans ?_)
      exact next_at m c hp ⟨n + 1, hn⟩ _ hs h l x
    · refine (congrFun (stepB_s m c ⟨n + 1, hn⟩ (by show ¬(n + 1) % 128 = 0; omega) h1) _).trans ((putS_at _ [] h l x).trans ?_)
      exact next_at m c hp ⟨n + 1, hn⟩ _ hs h l x

/-- The state a chunk starts from. -/
theorem before (t : Fin cfg0.N) (h0 : ¬t.val % 128 = 0) (h : Fin 4) (l : Fin 512) (x : Fin 256) :
    carryOf (outsAt0 m c (t.val - 1) (Nat.lt_of_le_of_lt (Nat.sub_le _ _) t.isLt)).2.2 h (ix2 l x) = (data m c).state t.val h x l := by
  have hN := tlt t
  refine (carry m c hp (t.val - 1) _ h l x).trans ?_
  rw [show t.val - 1 + 1 = t.val by omega]

/-- The rows written at each chunk. -/
theorem wrote (t : Fin cfg0.N) (h : Fin 4) (i : Fin 64) (l : Fin 512) :
    (outsAt0 m c t.val t.isLt).1 (ix2 i ⟨h.val * 512 + l.val, by omega⟩)
      = gated ((data m c).rows (num t) h i) (kerN m c (ix1 l)) (kerG m c (ix2 (row t i) ⟨4096 + (h.val * 512 + l.val), by omega⟩)) l := by
  by_cases h0 : t.val % 128 = 0
  · have hN := tlt t
    refine (congrFun (stepA_o m c t h0 (by omega)) _).trans ((putO_at _ h i l).trans ?_)
    exact out_at m c hp t _ (fun h l x => start_zero m c h l x t (by omega)) h i l
  · by_cases h1 : t.val % 128 = 127
    · refine (congrFun (stepC_o m c t h0 h1) _).trans ((putO_at _ h i l).trans ?_)
      exact out_at m c hp t _ (before m c hp t h0) h i l
    · refine (congrFun (stepB_o m c t h0 h1) _).trans ((putO_at _ h i l).trans ?_)
      exact out_at m c hp t _ (before m c hp t h0) h i l

theorem final_o (n : Fin 128) (i : Fin 64) (h : Fin 4) (l : Fin 512) :
    G9 m c (ix2 ⟨n.val * 64 + i.val, by omega⟩ ⟨h.val * 512 + l.val, by omega⟩)
      = gated ((data m c).rows n h i) (kerN m c (ix1 l)) (kerG m c (ix2 ⟨n.val * 64 + i.val, by omega⟩ ⟨4096 + (h.val * 512 + l.val), by omega⟩)) l := by
  have hn : n.val < cfg0.N := lt_of_lt_of_eq n.isLt N_0.symm
  refine Eq.trans ?_ (wrote m c hp ⟨n.val, hn⟩ h i l)
  have hpt : pt9Of (ix2 ⟨n.val * 64 + i.val, by omega⟩ ⟨h.val * 512 + l.val, by omega⟩ : S8192x2048.Idx) = n.val := by
    show 1 * ((n.val * 64 + i.val) / 64 - 0) + 1 * ((h.val * 512 + l.val) / 2048 - 0) = n.val
    omega
  have hl : loc9Of (ix2 ⟨n.val * 64 + i.val, by omega⟩ ⟨h.val * 512 + l.val, by omega⟩ : S8192x2048.Idx) = ix2 i ⟨h.val * 512 + l.val, by omega⟩ := by
    funext a
    apply Fin.ext
    match a with
    | ⟨0, _⟩ => show (n.val * 64 + i.val) % 64 = i.val; omega
    | ⟨1, _⟩ => show (h.val * 512 + l.val) % 2048 = h.val * 512 + l.val; omega
  unfold G9
  rw [dif_pos (by rw [hpt]; exact hn), hl, fold0_congr m c _ _ _ (by omega) hpt, ← outsAt0_sweep m c n.val hn]

theorem last_s (t : Fin cfg0.N) (h1 : t.val % 128 = 127) (h : Fin 4) (x : Fin 256) (l : Fin 512) :
    (outsAt0 m c t.val t.isLt).2.1 (ix4 0 h x l) = (data m c).state (t.val + 1) h x l := by
  have h0 : ¬t.val % 128 = 0 := by omega
  refine (congrFun (stepC_f m c t h0 h1) _).trans ((putF_at _ h l x).trans ?_)
  exact next_at m c hp t _ (before m c hp t h0) h l x

theorem final_s (h : Fin 4) (x : Fin 256) (l : Fin 512) : G10 m c (ix4 0 h x l) = (data m c).state 128 h x l := by
  obtain ⟨t, ht⟩ : ∃ t : Fin cfg0.N, t.val = 127 := ⟨⟨127, lt_of_lt_of_eq (by decide) N_0.symm⟩, rfl⟩
  refine Eq.trans ?_ ((last_s m c hp t (by omega) h x l).trans (by rw [ht]))
  rw [G10_last, outsAt0_sweep m c t.val t.isLt, fold0_congr m c _ _ _ _ ht]

end Cert.GlaIdeal.Value

end
-- ==== Proof.GlaClaims.lean ====
module

public import proofs.«01_k».proof.Defs
public import proofs.«01_k».proof.Proof.GlaValue
public import Idealize.ShloMosaic.Lib.Claim

@[expose] public section

set_option maxRecDepth 16384

noncomputable section

open Idealize.ShloMosaic Idealize.ShloMosaic.TcCoe Idealize.SL.Sem

/-! Both programs end with the same rows and the same state. -/

namespace Cert.GlaIdeal.Value

open Cert.GlaIdeal Cert.GlaIdeal.Gen Cert.GlaMath

variable (m : (ℓ : Loc nD τ sig) → Buf (Elt Ideal) ℓ) (m' : (ℓ : Loc Cert.GlaReferenceIdeal.nD Cert.GlaReferenceIdeal.τ Cert.GlaReferenceIdeal.sig) → Buf (Elt Ideal) ℓ)
  (c : Dev nD)
  (e0 : Cert.GlaReferenceIdeal.Value.argG m' c = kerG m c) (e1 : Cert.GlaReferenceIdeal.Value.argW m' c = kerW m c)
  (e2 : Cert.GlaReferenceIdeal.Value.argB m' c = kerB m c) (e3 : Cert.GlaReferenceIdeal.Value.argN m' c = kerN m c)
  (hp : Cert.Pre_finite_gate.fn (F := Ideal) (kerG m c) (kerW m c) (kerB m c) (kerN m c) = fun _ => 1#1)

include e0 e1 e2

theorem same_data : Cert.GlaReferenceIdeal.Value.data m' c = data m c := by
  unfold Cert.GlaReferenceIdeal.Value.data data Cert.GlaReferenceIdeal.Value.gateArg kerGate
  rw [e0, e1, e2]

include hp

theorem same_state : Cert.GlaReferenceIdeal.Value.out_main_v45 (F := Ideal) (Cert.GlaReferenceIdeal.Value.trip m' c 128) = G10 m c := by
  funext y
  rw [show y = ix4 0 (y 1) (y 2) (y 3) from by
    funext a
    match a with
    | 0 => exact Subsingleton.elim (α := Fin 1) _ _
    | 1 => rfl
    | 2 => rfl
    | 3 => rfl]
  refine (Cert.GlaReferenceIdeal.Value.out45_at m' c _ _ _).trans ?_
  rw [same_data m m' c e0 e1 e2]
  exact (final_s m c hp _ _ _).symm

include e3

theorem same_rows : Cert.GlaReferenceIdeal.Value.out_main_v44 (F := Ideal) (Cert.GlaReferenceIdeal.Value.trip m' c 128) = G9 m c := by
  funext y
  have b0 : (y 0).val < 8192 := (y 0).isLt
  have b1 : (y 1).val < 2048 := (y 1).isLt
  obtain ⟨n, hn⟩ : ∃ n : Fin 128, n.val = (y 0).val / 64 := ⟨⟨(y 0).val / 64, by omega⟩, rfl⟩
  obtain ⟨i, hi⟩ : ∃ i : Fin 64, i.val = (y 0).val % 64 := ⟨⟨(y 0).val % 64, by omega⟩, rfl⟩
  obtain ⟨h, hh⟩ : ∃ h : Fin 4, h.val = (y 1).val / 512 := ⟨⟨(y 1).val / 512, by omega⟩, rfl⟩
  obtain ⟨l, hl⟩ : ∃ l : Fin 512, l.val = (y 1).val % 512 := ⟨⟨(y 1).val % 512, by omega⟩, rfl⟩
  rw [show y = ix2 ⟨n.val * 64 + i.val, by omega⟩ ⟨h.val * 512 + l.val, by omega⟩ from by
    funext a
    apply Fin.ext
    match a with
    | 0 => show (y 0).val = n.val * 64 + i.val; omega
    | 1 => show (y 1).val = h.val * 512 + l.val; omega]
  refine (Cert.GlaReferenceIdeal.Value.out44_at m' c n i h l).trans ?_
  rw [same_data m m' c e0 e1 e2, e0, e3]
  exact (final_o m c hp n i h l).symm

end Cert.GlaIdeal.Value

namespace Cert.Proof

theorem gla : Cert.algebraic_GlaIdeal_GlaReferenceIdeal_pre_finite_gate := by
  intro m g m' g' hpre hagree
  refine ⟨fun c => Cert.GlaIdeal.Value.G9 m c, fun c => Cert.GlaIdeal.Value.G10 m c, Cert.GlaIdeal.Value.run m g, ?_⟩
  refine (θ_run Cert.GlaReferenceIdeal.defs _ _).mono (fun r h c => ?_) (Cert.GlaReferenceIdeal.Value.run m' g')
  obtain ⟨e0, e1, e2, e3⟩ := hagree c
  have hp := hpre c
  exact ⟨(h c).1.trans (Cert.GlaIdeal.Value.same_rows m m' c e0 e1 e2 e3 hp), (h c).2.1.trans (Cert.GlaIdeal.Value.same_state m m' c e0 e1 e2 hp), (h c).2.2⟩

end Cert.Proof

end
-- ==== Proof.GsModel.lean ====
module

public import proofs.«01_k».proof.Proof.Gen.GlaSampleIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! One head of one sequence, as array functions that all four heads share. -/

namespace Cert.GlaSampleIdeal.Value

open Cert.GlaSampleIdeal Cert.GlaSampleIdeal.Gen

/-- The row and column numbers of a sequence's square matrix. -/
abbrev rowI : IVec S16x16 32 := iota .tc S16x16 32 [0] iota_S16x16_d0_w32
abbrev colI : IVec S16x16 32 := iota .tc S16x16 32 [1] iota_S16x16_d1_w32

/-- A row number's remainder by the sub-block's sixteen rows. -/
def remRow : IVec S16x16 32 :=
  have a : IVec S16x16 32 := broadcast S16x16 (Scalar.select (Scalar.cmpi .eq 16#32 0#32) 1#32 16#32)
  have r : IVec S16x16 32 := remsi rowI a
  have z : IVec S16x16 32 := broadcast S16x16 0#32
  select (andi (xori (cmpi .slt r z) (broadcastTo S16x16 (broadcast S16x16 (Scalar.cmpi .slt (Scalar.select (Scalar.cmpi .eq 16#32 0#32) 1#32 16#32) 0#32) : IVec S16x16 1) broadcasts_S16x16_S16x16)) (cmpi .ne r z)) (addi r a) r

/-- Where the diagonal at distance `d` of the sixteen-row blocks lies. -/
def diagMask (d : BitVec 32) : IVec S16x16 1 :=
  andi (cmpi .eq (subi rowI colI) (broadcast S16x16 d)) (cmpi .sge remRow (broadcast S16x16 d))

/-- The scores at distance `d` below the diagonal, one per row. -/
def diagAt (d : BitVec 32) (q k g : FVec Ideal S16x256 .f32) : FVec Ideal S16x1 .f32 :=
  shapeCast S16x1 (multiReduction .add [1] S16
    (mulf (mulf q (dynamicRotate 0 d none k rotates_S16x256_d0))
      (exp (minimumf (subf g (dynamicRotate 0 d none g rotates_S16x256_d0)) (broadcast S16x256 (Scalar.ofBits .f32 0x00000000#32)))))
    0x00000000#32 reduces_S16x256_S16 (.inl rfl) rfl) shapeCasts_S16_S16x1

/-- The scores on the diagonal. -/
def diagZero (q k : FVec Ideal S16x256 .f32) : FVec Ideal S16x1 .f32 :=
  shapeCast S16x1 (multiReduction .add [1] S16 (mulf q k) 0x00000000#32 reduces_S16x256_S16 (.inl rfl) rfl) shapeCasts_S16_S16x1

/-- One diagonal written over the scores so far. -/
def putDiag (d : BitVec 32) (col : FVec Ideal S16x1 .f32) (att : FVec Ideal S16x16 .f32) : FVec Ideal S16x16 .f32 :=
  select (diagMask d) (broadcastTo S16x16 (shapeCast S16x1 col shapeCasts_S16x1_S16x1) broadcasts_S16x1_S16x16) att

/-- The scores of the blocks below the diagonal blocks: there are none, and zero stands everywhere. -/
def farAtt : FVec Ideal S16x16 .f32 := k0_pay15 colI k0_pay13 k0_pay14

/-- The scores after the diagonals at distances below `n + 1`. -/
def attUpTo (q k g : FVec Ideal S16x256 .f32) : ℕ → FVec Ideal S16x16 .f32
  | 0 => putDiag 0#32 (diagZero q k) farAtt
  | n + 1 => putDiag (BitVec.ofNat 32 (n + 1)) (diagAt (BitVec.ofNat 32 (n + 1)) q k g) (attUpTo q k g n)

/-- The read of the state and the sequence's own values, before the norm. -/
def headO (q k g : FVec Ideal S16x256 .f32) (v : FVec Ideal S16x512 .f32) (st : FVec Ideal S512x256 .f32) : FVec Ideal S16x512 .f32 :=
  addf (matmul dot_S16x256_S512x256_S16x512_1_1_0_0_n_n none (truncf .bf16 (mulf q (exp g)) bitsLt_bf16_f32) (truncf .bf16 st bitsLt_bf16_f32) (constant S16x512 .f32 0x00000000#32))
    (matmul dot_S16x16_S16x512_S16x512_1_0_0_1_n_n none (truncf .bf16 (attUpTo q k g 15) bitsLt_bf16_f32) (truncf .bf16 v bitsLt_bf16_f32) (constant S16x512 .f32 0x00000000#32))

/-- The head's first eight rows. -/
def headTop (o : FVec Ideal S16x512 .f32) : FVec Ideal S8x512 .f32 := extractStridedSlice S8x512 ![0, 0] o slices_S16x512_o0_0_S8x512

/-- The head's rows after the norm and the output gate. -/
def headOut (o r : FVec Ideal S8x512 .f32) (go : FVec Ideal S1x512 .f32) : FVec Ideal S8x512 .f32 :=
  mulf (mulf (mulf o (broadcastTo S8x512 (rsqrt (addf (divf (shapeCast S8x1 (multiReduction .add [1] S8 (mulf o o) 0x00000000#32 reduces_S8x512_S8 (.inl rfl) rfl) shapeCasts_S8_S8x1)
    (broadcast S8x1 (Scalar.ofBits .f32 0x44000000#32))) (broadcast S8x1 (Scalar.ofBits .f32 0x358637BD#32)))) broadcasts_S8x1_S8x512))
    (broadcastTo S8x512 (shapeCast S1x512 go shapeCasts_S1x512_S1x512) broadcasts_S1x512_S8x512)) (mulf r (logistic r))

/-- The running sums of the log decays, the padded rows' taken as zero. -/
def sumsOf (p : FVec Ideal S16x256 .f32) : FVec Ideal S16x256 .f32 := k0_pay11 p (Scalar.ofBits .f32 0x00000000#32)

/-- The last row of the running sums. -/
def lastOf (g : FVec Ideal S16x256 .f32) : FVec Ideal S1x256 .f32 := extractStridedSlice S1x256 ![15, 0] g slices_S16x256_o15_0_S1x256

/-- The state after the sequence's tokens. -/
def headSt (k g : FVec Ideal S16x256 .f32) (v : FVec Ideal S16x512 .f32) (st : FVec Ideal S512x256 .f32) : FVec Ideal S512x256 .f32 :=
  addf (mulf (broadcastTo S512x256 (exp (lastOf g)) broadcasts_S1x256_S512x256) st)
    (matmul dot_S16x512_S16x256_S512x256_0_0_1_1_n_n none (truncf .bf16 v bitsLt_bf16_f32)
      (truncf .bf16 (mulf k (exp (subf (broadcastTo S16x256 (lastOf g) broadcasts_S1x256_S16x256) g))) bitsLt_bf16_f32)
      (constant S512x256 .f32 0x00000000#32))

/-- Head `h`'s 256 columns of a block of queries or keys. -/
def colsK (X : FVec Ideal S8x1024 .f32) : Fin 4 → FVec Ideal S8x256 .f32
  | 0 => View.ld (Val := Elt Ideal) (e' := .f32) X (Rect.unit (s := S8x1024) ![0, 0] ![8, 256] inb_S8x1024_S8x256_0_0)
  | 1 => View.ld (Val := Elt Ideal) (e' := .f32) X (Rect.unit (s := S8x1024) ![0, 256] ![8, 256] inb_S8x1024_S8x256_0_256)
  | 2 => View.ld (Val := Elt Ideal) (e' := .f32) X (Rect.unit (s := S8x1024) ![0, 512] ![8, 256] inb_S8x1024_S8x256_0_512)
  | 3 => View.ld (Val := Elt Ideal) (e' := .f32) X (Rect.unit (s := S8x1024) ![0, 768] ![8, 256] inb_S8x1024_S8x256_0_768)

/-- Head `h`'s 512 columns of a block of values or gates. -/
def colsV (X : FVec Ideal S8x2048 .f32) : Fin 4 → FVec Ideal S8x512 .f32
  | 0 => View.ld (Val := Elt Ideal) (e' := .f32) X (Rect.unit (s := S8x2048) ![0, 0] ![8, 512] inb_S8x2048_S8x512_0_0)
  | 1 => View.ld (Val := Elt Ideal) (e' := .f32) X (Rect.unit (s := S8x2048) ![0, 512] ![8, 512] inb_S8x2048_S8x512_0_512)
  | 2 => View.ld (Val := Elt Ideal) (e' := .f32) X (Rect.unit (s := S8x2048) ![0, 1024] ![8, 512] inb_S8x2048_S8x512_0_1024)
  | 3 => View.ld (Val := Elt Ideal) (e' := .f32) X (Rect.unit (s := S8x2048) ![0, 1536] ![8, 512] inb_S8x2048_S8x512_0_1536)

/-- Head `h`'s 256 columns of the decay's weight. -/
def colsW (X : FVec Ideal S128x1024 .f32) : Fin 4 → FVec Ideal S128x256 .f32
  | 0 => View.ld (Val := Elt Ideal) (e' := .f32) X (Rect.unit (s := S128x1024) ![0, 0] ![128, 256] inb_S128x1024_S128x256_0_0)
  | 1 => View.ld (Val := Elt Ideal) (e' := .f32) X (Rect.unit (s := S128x1024) ![0, 256] ![128, 256] inb_S128x1024_S128x256_0_256)
  | 2 => View.ld (Val := Elt Ideal) (e' := .f32) X (Rect.unit (s := S128x1024) ![0, 512] ![128, 256] inb_S128x1024_S128x256_0_512)
  | 3 => View.ld (Val := Elt Ideal) (e' := .f32) X (Rect.unit (s := S128x1024) ![0, 768] ![128, 256] inb_S128x1024_S128x256_0_768)

/-- Head `h`'s 256 entries of the decay's bias. -/
def colsB (X : FVec Ideal S1x1024 .f32) : Fin 4 → FVec Ideal S1x256 .f32
  | 0 => View.ld (Val := Elt Ideal) (e' := .f32) X (Rect.unit (s := S1x1024) ![0, 0] ![1, 256] inb_S1x1024_S1x256_0_0)
  | 1 => View.ld (Val := Elt Ideal) (e' := .f32) X (Rect.unit (s := S1x1024) ![0, 256] ![1, 256] inb_S1x1024_S1x256_0_256)
  | 2 => View.ld (Val := Elt Ideal) (e' := .f32) X (Rect.unit (s := S1x1024) ![0, 512] ![1, 256] inb_S1x1024_S1x256_0_512)
  | 3 => View.ld (Val := Elt Ideal) (e' := .f32) X (Rect.unit (s := S1x1024) ![0, 768] ![1, 256] inb_S1x1024_S1x256_0_768)

/-- Head `h`'s part of the first state, turned. -/
def startOf (X : FVec Ideal S1x4x256x512 .f32) : Fin 4 → FVec Ideal S512x256 .f32
  | 0 => shapeCast S512x256 (k0_pay1 (View.ld (Val := Elt Ideal) (e' := .f32) X (Rect.unit (s := S1x4x256x512) ![0, 0, 0, 0] ![1, 1, 256, 512] inb_S1x4x256x512_S1x1x256x512_0_0_0_0))) shapeCasts_S1x512x256_S512x256
  | 1 => shapeCast S512x256 (k0_pay2 (View.ld (Val := Elt Ideal) (e' := .f32) X (Rect.unit (s := S1x4x256x512) ![0, 1, 0, 0] ![1, 1, 256, 512] inb_S1x4x256x512_S1x1x256x512_0_1_0_0))) shapeCasts_S1x512x256_S512x256
  | 2 => shapeCast S512x256 (k0_pay3 (View.ld (Val := Elt Ideal) (e' := .f32) X (Rect.unit (s := S1x4x256x512) ![0, 2, 0, 0] ![1, 1, 256, 512] inb_S1x4x256x512_S1x1x256x512_0_2_0_0))) shapeCasts_S1x512x256_S512x256
  | 3 => shapeCast S512x256 (k0_pay4 (View.ld (Val := Elt Ideal) (e' := .f32) X (Rect.unit (s := S1x4x256x512) ![0, 3, 0, 0] ![1, 1, 256, 512] inb_S1x4x256x512_S1x1x256x512_0_3_0_0))) shapeCasts_S1x512x256_S512x256

variable (m : (ℓ : Loc nD τ sig) → Buf (Elt Ideal) ℓ)

/-- Head `h`'s queries, keys, running sums, values and gates of sequence `t`. -/
def qAt (c : Dev nD) (t : Fin cfg0.N) (h : Fin 4) : FVec Ideal S16x256 .f32 := k0_pay7 (colsK (X0_0 m c t) h)
def kAt (c : Dev nD) (t : Fin cfg0.N) (h : Fin 4) : FVec Ideal S16x256 .f32 := k0_pay8 (colsK (X0_1 m c t) h)
def preAt (c : Dev nD) (t : Fin cfg0.N) (h : Fin 4) : FVec Ideal S16x256 .f32 := k0_pay10 (iblk m c 4 t) (colsW (iblk m c 5 t) h) (colsB (iblk m c 6 t) h)
def vAt (c : Dev nD) (t : Fin cfg0.N) (h : Fin 4) : FVec Ideal S16x512 .f32 := k0_pay9 (colsV (X0_2 m c t) h)
def rAt (c : Dev nD) (t : Fin cfg0.N) (h : Fin 4) : FVec Ideal S8x512 .f32 := colsV (X0_3 m c t) h

/-- Head `h`'s output rows of sequence `t` from the state before it. -/
def outAt (c : Dev nD) (t : Fin cfg0.N) (st : Fin 4 → FVec Ideal S512x256 .f32) (h : Fin 4) : FVec Ideal S8x512 .f32 :=
  headOut (headTop (headO (qAt m c t h) (kAt m c t h) (sumsOf (preAt m c t h)) (vAt m c t h) (st h))) (rAt m c t h) (iblk m c 7 t)

/-- Head `h`'s state after sequence `t` from the state before it. -/
def nextAt (c : Dev nD) (t : Fin cfg0.N) (st : Fin 4 → FVec Ideal S512x256 .f32) (h : Fin 4) : FVec Ideal S512x256 .f32 :=
  headSt (kAt m c t h) (sumsOf (preAt m c t h)) (vAt m c t h) (st h)

/-- Four heads' rows side by side. -/
def putO (P : Fin 4 → FVec Ideal S8x512 .f32) : FVec Ideal S8x2048 .f32 :=
  View.canon (Val := Elt Ideal) (s := S8x2048) (e := .f32) [⟨Rect.unit (s := S8x2048) ![0, 1536] ![8, 512] inb_S8x2048_S8x512_0_1536, P 3⟩, ⟨Rect.unit (s := S8x2048) ![0, 1024] ![8, 512] inb_S8x2048_S8x512_0_1024, P 2⟩, ⟨Rect.unit (s := S8x2048) ![0, 512] ![8, 512] inb_S8x2048_S8x512_0_512, P 1⟩, ⟨Rect.unit (s := S8x2048) ![0, 0] ![8, 512] inb_S8x2048_S8x512_0_0, P 0⟩]

/-- Four heads' states turned back, one after the other. -/
def putF (P : Fin 4 → FVec Ideal S512x256 .f32) : FVec Ideal S1x4x256x512 .f32 :=
  View.canon (Val := Elt Ideal) (s := S1x4x256x512) (e := .f32) [⟨Rect.unit (s := S1x4x256x512) ![0, 3, 0, 0] ![1, 1, 256, 512] inb_S1x4x256x512_S1x1x256x512_0_3_0_0, k0_pay259 (F := Ideal) (shapeCast S1x512x256 (P 3) shapeCasts_S512x256_S1x512x256)⟩, ⟨Rect.unit (s := S1x4x256x512) ![0, 2, 0, 0] ![1, 1, 256, 512] inb_S1x4x256x512_S1x1x256x512_0_2_0_0, k0_pay258 (F := Ideal) (shapeCast S1x512x256 (P 2) shapeCasts_S512x256_S1x512x256)⟩, ⟨Rect.unit (s := S1x4x256x512) ![0, 1, 0, 0] ![1, 1, 256, 512] inb_S1x4x256x512_S1x1x256x512_0_1_0_0, k0_pay257 (F := Ideal) (shapeCast S1x512x256 (P 1) shapeCasts_S512x256_S1x512x256)⟩, ⟨Rect.unit (s := S1x4x256x512) ![0, 0, 0, 0] ![1, 1, 256, 512] inb_S1x4x256x512_S1x1x256x512_0_0_0_0, k0_pay256 (F := Ideal) (shapeCast S1x512x256 (P 0) shapeCasts_S512x256_S1x512x256)⟩]

end Cert.GlaSampleIdeal.Value

end
-- ==== Proof.GsMath.lean ====
module

public import proofs.«01_k».proof.Proof.GlaSpec

@[expose] public section

set_option maxRecDepth 16384

noncomputable section

open Idealize.ShloMosaic Idealize.ShloMosaic.TcCoe Idealize.SL.Sem

/-! Sixteen rows, of which the last eight are padding, and the eight rows of one sequence. -/

namespace Cert.GsMath

open Cert.GlaMath (gated)

/-- The running sum of the first rows of a column. -/
def runSum {n : ℕ} (a : Fin n → EReal) (i : Fin n) : EReal := ∑ j : Fin n, if j ≤ i then a j else 0

/-- The decayed score of row `i` with row `j`. -/
def score {n : ℕ} (q k : Fin n → Fin 256 → EReal) (g : Fin n → Fin 256 → EReal) (i j : Fin n) : EReal :=
  if j ≤ i then ∑ x : Fin 256, q i x * k j x * Ideal.exp (g i x - g j x) else 0

/-- A column of real numbers, none above zero. -/
def Decays {n : ℕ} (a : Fin n → Fin 256 → EReal) : Prop := ∀ i x, ∃ r : ℝ, r ≤ 0 ∧ a i x = (r : EReal)

theorem coe_sum_ite {n : ℕ} (f : Fin n → ℝ) (i : Fin n) :
    (∑ j : Fin n, if j ≤ i then ((f j : ℝ) : EReal) else 0) = ((∑ j : Fin n, if j ≤ i then f j else 0 : ℝ) : EReal) := by
  have h : ∀ s : Finset (Fin n), (∑ j ∈ s, if j ≤ i then ((f j : ℝ) : EReal) else 0) = ((∑ j ∈ s, if j ≤ i then f j else 0 : ℝ) : EReal) := by
    intro s
    induction s using Finset.induction_on with
    | empty => simp
    | insert a s ha ih =>
      rw [Finset.sum_insert ha, Finset.sum_insert ha, ih, EReal.coe_add]
      congr 1
      by_cases hj : a ≤ i <;> simp [hj]
  exact h _

/-- The running sums of decays are real and fall with the row. -/
theorem Decays.sums {n : ℕ} {a : Fin n → Fin 256 → EReal} (h : Decays a) :
    ∃ G : Fin n → Fin 256 → ℝ, (∀ i x, runSum (fun j => a j x) i = (G i x : EReal)) ∧ ∀ i j x, j ≤ i → G i x ≤ G j x := by
  choose r hr0 hr using h
  refine ⟨fun i x => ∑ j : Fin n, if j ≤ i then r j x else 0, fun i x => ?_, fun i j x hji => ?_⟩
  · unfold runSum
    simp only [hr]
    exact coe_sum_ite _ _
  · refine Finset.sum_le_sum fun y _ => ?_
    by_cases h1 : y ≤ j
    · rw [if_pos h1, if_pos (h1.trans hji)]
    · rw [if_neg h1]
      by_cases h2 : y ≤ i
      · rw [if_pos h2]; exact hr0 y x
      · rw [if_neg h2]

/-- One of the first eight rows. -/
def low (i : Fin 8) : Fin 16 := ⟨i.val, by omega⟩

/-- A sum whose padded terms vanish is the sum over the eight rows. -/
theorem sum_low (f : Fin 16 → EReal) (h : ∀ x : Fin 16, 8 ≤ x.val → f x = 0) : ∑ x : Fin 16, f x = ∑ x : Fin 8, f (low x) := by
  refine (Fin.sum_univ_add (a := 8) (b := 8) f).trans ?_
  rw [Finset.sum_eq_zero (s := Finset.univ) (f := fun i : Fin 8 => f (Fin.natAdd 8 i)) fun x _ => h _ (by simp), add_zero]
  rfl

/-- Padded rows do not change the running sums of the first eight. -/
theorem runSum_low (a : Fin 16 → EReal) (i : Fin 8) : runSum a (low i) = runSum (fun j => a (low j)) i := by
  unfold runSum
  refine sum_low _ fun x hx => if_neg fun hc => ?_
  have := Fin.le_def.mp hc
  have : x.val ≤ i.val := this
  omega

/-- The last padded row's running sum is the eighth row's. -/
theorem runSum_last (a : Fin 16 → EReal) (h : ∀ x : Fin 16, 8 ≤ x.val → a x = 0) : runSum a 15 = runSum (fun j => a (low j)) 7 := by
  unfold runSum
  refine (sum_low _ fun x hx => ?_).trans (Finset.sum_congr rfl fun j _ => ?_)
  · rw [h x hx, ite_self]
  · rw [if_pos (Fin.le_def.mpr (by show j.val ≤ 15; omega)), if_pos (Fin.le_def.mpr (by show j.val ≤ 7; omega))]

/-- The scores of a first row reach first rows only. -/
theorem score_high (q k g : Fin 16 → Fin 256 → EReal) (i : Fin 8) (j : Fin 16) (h : 8 ≤ j.val) : score q k g (low i) j = 0 :=
  if_neg fun hc => by
    have := Fin.le_def.mp hc
    have : j.val ≤ i.val := this
    omega

theorem score_low (q k g : Fin 16 → Fin 256 → EReal) (i j : Fin 8) :
    score q k g (low i) (low j) = score (fun i => q (low i)) (fun i => k (low i)) (fun i => g (low i)) i j := by
  unfold score
  rfl

/-- The sequences' queries, keys, log decays (sequence, head, row, column), values and first states. -/
structure Seqs where
  q : Fin 32 → Fin 4 → Fin 8 → Fin 256 → EReal
  k : Fin 32 → Fin 4 → Fin 8 → Fin 256 → EReal
  a : Fin 32 → Fin 4 → Fin 8 → Fin 256 → EReal
  v : Fin 32 → Fin 4 → Fin 8 → Fin 512 → EReal
  s : Fin 32 → Fin 4 → Fin 256 → Fin 512 → EReal

/-- The running sums of a sequence's log decays. -/
def Seqs.g (D : Seqs) (b : Fin 32) (h : Fin 4) (i : Fin 8) (x : Fin 256) : EReal := runSum (fun j => D.a b h j x) i

/-- The state after a sequence's eight tokens. -/
def Seqs.state (D : Seqs) (b : Fin 32) (h : Fin 4) (x : Fin 256) (l : Fin 512) : EReal :=
  Ideal.exp (D.g b h 7 x) * D.s b h x l + ∑ j : Fin 8, D.k b h j x * Ideal.exp (D.g b h 7 x - D.g b h j x) * D.v b h j l

/-- A sequence's rows before the norm. -/
def Seqs.rows (D : Seqs) (b : Fin 32) (h : Fin 4) (i : Fin 8) (l : Fin 512) : EReal :=
  ∑ x : Fin 256, D.s b h x l * (D.q b h i x * Ideal.exp (D.g b h i x))
    + ∑ j : Fin 8, D.v b h j l * score (D.q b h) (D.k b h) (D.g b h) i j

end Cert.GsMath

end
-- ==== Proof.GsAtt.lean ====
module

public import proofs.«01_k».proof.Proof.GsModel
public import proofs.«01_k».proof.Proof.GsMath

@[expose] public section

set_option maxRecDepth 16384

noncomputable section

open Idealize.ShloMosaic Idealize.ShloMosaic.TcCoe Idealize.SL.Sem

/-! The kernel's scores: sixteen diagonals are the decayed scores. -/

namespace Cert.GlaSampleIdeal.Value

open Cert.GlaSampleIdeal Cert.GlaSampleIdeal.Gen Cert.GsMath
open Cert.GlaMath (exp_min kerDecay refDecay gated)

theorem rem_at (i j : Fin 16) : remRow (ix2 i j) = BitVec.ofNat 32 (i.val % 16) := by
  pointwise [remRow]
  revert i; decide +kernel

/-- One entry of the matrix that sums the rows so far. -/
theorem below (i j : Fin 16) : FloatOps.sitofp (F := Ideal) FTy.f32 (BitVec.setWidth 32 (IntOp.cmpi CmpIPredicate.sle (BitVec.ofNat 32 j.val) (BitVec.ofNat 32 i.val)))
    = (if j ≤ i then (1 : EReal) else 0) := by
  have h : IntOp.cmpi CmpIPredicate.sle (BitVec.ofNat 32 j.val) (BitVec.ofNat 32 i.val) = if j ≤ i then 1#1 else 0#1 := by
    revert i j; decide +kernel
  rw [h]
  by_cases hj : j ≤ i
  · rw [if_pos hj, if_pos hj]; show (((BitVec.setWidth 32 1#1).toInt : ℝ) : EReal) = 1
    simp
  · rw [if_neg hj, if_neg hj]; show (((BitVec.setWidth 32 0#1).toInt : ℝ) : EReal) = 0
    simp

/-- The log decays of the gate's arguments, zero in the padded rows. -/
def laOf (p : FVec Ideal S16x256 .f32) (i : Fin 16) (x : Fin 256) : EReal := if i.val < 8 then kerDecay (p (ix2 i x)) else 0

theorem top (i : Fin 16) (a b : EReal) : Scalar.select (IntOp.cmpi CmpIPredicate.slt (BitVec.ofNat 32 i.val) 8#32) a b = if i.val < 8 then a else b := by
  have h : IntOp.cmpi CmpIPredicate.slt (BitVec.ofNat 32 i.val) 8#32 = if i.val < 8 then 1#1 else 0#1 := by
    revert i; decide +kernel
  rw [h]
  by_cases h : i.val < 8
  · rw [if_pos h, if_pos h]; rfl
  · rw [if_neg h, if_neg h]; rfl

theorem g_at (p : FVec Ideal S16x256 .f32) (i : Fin 16) (x : Fin 256) :
    sumsOf p (ix2 i x) = runSum (fun j => laOf p j x) i := by
  generalize hR : runSum (fun j => laOf p j x) i = R
  pointwise [sumsOf, k0_pay11]
  rw [← hR]
  unfold runSum laOf kerDecay
  refine Finset.sum_congr rfl fun j _ => ?_
  rw [below, top]
  beta_reduce
  by_cases h8 : j.val < 8
  · rw [if_pos h8, if_pos h8]
    by_cases hj : j ≤ i
    · rw [if_pos hj, if_pos hj]; exact one_mul _
    · rw [if_neg hj, if_neg hj]; exact zero_mul _
  · rw [if_neg h8, if_neg h8, ite_self]

/-- Whether a diagonal passes through an entry. -/
theorem mask_at (d : Fin 16) (i j : Fin 16) :
    IntOp.andi (IntOp.cmpi CmpIPredicate.eq (IntOp.subi (BitVec.ofNat 32 i.val) (BitVec.ofNat 32 j.val)) (BitVec.ofNat 32 d.val))
      (IntOp.cmpi CmpIPredicate.sge (BitVec.ofNat 32 (i.val % 16)) (BitVec.ofNat 32 d.val))
    = if i.val = j.val + d.val ∧ d.val ≤ i.val % 16 then 1#1 else 0#1 := by
  have h1 : IntOp.cmpi CmpIPredicate.sge (BitVec.ofNat 32 (i.val % 16)) (BitVec.ofNat 32 d.val) = if d.val ≤ i.val % 16 then 1#1 else 0#1 := by
    revert d i; decide +kernel
  have h2 : (BitVec.ofNat 32 i.val - BitVec.ofNat 32 j.val = BitVec.ofNat 32 d.val) ↔ i.val = j.val + d.val := by
    rw [← BitVec.toNat_inj, BitVec.toNat_sub, BitVec.toNat_ofNat, BitVec.toNat_ofNat, BitVec.toNat_ofNat]
    have := i.isLt; have := j.isLt; have := d.isLt
    omega
  have h3 : IntOp.cmpi CmpIPredicate.eq (IntOp.subi (BitVec.ofNat 32 i.val) (BitVec.ofNat 32 j.val)) (BitVec.ofNat 32 d.val) = if i.val = j.val + d.val then 1#1 else 0#1 := by
    show BitVec.ofBool (BitVec.ofNat 32 i.val - BitVec.ofNat 32 j.val == BitVec.ofNat 32 d.val) = _
    by_cases h : i.val = j.val + d.val
    · rw [if_pos h, beq_iff_eq.mpr (h2.mpr h)]; rfl
    · rw [if_neg h, beq_eq_false_iff_ne.mpr fun hc => h (h2.mp hc)]; rfl
  rw [h1, h3]
  by_cases h : i.val = j.val + d.val
  · by_cases h' : d.val ≤ i.val % 16
    · rw [if_pos h, if_pos h', if_pos ⟨h, h'⟩]; rfl
    · rw [if_pos h, if_neg h', if_neg fun c => h' c.2]; rfl
  · by_cases h' : d.val ≤ i.val % 16
    · rw [if_neg h, if_pos h', if_neg fun c => h c.1]; rfl
    · rw [if_neg h, if_neg h', if_neg fun c => h c.1]; rfl

theorem putDiag_at (d : Fin 16) (col : FVec Ideal S16x1 .f32) (att : FVec Ideal S16x16 .f32) (i j : Fin 16) :
    putDiag (BitVec.ofNat 32 d.val) col att (ix2 i j) = if i.val = j.val + d.val ∧ d.val ≤ i.val % 16 then col (ix2 i 0) else att (ix2 i j) := by
  pointwise [putDiag, diagMask, rem_at]
  rw [mask_at]
  by_cases h : i.val = j.val + d.val ∧ d.val ≤ i.val % 16
  · rw [if_pos h, if_pos h]; rfl
  · rw [if_neg h, if_neg h]; rfl

theorem diagAt_at (d : Fin 16) (q k g : FVec Ideal S16x256 .f32) (i j : Fin 16) (h : i.val = j.val + d.val) :
    diagAt (BitVec.ofNat 32 d.val) q k g (ix2 i 0) = ∑ x : Fin 256, q (ix2 i x) * k (ix2 j x) * Ideal.exp (min (g (ix2 i x) - g (ix2 j x)) 0) := by
  pointwise [diagAt]
  have hj : (⟨(i.val + 16 - (BitVec.ofNat 32 d.val).toNat % 16) % 16, Nat.mod_lt _ (by decide)⟩ : Fin 16) = j := by
    apply Fin.ext
    rw [BitVec.toNat_ofNat]
    show (i.val + 16 - d.val % 2 ^ 32 % 16) % 16 = j.val
    have := d.isLt; have := j.isLt; have := i.isLt
    omega
  show (∑ x : Fin 256, q (ix2 i x) * k (ix2 (⟨(i.val + 16 - (BitVec.ofNat 32 d.val).toNat % 16) % 16, Nat.mod_lt _ (by decide)⟩ : Fin 16) x) *
    Ideal.exp (min (g (ix2 i x) - g (ix2 (⟨(i.val + 16 - (BitVec.ofNat 32 d.val).toNat % 16) % 16, Nat.mod_lt _ (by decide)⟩ : Fin 16) x)) 0)) = _
  rw [hj]

variable (q k g : FVec Ideal S16x256 .f32)

/-- No block lies below the only one. -/
theorem farAtt_at (i j : Fin 16) : farAtt (ix2 i j) = 0 := by
  pointwise [farAtt, k0_pay15, k0_pay13]

variable (G : Fin 16 → Fin 256 → ℝ) (hG : ∀ i x, g (ix2 i x) = (G i x : EReal)) (hm : ∀ i j x, j ≤ i → G i x ≤ G j x)

include hG hm in
/-- After the diagonals at distances up to `n`: the entries no further than `n` below the diagonal. -/
theorem attUpTo_at (n : ℕ) (hn : n < 16) (i j : Fin 16) : attUpTo q k g n (ix2 i j)
    = if j ≤ i ∧ i.val - j.val ≤ n then ∑ x : Fin 256, q (ix2 i x) * k (ix2 j x) * Ideal.exp (g (ix2 i x) - g (ix2 j x)) else 0 := by
  have hi := i.isLt
  induction n with
  | zero =>
    show putDiag (BitVec.ofNat 32 (0 : Fin 16).val) _ _ (ix2 i j) = _
    rw [putDiag_at]
    by_cases h : i.val = j.val + (0 : Fin 16).val ∧ (0 : Fin 16).val ≤ i.val % 16
    · have e : i = j := Fin.ext h.1
      subst e
      rw [if_pos h, if_pos ⟨le_refl _, by omega⟩]
      pointwise [diagZero]
      refine Finset.sum_congr rfl fun x _ => ?_
      rw [hG, ← EReal.coe_sub, sub_self, Ideal.exp_coe, Real.exp_zero]
      exact (mul_one _).symm
    · rw [if_neg h, farAtt_at, if_neg]
      rintro ⟨h2, h3⟩
      exact h ⟨by have := Fin.le_def.mp h2; show i.val = j.val + 0; omega, Nat.zero_le _⟩
  | succ n ih =>
    show putDiag (BitVec.ofNat 32 (⟨n + 1, hn⟩ : Fin 16).val) (diagAt (BitVec.ofNat 32 (⟨n + 1, hn⟩ : Fin 16).val) q k g) (attUpTo q k g n) (ix2 i j) = _
    rw [putDiag_at]
    by_cases h : i.val = j.val + (⟨n + 1, hn⟩ : Fin 16).val ∧ (⟨n + 1, hn⟩ : Fin 16).val ≤ i.val % 16
    · have h1 : i.val = j.val + (n + 1) := h.1
      have hle : j ≤ i := Fin.le_def.mpr (by omega)
      rw [if_pos h, diagAt_at _ q k _ i j h.1, if_pos ⟨hle, by omega⟩]
      refine Finset.sum_congr rfl fun x _ => ?_
      rw [hG, hG, exp_min (hm i j x hle)]
    · rw [if_neg h, ih (by omega)]
      have e : (j ≤ i ∧ i.val - j.val ≤ n + 1) ↔ (j ≤ i ∧ i.val - j.val ≤ n) := by
        refine ⟨fun hh => ⟨hh.1, ?_⟩, fun hh => ⟨hh.1, by omega⟩⟩
        by_contra hc
        have := Fin.le_def.mp hh.1
        have := hh.2
        exact h ⟨by show i.val = j.val + (n + 1); omega, by show n + 1 ≤ i.val % 16; omega⟩
      simp only [e]

/-- The kernel's scores are the decayed scores of the running sums. -/
theorem att_at (p : FVec Ideal S16x256 .f32) (h : Decays (laOf p)) (i j : Fin 16) : attUpTo q k (sumsOf p) 15 (ix2 i j)
    = score (fun i x => q (ix2 i x)) (fun i x => k (ix2 i x)) (fun i x => runSum (fun j => laOf p j x) i) i j := by
  obtain ⟨G, hG, hm⟩ := h.sums
  have hG' : ∀ i x, sumsOf p (ix2 i x) = (G i x : EReal) := fun i x => (g_at p i x).trans (hG i x)
  rw [attUpTo_at q k (sumsOf p) G hG' hm 15 (by decide) i j]
  unfold score
  have e : (j ≤ i ∧ i.val - j.val ≤ 15) ↔ j ≤ i := ⟨fun h => h.1, fun h => ⟨h, by omega⟩⟩
  simp only [e, g_at]

end Cert.GlaSampleIdeal.Value

end
-- ==== Proof.GsHead.lean ====
module

public import proofs.«01_k».proof.Proof.GsAtt
public import proofs.«01_k».proof.Proof.GlaSpec

@[expose] public section

set_option maxRecDepth 16384

noncomputable section

open Idealize.ShloMosaic Idealize.ShloMosaic.TcCoe Idealize.SL.Sem
open Idealize.ShloMosaic.Pipeline (Dat)

/-! One head of one sequence, entry by entry. -/

namespace Cert.GlaSampleIdeal.Value

open Cert.GlaSampleIdeal Cert.GlaSampleIdeal.Gen Cert.GsMath

open Cert.GlaMath (kerDecay refDecay gated)

/-- The running sums of the first eight rows' log decays. -/
abbrev sums (p : FVec Ideal S16x256 .f32) (i : Fin 8) (x : Fin 256) : EReal := runSum (fun j => laOf p (low j) x) i

theorem la_high (p : FVec Ideal S16x256 .f32) (i : Fin 16) (x : Fin 256) (h : 8 ≤ i.val) : laOf p i x = 0 := if_neg (by omega)

theorem sumsOf_low (p : FVec Ideal S16x256 .f32) (i : Fin 8) (x : Fin 256) : sumsOf p (ix2 (low i) x) = sums p i x :=
  (g_at p (low i) x).trans (runSum_low _ i)

theorem sumsOf_last (p : FVec Ideal S16x256 .f32) (x : Fin 256) : sumsOf p (ix2 15 x) = sums p 7 x :=
  (g_at p 15 x).trans (runSum_last _ fun i hi => la_high p i x hi)

theorem headO_at (q k p : FVec Ideal S16x256 .f32) (v : FVec Ideal S16x512 .f32) (st : FVec Ideal S512x256 .f32)
    (hd : Decays (laOf p)) (i : Fin 8) (l : Fin 512) :
    headO q k (sumsOf p) v st (ix2 (low i) l) = ∑ x : Fin 256, st (ix2 l x) * (q (ix2 (low i) x) * Ideal.exp (sums p i x))
      + ∑ j : Fin 8, v (ix2 (low j) l) * score (fun i x => q (ix2 (low i) x)) (fun i x => k (ix2 (low i) x)) (sums p) i j := by
  have e : headO q k (sumsOf p) v st (ix2 (low i) l) = ∑ x : Fin 256, q (ix2 (low i) x) * Ideal.exp (sumsOf p (ix2 (low i) x)) * st (ix2 l x)
      + ∑ j : Fin 16, attUpTo q k (sumsOf p) 15 (ix2 (low i) j) * v (ix2 j l) := by
    generalize low i = r
    pointwise [headO]
  rw [e]
  refine Ideal.add_congr (Finset.sum_congr rfl fun x _ => ?_) ((sum_low _ fun j hj => ?_).trans (Finset.sum_congr rfl fun j _ => ?_))
  · rw [sumsOf_low]; exact _root_.mul_comm (G := EReal) _ _
  · rw [att_at q k p hd, score_high _ _ _ _ _ hj]; exact zero_mul _
  · rw [att_at q k p hd, score_low]
    refine (_root_.mul_comm (G := EReal) _ _).trans (Ideal.mul_congr rfl ?_)
    exact congrArg (fun g => score (fun i x => q (ix2 (low i) x)) (fun i x => k (ix2 (low i) x)) g i j) (funext fun i => funext fun x => runSum_low _ i)

theorem headSt_at (k p : FVec Ideal S16x256 .f32) (v : FVec Ideal S16x512 .f32) (st : FVec Ideal S512x256 .f32)
    (hk : ∀ (j : Fin 16) x, 8 ≤ j.val → k (ix2 j x) = (0 : EReal)) (l : Fin 512) (x : Fin 256) :
    headSt k (sumsOf p) v st (ix2 l x) = Ideal.exp (sums p 7 x) * st (ix2 l x)
      + ∑ j : Fin 8, k (ix2 (low j) x) * Ideal.exp (sums p 7 x - sums p j x) * v (ix2 (low j) l) := by
  have e : headSt k (sumsOf p) v st (ix2 l x) = Ideal.exp (sumsOf p (ix2 15 x)) * st (ix2 l x)
      + ∑ j : Fin 16, v (ix2 j l) * (k (ix2 j x) * Ideal.exp (sumsOf p (ix2 15 x) - sumsOf p (ix2 j x))) := by
    pointwise [headSt, lastOf]
  rw [e, sumsOf_last]
  refine Ideal.add_congr rfl ((sum_low _ fun j hj => ?_).trans (Finset.sum_congr rfl fun j _ => ?_))
  · rw [hk j x hj]
    exact (congrArg (fun y : EReal => v (ix2 j l) * y) (zero_mul (M₀ := EReal) _)).trans (mul_zero (M₀ := EReal) _)
  · rw [sumsOf_low]
    exact _root_.mul_comm (G := EReal) _ _

theorem headTop_at (o : FVec Ideal S16x512 .f32) (i : Fin 8) (l : Fin 512) : headTop o (ix2 i l) = o (ix2 (low i) l) := by
  unfold low
  pointwise [headTop]

theorem headOut_at (o r : FVec Ideal S8x512 .f32) (go : FVec Ideal S1x512 .f32) (i : Fin 8) (l : Fin 512) :
    headOut o r go (ix2 i l) = gated (fun x => o (ix2 i x)) (go (ix2 0 l)) (r (ix2 i l)) l := by
  unfold gated
  pointwise [headOut, Ideal.logistic]

theorem pre_row (z : FVec Ideal S8x128 .f32) (w : FVec Ideal S128x256 .f32) (b : FVec Ideal S1x256 .f32) (r : Fin 16) (hr : r.val < 8) (l : Fin 256) :
    k0_pay10 (F := Ideal) z w b (ix2 r l) = ∑ x : Fin 128, z (ix2 ⟨r.val, hr⟩ x) * w (ix2 x l) + b (ix2 0 l) := by
  pointwise [k0_pay10]
  refine Ideal.add_congr (Finset.sum_congr rfl fun x _ => ?_) rfl
  rw [dif_pos hr]

theorem pre_at (z : FVec Ideal S8x128 .f32) (w : FVec Ideal S128x256 .f32) (b : FVec Ideal S1x256 .f32) (i : Fin 8) (l : Fin 256) :
    k0_pay10 (F := Ideal) z w b (ix2 (low i) l) = ∑ x : Fin 128, z (ix2 i x) * w (ix2 x l) + b (ix2 0 l) :=
  pre_row z w b (low i) i.isLt l

theorem query_at (q : FVec Ideal S8x256 .f32) (i : Fin 8) (l : Fin 256) :
    k0_pay7 (F := Ideal) q (ix2 (low i) l) = q (ix2 i l) * Ideal.ofBits .f32 0x3D800000#32 := by
  have hi : (low i).val < 8 := i.isLt
  pointwise [k0_pay7]
  rw [dif_pos hi]; rfl

theorem key_at (k : FVec Ideal S8x256 .f32) (i : Fin 8) (l : Fin 256) : k0_pay8 (F := Ideal) k (ix2 (low i) l) = k (ix2 i l) := by
  have hi : (low i).val < 8 := i.isLt
  pointwise [k0_pay8]
  rw [dif_pos hi]; rfl

theorem key_high (k : FVec Ideal S8x256 .f32) (i : Fin 16) (l : Fin 256) (h : 8 ≤ i.val) : k0_pay8 (F := Ideal) k (ix2 i l) = 0 := by
  pointwise [k0_pay8]
  rw [dif_neg (by omega)]

theorem value_at (v : FVec Ideal S8x512 .f32) (i : Fin 8) (l : Fin 512) : k0_pay9 (F := Ideal) v (ix2 (low i) l) = v (ix2 i l) := by
  have hi : (low i).val < 8 := i.isLt
  pointwise [k0_pay9]
  rw [dif_pos hi]; rfl

theorem colsK_at (X : FVec Ideal S8x1024 .f32) (h : Fin 4) (i : Fin 8) (l : Fin 256) :
    colsK X h (ix2 i l) = X (ix2 i ⟨h.val * 256 + l.val, by omega⟩) := by
  match h with
  | 0 => simp only [colsK]; pointwise []
  | 1 => simp only [colsK]; pointwise []
  | 2 => simp only [colsK]; pointwise []
  | 3 => simp only [colsK]; pointwise []

theorem colsV_at (X : FVec Ideal S8x2048 .f32) (h : Fin 4) (i : Fin 8) (l : Fin 512) :
    colsV X h (ix2 i l) = X (ix2 i ⟨h.val * 512 + l.val, by omega⟩) := by
  match h with
  | 0 => simp only [colsV]; pointwise []
  | 1 => simp only [colsV]; pointwise []
  | 2 => simp only [colsV]; pointwise []
  | 3 => simp only [colsV]; pointwise []

theorem colsW_at (X : FVec Ideal S128x1024 .f32) (h : Fin 4) (i : Fin 128) (l : Fin 256) :
    colsW X h (ix2 i l) = X (ix2 i ⟨h.val * 256 + l.val, by omega⟩) := by
  match h with
  | 0 => simp only [colsW]; pointwise []
  | 1 => simp only [colsW]; pointwise []
  | 2 => simp only [colsW]; pointwise []
  | 3 => simp only [colsW]; pointwise []

theorem colsB_at (X : FVec Ideal S1x1024 .f32) (h : Fin 4) (l : Fin 256) :
    colsB X h (ix2 0 l) = X (ix2 0 ⟨h.val * 256 + l.val, by omega⟩) := by
  match h with
  | 0 => simp only [colsB]; pointwise []
  | 1 => simp only [colsB]; pointwise []
  | 2 => simp only [colsB]; pointwise []
  | 3 => simp only [colsB]; pointwise []

theorem startOf_at (X : FVec Ideal S1x4x256x512 .f32) (h : Fin 4) (l : Fin 512) (x : Fin 256) :
    startOf X h (ix2 l x) = X (ix4 0 h x l) := by
  match h with
  | 0 => simp only [startOf]; pointwise [k0_pay1]
  | 1 => simp only [startOf]; pointwise [k0_pay2]
  | 2 => simp only [startOf]; pointwise [k0_pay3]
  | 3 => simp only [startOf]; pointwise [k0_pay4]

theorem putO_at (P : Fin 4 → FVec Ideal S8x512 .f32) (h : Fin 4) (i : Fin 8) (l : Fin 512) :
    putO P (ix2 i ⟨h.val * 512 + l.val, by omega⟩) = P h (ix2 i l) := by
  unfold putO
  canon_tiles x e
  case piece0 =>
    have a0 : i.val = (x 0).val := e0
    have a1 : h.val * 512 + l.val = 1536 + (x 1).val := e1
    obtain rfl : h = 3 := Fin.ext (by show h.val = 3; omega)
    refine congrArg (P 3) (funext fun a => ?_)
    match a with
    | 0 => exact Fin.ext a0.symm
    | 1 => exact Fin.ext (by show (x 1).val = l.val; have : (((3 : Fin 4)).val) = 3 := rfl; omega)
  case piece1 =>
    have a0 : i.val = (x 0).val := e0
    have a1 : h.val * 512 + l.val = 1024 + (x 1).val := e1
    obtain rfl : h = 2 := Fin.ext (by show h.val = 2; omega)
    refine congrArg (P 2) (funext fun a => ?_)
    match a with
    | 0 => exact Fin.ext a0.symm
    | 1 => exact Fin.ext (by show (x 1).val = l.val; have : (((2 : Fin 4)).val) = 2 := rfl; omega)
  case piece2 =>
    have a0 : i.val = (x 0).val := e0
    have a1 : h.val * 512 + l.val = 512 + (x 1).val := e1
    obtain rfl : h = 1 := Fin.ext (by show h.val = 1; omega)
    refine congrArg (P 1) (funext fun a => ?_)
    match a with
    | 0 => exact Fin.ext a0.symm
    | 1 => exact Fin.ext (by show (x 1).val = l.val; have : (((1 : Fin 4)).val) = 1 := rfl; omega)
  case piece3 =>
    have a0 : i.val = (x 0).val := e0
    have a1 : h.val * 512 + l.val = (x 1).val := e1
    obtain rfl : h = 0 := Fin.ext (by show h.val = 0; omega)
    refine congrArg (P 0) (funext fun a => ?_)
    match a with
    | 0 => exact Fin.ext a0.symm
    | 1 => exact Fin.ext (by show (x 1).val = l.val; have : (((0 : Fin 4)).val) = 0 := rfl; omega)

theorem putF_at (P : Fin 4 → FVec Ideal S512x256 .f32) (h : Fin 4) (l : Fin 512) (x : Fin 256) :
    putF P (ix4 0 h x l) = P h (ix2 l x) := by
  unfold putF
  canon_tiles y e
  case piece0 =>
    have a0 : h.val = 3 + (y 1).val := e1
    obtain rfl : h = 3 := Fin.ext (by show h.val = 3; omega)
    have b1 : x = y 2 := Fin.ext e2
    have b2 : l = y 3 := Fin.ext e3
    subst b1 b2
    pointwise [k0_pay259]
  case piece1 =>
    have a0 : h.val = 2 + (y 1).val := e1
    obtain rfl : h = 2 := Fin.ext (by show h.val = 2; omega)
    have b1 : x = y 2 := Fin.ext e2
    have b2 : l = y 3 := Fin.ext e3
    subst b1 b2
    pointwise [k0_pay258]
  case piece2 =>
    have a0 : h.val = 1 + (y 1).val := e1
    obtain rfl : h = 1 := Fin.ext (by show h.val = 1; omega)
    have b1 : x = y 2 := Fin.ext e2
    have b2 : l = y 3 := Fin.ext e3
    subst b1 b2
    pointwise [k0_pay257]
  case piece3 =>
    have a0 : h.val = (y 1).val := e1
    obtain rfl : h = 0 := Fin.ext (by show h.val = 0; omega)
    have b1 : x = y 2 := Fin.ext e2
    have b2 : l = y 3 := Fin.ext e3
    subst b1 b2
    pointwise [k0_pay256]

end Cert.GlaSampleIdeal.Value

end
-- ==== Proof.GsBlk.lean ====
module

public import proofs.«01_k».proof.Proof.GsHead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The blocks a sequence reads, as entries of the arguments. -/

namespace Cert.GlaSampleIdeal.Value

open Cert.GlaSampleIdeal Cert.GlaSampleIdeal.Gen Cert.GsMath

variable (m : (ℓ : Loc nD τ sig) → Buf (Elt Ideal) ℓ) (c : Dev nD)

/-- The kernel's arguments. -/
abbrev kerG : FVec Ideal S256x6272 .f32 := m ((c.tc : Thread nD τ).loc main_arg0)
abbrev kerW : FVec Ideal S16x1024 .f32 := m ((c.tc : Thread nD τ).loc main_arg1)
abbrev kerB : FVec Ideal S1024 .f32 := m ((c.tc : Thread nD τ).loc main_arg2)
abbrev kerN : FVec Ideal S512 .f32 := m ((c.tc : Thread nD τ).loc main_arg3)

abbrev kerS : FVec Ideal S32x4x256x512 .f32 := m ((c.tc : Thread nD τ).loc main_arg4)

/-- Which block each window shows at a grid point. -/
theorem idx : ∀ t : Fin cfg0.N, win0_0.index t = ![t.val, 0] ∧ win0_1.index t = ![t.val, 1] ∧ win0_2.index t = ![t.val, 1]
    ∧ win0_3.index t = ![t.val, 2] ∧ win0_4.index t = ![t.val, 48] ∧ win0_5.index t = ![0, 0] ∧ win0_6.index t = ![0, 0]
    ∧ win0_7.index t = ![0, 0] ∧ win0_8.index t = ![t.val, 0, 0, 0] :=
  (by decide +kernel : ∀ t : Fin grid0.N, _)

theorem tlt (t : Fin cfg0.N) : t.val < 32 := lt_of_lt_of_eq t.isLt N_0

/-- Row `i` of sequence `t`. -/
def row (t : Fin cfg0.N) (i : Fin 8) : Fin 256 := ⟨t.val * 8 + i.val, by have := tlt t; omega⟩

theorem x0_at (t : Fin cfg0.N) (i : Fin 8) (l : Fin 1024) :
    X0_0 m c t (ix2 i l) = kerG m c (ix2 (row t i) ⟨l.val, by omega⟩) := by
  unfold X0_0 Pipeline.Window.fill row
  rw [dif_pos (moved0_0 t _)]
  blk_point [iblk, V, idx t]

theorem x1_at (t : Fin cfg0.N) (i : Fin 8) (l : Fin 1024) :
    X0_1 m c t (ix2 i l) = kerG m c (ix2 (row t i) ⟨1024 + l.val, by omega⟩) := by
  unfold X0_1 Pipeline.Window.fill row
  rw [dif_pos (moved0_1 t _)]
  blk_point [iblk, V, idx t]

theorem x2_at (t : Fin cfg0.N) (i : Fin 8) (l : Fin 2048) :
    X0_2 m c t (ix2 i l) = kerG m c (ix2 (row t i) ⟨2048 + l.val, by omega⟩) := by
  unfold X0_2 Pipeline.Window.fill row
  rw [dif_pos (moved0_2 t _)]
  blk_point [iblk, V, idx t]

theorem x3_at (t : Fin cfg0.N) (i : Fin 8) (l : Fin 2048) :
    X0_3 m c t (ix2 i l) = kerG m c (ix2 (row t i) ⟨4096 + l.val, by omega⟩) := by
  unfold X0_3 Pipeline.Window.fill row
  rw [dif_pos (moved0_3 t _)]
  blk_point [iblk, V, idx t]

theorem x4_at (t : Fin cfg0.N) (i : Fin 8) (l : Fin 128) :
    (show FVec Ideal S8x128 .f32 from iblk m c 4 t) (ix2 i l) = kerG m c (ix2 (row t i) ⟨6144 + l.val, by omega⟩) := by
  unfold row
  blk_point [iblk, V, idx t]

theorem bias_eq : V m c main_v1 = shapeCast S1x1024 (kerB m c) shapeCasts_S1024_S1x1024 := by
  simp only [V, hostOps0, hostOps0_1, hostOps0_2, List.flatten_cons, List.flatten_nil, List.append_nil, List.cons_append, List.nil_append]; after_results; try rfl

theorem gain_eq : V m c main_v2 = shapeCast S1x512 (kerN m c) shapeCasts_S512_S1x512 := by
  simp only [V, hostOps0, hostOps0_1, hostOps0_2, List.flatten_cons, List.flatten_nil, List.append_nil, List.cons_append, List.nil_append]; after_results; try rfl

theorem weight_eq : V m c main_v0 = pad S128x1024 ![0, 0] ![112, 0] ![0, 0] (kerW m c) (sitofp (F := Ideal) .f32 (constantI S_ 32 0#32)) pads_S16x1024_S128x1024_01120_000 h_S_ := by
  simp only [V, hostOps0, hostOps0_1, hostOps0_2, List.flatten_cons, List.flatten_nil, List.append_nil, List.cons_append, List.nil_append]; after_results; try rfl

theorem x5_at (t : Fin cfg0.N) (x : Fin 128) (l : Fin 1024) :
    (show FVec Ideal S128x1024 .f32 from iblk m c 5 t) (ix2 x l) = if hx : x.val < 16 then kerW m c (ix2 ⟨x.val, hx⟩ l) else 0 := by
  have e : (show FVec Ideal S128x1024 .f32 from iblk m c 5 t) (ix2 x l) = (show FVec Ideal S128x1024 .f32 from V m c main_v0) (ix2 x l) := by
    blk_simp [iblk, idx t]
    blk_ext [idx t]
  rw [e, weight_eq]
  pointwise []
  have z : FloatOps.sitofp (F := Ideal) FTy.f32 (0#32) = (0 : EReal) := by
    show (((0#32 : BitVec 32).toInt : ℝ) : EReal) = 0
    simp
  rw [z]

theorem x6_at (t : Fin cfg0.N) (l : Fin 1024) :
    (show FVec Ideal S1x1024 .f32 from iblk m c 6 t) (ix2 0 l) = kerB m c (ix1 l) := by
  blk_simp [iblk, idx t]
  rw [bias_eq]
  pointwise []
  blk_point [idx t]

theorem x7_at (t : Fin cfg0.N) (l : Fin 512) :
    (show FVec Ideal S1x512 .f32 from iblk m c 7 t) (ix2 0 l) = kerN m c (ix1 l) := by
  blk_simp [iblk, idx t]
  rw [gain_eq]
  pointwise []
  blk_point [idx t]

theorem x8_at (t : Fin cfg0.N) (h : Fin 4) (x : Fin 256) (l : Fin 512) :
    (show FVec Ideal S1x4x256x512 .f32 from iblk m c 8 t) (ix4 0 h x l) = kerS m c (ix4 ⟨t.val, tlt t⟩ h x l) := by
  blk_point [iblk, V, idx t]

end Cert.GlaSampleIdeal.Value

end
-- ==== Proof.GsPre.lean ====
module

public import proofs.«01_k».proof.Proof.GsBlk
public import proofs.«01_k».proof.Proof.Gen.Pre_finite_gate_sample
public import Idealize.ShloMosaic.Lib.ReduceAll

@[expose] public section

set_option maxRecDepth 16384

noncomputable section

open Idealize.ShloMosaic Idealize.ShloMosaic.TcCoe Idealize.SL.Sem

/-! Under the precondition a gate's argument is a real number. -/

namespace Cert.GlaSampleIdeal.Value

open Cert.GlaSampleIdeal Cert.GlaSampleIdeal.Gen Cert.GsMath
open Cert.GlaMath (kerDecay refDecay real_of_lt)

theorem pre_real (G : FVec Ideal S256x6272 .f32) (W : FVec Ideal S16x1024 .f32) (B : FVec Ideal S1024 .f32) (N : FVec Ideal S512 .f32) (S : FVec Ideal S32x4x256x512 .f32)
    (h : Cert.Pre_finite_gate_sample.fn (F := Ideal) G W B N S = fun _ => 1#1) :
    (∀ (r : Fin 256) (x : Fin 16), ∃ a : ℝ, G (ix2 r ⟨6144 + x.val, by omega⟩) = (a : EReal))
    ∧ (∀ (x : Fin 16) (l : Fin 1024), ∃ a : ℝ, W (ix2 x l) = (a : EReal)) ∧ (∀ l : Fin 1024, ∃ a : ℝ, B (ix1 l) = (a : EReal)) := by
  have h' := congrFun h ix0
  unfold Cert.Pre_finite_gate_sample.fn at h'
  obtain ⟨h12, h3⟩ := IntOp.andi_eq_one.1 h'
  obtain ⟨h1, h2⟩ := IntOp.andi_eq_one.1 h12
  refine ⟨fun r x => ?_, fun x l => ?_, fun l => ?_⟩
  · have := Host.reduce_andi_all _ _ _ _ _ h1 (ix2 r x)
    have e : extractStridedSlice Cert.Pre_finite_gate_sample.S256x16 ![0, 6144] G Cert.Pre_finite_gate_sample.Facts.slices_S256x6272_S256x16_0_6144 (ix2 r x) = G (ix2 r ⟨6144 + x.val, by omega⟩) := by
      pointwise []
    rw [← e]
    exact real_of_lt _ this
  · have := Host.reduce_andi_all _ _ _ _ _ h2 (ix2 x l)
    exact real_of_lt _ this
  · have := Host.reduce_andi_all _ _ _ _ _ h3 (ix1 l)
    exact real_of_lt _ this

variable (m : (ℓ : Loc nD τ sig) → Buf (Elt Ideal) ℓ) (c : Dev nD)

/-- A gate's argument, of the kernel's arguments. -/
def kerGate (r : Fin 256) (l : Fin 1024) : EReal :=
  ∑ x : Fin 16, kerG m c (ix2 r ⟨6144 + x.val, by omega⟩) * kerW m c (ix2 x l) + kerB m c (ix1 l)

theorem gate_real (h : Cert.Pre_finite_gate_sample.fn (F := Ideal) (kerG m c) (kerW m c) (kerB m c) (kerN m c) (kerS m c) = fun _ => 1#1) (r : Fin 256) (l : Fin 1024) :
    ∃ a : ℝ, kerGate m c r l = (a : EReal) := by
  obtain ⟨hG, hW, hB⟩ := pre_real _ _ _ _ _ h
  choose g hg using fun x => hG r x
  choose w hw using fun x => hW x l
  obtain ⟨b, hb⟩ := hB l
  refine ⟨∑ x : Fin 16, g x * w x + b, ?_⟩
  unfold kerGate
  rw [hb]
  have e : ∀ s : Finset (Fin 16), ∑ x ∈ s, kerG m c (ix2 r ⟨6144 + x.val, by omega⟩) * kerW m c (ix2 x l) = ((∑ x ∈ s, g x * w x : ℝ) : EReal) := by
    intro s
    induction s using Finset.induction_on with
    | empty => simp
    | insert a s ha ih =>
      rw [Finset.sum_insert ha, Finset.sum_insert ha, ih, hg, hw, EReal.coe_add, EReal.coe_mul]
  refine Eq.trans (Ideal.add_congr (e Finset.univ) rfl) ?_
  rw [EReal.coe_add]

/-- Head `h`'s gate arguments of sequence `t`. -/
theorem gate_at (t : Fin cfg0.N) (h : Fin 4) (i : Fin 8) (l : Fin 256) :
    preAt m c t h (ix2 (low i) l) = kerGate m c (row t i) ⟨h.val * 256 + l.val, by omega⟩ := by
  unfold preAt
  refine (pre_at _ _ _ i l).trans ?_
  unfold kerGate
  refine Ideal.add_congr ((Cert.GlaMath.sum_low _ fun x hx => ?_).trans (Finset.sum_congr rfl fun x _ => ?_)) ((colsB_at _ h l).trans (x6_at m c t _))
  · exact (Ideal.mul_congr rfl ((colsW_at _ h x l).trans ((x5_at m c t x _).trans (dif_neg (by omega))))).trans (mul_zero (M₀ := EReal) _)
  · exact Ideal.mul_congr (x4_at m c t i _) ((colsW_at _ h _ l).trans ((x5_at m c t _ _).trans (dif_pos x.isLt)))

end Cert.GlaSampleIdeal.Value

end
-- ==== Proof.GsStep.lean ====
module

public import proofs.«01_k».proof.Proof.GsModel

@[expose] public section

set_option maxRecDepth 16384

noncomputable section

open Idealize.ShloMosaic Idealize.ShloMosaic.TcCoe Idealize.SL.Sem
open Idealize.ShloMosaic.Pipeline (Dat)

namespace Cert.GlaSampleIdeal.Value

open Cert.GlaSampleIdeal Cert.GlaSampleIdeal.Gen

variable (m : (ℓ : Loc nD τ sig) → Buf (Elt Ideal) ℓ)

set_option maxHeartbeats 1000000

theorem step_o (c : Dev nD) (t : Fin cfg0.N) : (outsAt0 m c t).1 = putO (outAt m c t (startOf (iblk m c 8 t))) := by
  unfold outsAt0; frame_open; simp (disch := decide) only [↓ View.readCov_skip, ↓ View.readCov_cons_toLoadRect]; frame_out
  rfl

theorem step_f (c : Dev nD) (t : Fin cfg0.N) : (outsAt0 m c t).2 = putF (nextAt m c t (startOf (iblk m c 8 t))) := by
  unfold outsAt0; frame_open; simp (disch := decide) only [↓ View.readCov_skip, ↓ View.readCov_cons_toLoadRect]; frame_out
  rfl

end Cert.GlaSampleIdeal.Value
end
-- ==== Proof.GsValue.lean ====
module

public import proofs.«01_k».proof.Proof.GsPre
public import proofs.«01_k».proof.Proof.GsStep

@[expose] public section

set_option maxRecDepth 16384

noncomputable section

open Idealize.ShloMosaic Idealize.ShloMosaic.TcCoe Idealize.SL.Sem
open Idealize.ShloMosaic.Pipeline (Dat)

/-! The kernel's rows and states are the recurrence's. -/

namespace Cert.GlaSampleIdeal.Value

open Cert.GlaSampleIdeal Cert.GlaSampleIdeal.Gen Cert.GsMath
open Cert.GlaMath (kerDecay refDecay gated kerDecay_eq refDecay_nonpos)

variable (m : (ℓ : Loc nD τ sig) → Buf (Elt Ideal) ℓ) (c : Dev nD)

/-- The kernel's sequences. -/
def data : Seqs where
  q n h i x := kerG m c (ix2 ⟨n.val * 8 + i.val, by omega⟩ ⟨h.val * 256 + x.val, by omega⟩) * Ideal.ofBits .f32 0x3D800000#32
  k n h i x := kerG m c (ix2 ⟨n.val * 8 + i.val, by omega⟩ ⟨1024 + (h.val * 256 + x.val), by omega⟩)
  a n h i x := refDecay (kerGate m c ⟨n.val * 8 + i.val, by omega⟩ ⟨h.val * 256 + x.val, by omega⟩)
  v n h i l := kerG m c (ix2 ⟨n.val * 8 + i.val, by omega⟩ ⟨2048 + (h.val * 512 + l.val), by omega⟩)
  s n h x l := kerS m c (ix4 n h x l)

/-- The sequence a grid point works on. -/
def num (t : Fin cfg0.N) : Fin 32 := ⟨t.val, tlt t⟩

theorem qAt_at (t : Fin cfg0.N) (h : Fin 4) (i : Fin 8) (x : Fin 256) : qAt m c t h (ix2 (low i) x) = (data m c).q (num t) h i x := by
  unfold qAt
  exact (query_at _ i x).trans (congrArg (· * Ideal.ofBits .f32 0x3D800000#32) ((colsK_at _ h i x).trans (x0_at m c t i _)))

theorem kAt_at (t : Fin cfg0.N) (h : Fin 4) (i : Fin 8) (x : Fin 256) : kAt m c t h (ix2 (low i) x) = (data m c).k (num t) h i x := by
  unfold kAt
  exact (key_at _ i x).trans ((colsK_at _ h i x).trans (x1_at m c t i _))

theorem kAt_high (t : Fin cfg0.N) (h : Fin 4) (i : Fin 16) (x : Fin 256) (hi : 8 ≤ i.val) : kAt m c t h (ix2 i x) = (0 : EReal) :=
  key_high _ i x hi

theorem vAt_at (t : Fin cfg0.N) (h : Fin 4) (i : Fin 8) (l : Fin 512) : vAt m c t h (ix2 (low i) l) = (data m c).v (num t) h i l := by
  unfold vAt
  exact (value_at _ i l).trans ((colsV_at _ h i l).trans (x2_at m c t i _))

theorem rAt_at (t : Fin cfg0.N) (h : Fin 4) (i : Fin 8) (l : Fin 512) :
    rAt m c t h (ix2 i l) = kerG m c (ix2 (row t i) ⟨4096 + (h.val * 512 + l.val), by omega⟩) := by
  unfold rAt
  exact (colsV_at _ h i l).trans (x3_at m c t i _)

theorem start_at (t : Fin cfg0.N) (h : Fin 4) (l : Fin 512) (x : Fin 256) : startOf (iblk m c 8 t) h (ix2 l x) = (data m c).s (num t) h x l :=
  (startOf_at _ h l x).trans (x8_at m c t h x l)

variable (hp : Cert.Pre_finite_gate_sample.fn (F := Ideal) (kerG m c) (kerW m c) (kerB m c) (kerN m c) (kerS m c) = fun _ => 1#1)

include hp

theorem la_at (t : Fin cfg0.N) (h : Fin 4) (i : Fin 8) (x : Fin 256) : laOf (preAt m c t h) (low i) x = (data m c).a (num t) h i x := by
  obtain ⟨a, ha⟩ := gate_real m c hp (row t i) ⟨h.val * 256 + x.val, by omega⟩
  refine (if_pos i.isLt).trans ((congrArg kerDecay (gate_at m c t h i x)).trans ?_)
  refine Eq.trans ?_ (congrArg refDecay (show kerGate m c (row t i) ⟨h.val * 256 + x.val, by omega⟩ = _ from rfl))
  rw [ha]
  exact kerDecay_eq a

theorem decays (t : Fin cfg0.N) (h : Fin 4) : Decays (laOf (preAt m c t h)) := by
  intro i x
  by_cases hi : i.val < 8
  · obtain ⟨a, ha⟩ := gate_real m c hp (row t ⟨i.val, hi⟩) ⟨h.val * 256 + x.val, by omega⟩
    obtain ⟨d, hd, e⟩ := refDecay_nonpos a
    refine ⟨d, hd, (if_pos hi).trans ((congrArg kerDecay (gate_at m c t h ⟨i.val, hi⟩ x)).trans ?_)⟩
    rw [ha]
    exact (kerDecay_eq a).trans e
  · exact ⟨0, le_refl _, (if_neg hi).trans rfl⟩

theorem sums_at (t : Fin cfg0.N) (h : Fin 4) (i : Fin 8) (x : Fin 256) : sums (preAt m c t h) i x = (data m c).g (num t) h i x :=
  congrArg (fun a => runSum a i) (funext fun j => la_at m c hp t h j x)

theorem next_at (t : Fin cfg0.N) (h : Fin 4) (l : Fin 512) (x : Fin 256) :
    nextAt m c t (startOf (iblk m c 8 t)) h (ix2 l x) = (data m c).state (num t) h x l := by
  unfold nextAt
  refine (headSt_at _ _ _ _ (kAt_high m c t h) l x).trans ?_
  unfold Seqs.state
  refine Ideal.add_congr (Ideal.mul_congr (congrArg Ideal.exp (sums_at m c hp t h 7 x)) (start_at m c t h l x)) (Finset.sum_congr rfl fun j _ => ?_)
  exact Ideal.mul_congr (Ideal.mul_congr (kAt_at m c t h j x) (by rw [sums_at m c hp, sums_at m c hp])) (vAt_at m c t h j l)

theorem rows_at (t : Fin cfg0.N) (h : Fin 4) (i : Fin 8) (l : Fin 512) :
    headTop (headO (qAt m c t h) (kAt m c t h) (sumsOf (preAt m c t h)) (vAt m c t h) (startOf (iblk m c 8 t) h)) (ix2 i l) = (data m c).rows (num t) h i l := by
  refine (headTop_at _ i l).trans ((headO_at _ _ _ _ _ (decays m c hp t h) i l).trans ?_)
  unfold Seqs.rows
  have eq : (fun i x => qAt m c t h (ix2 (low i) x)) = (data m c).q (num t) h := funext fun i => funext fun x => qAt_at m c t h i x
  have ek : (fun i x => kAt m c t h (ix2 (low i) x)) = (data m c).k (num t) h := funext fun i => funext fun x => kAt_at m c t h i x
  have eg : sums (preAt m c t h) = (data m c).g (num t) h := funext fun i => funext fun x => sums_at m c hp t h i x
  rw [eq, ek, eg]
  exact Ideal.add_congr (Finset.sum_congr rfl fun x _ => Ideal.mul_congr (start_at m c t h l x) (Ideal.mul_congr (qAt_at m c t h i x) rfl))
    (Finset.sum_congr rfl fun j _ => Ideal.mul_congr (vAt_at m c t h j l) rfl)

theorem out_at (t : Fin cfg0.N) (h : Fin 4) (i : Fin 8) (l : Fin 512) :
    outAt m c t (startOf (iblk m c 8 t)) h (ix2 i l)
      = gated ((data m c).rows (num t) h i) (kerN m c (ix1 l)) (kerG m c (ix2 (row t i) ⟨4096 + (h.val * 512 + l.val), by omega⟩)) l := by
  unfold outAt
  refine (headOut_at _ _ _ i l).trans ?_
  have e : (fun x => headTop (headO (qAt m c t h) (kAt m c t h) (sumsOf (preAt m c t h)) (vAt m c t h) (startOf (iblk m c 8 t) h)) (ix2 i x)) = (data m c).rows (num t) h i :=
    funext fun x => rows_at m c hp t h i x
  rw [e, rAt_at]
  exact congrArg (fun g => gated ((data m c).rows (num t) h i) g (kerG m c (ix2 (row t i) ⟨4096 + (h.val * 512 + l.val), by omega⟩)) l) (x7_at m c t l)

end Cert.GlaSampleIdeal.Value

end
-- ==== Proof.GsRef.lean ====
module

public import proofs.«01_k».proof.Proof.GsMath
public import proofs.«01_k».proof.Proof.Gen.GlaSampleReferenceIdeal.Run

@[expose] public section

set_option maxRecDepth 16384

noncomputable section

open Idealize.ShloMosaic Idealize.ShloMosaic.TcCoe Idealize.SL.Sem Idealize.ShloMosaic.Pipeline

/-! The reference's rows and states, entry by entry. -/

namespace Cert.GlaSampleReferenceIdeal.Value

open Cert.GlaSampleReferenceIdeal Cert.GlaSampleReferenceIdeal.Gen Cert.GsMath
open Cert.GlaMath (refDecay gated foldl_add)

/-- The window's positions run along the second axis. -/
theorem window_pos (n : Fin (⟨S32x8x4x256.rank, ![1, 8, 1, 1]⟩ : Shape).numel) : ((⟨S32x8x4x256.rank, ![1, 8, 1, 1]⟩ : Shape).rowMajor.symm n 0).val = 0 ∧ ((⟨S32x8x4x256.rank, ![1, 8, 1, 1]⟩ : Shape).rowMajor.symm n 1).val = n.val
    ∧ ((⟨S32x8x4x256.rank, ![1, 8, 1, 1]⟩ : Shape).rowMajor.symm n 2).val = 0 ∧ ((⟨S32x8x4x256.rank, ![1, 8, 1, 1]⟩ : Shape).rowMajor.symm n 3).val = 0 := by
  revert n; decide +kernel

/-- The host's running sum along the second axis. -/
theorem cumsum_at (x : FVec Ideal S32x8x4x256 .f32) (v : FVec Ideal S_ .f32) (hv : v (Shape.Idx.first h_S_) = (0 : EReal)) (b : Fin 32) (i : Fin 8) (h : Fin 4) (l : Fin 256) :
    Host.reduceWindowAdd ![1, 8, 1, 1] ![1, 1, 1, 1] ![0, 7, 0, 0] ![0, 0, 0, 0] x v reduceWindows_S32x8x4x256_S32x8x4x256_w1s1p0_0_w8s1p7_0_w1s1p0_0_w1s1p0_0 h_S_ (ix4 b i h l)
      = runSum (fun j => x (ix4 b j h l)) i := by
  unfold Host.reduceWindowAdd
  rw [Ideal.hostReduceWindowAdd_def]
  unfold Ideal.hostReduceWindowAdd Host.reduceWindow
  rw [hv]
  refine (foldl_add _ _ _).trans ?_
  rw [zero_add]
  unfold runSum
  refine Fintype.sum_equiv ((finCongr (by decide : (⟨S32x8x4x256.rank, ![1, 8, 1, 1]⟩ : Shape).numel = 8)).trans (Equiv.addRight (i + 1 : Fin 8))) _ _ fun n => ?_
  obtain ⟨e0, e1, e2, e3⟩ := window_pos n
  have hi := i.isLt
  have hn : n.val < 8 := n.isLt
  obtain ⟨r, hr⟩ : ∃ r : Fin 8, r = ((finCongr (by decide : (⟨S32x8x4x256.rank, ![1, 8, 1, 1]⟩ : Shape).numel = 8)).trans (Equiv.addRight (i + 1 : Fin 8))) n := ⟨_, rfl⟩
  have ev : r.val = (n.val + (i.val + 1) % 8) % 8 := by
    rw [hr]
    show (Fin.cast (by decide : (⟨S32x8x4x256.rank, ![1, 8, 1, 1]⟩ : Shape).numel = 8) n + (i + 1) : Fin 8).val = _
    rw [Fin.val_add, Fin.val_add]; rfl
  rw [← hr]
  by_cases hc : 7 ≤ i.val + n.val
  · have hle : r ≤ i := by
      rw [Fin.le_def, ev]; omega
    rw [if_pos hle, dif_pos]
    · congr 1
      funext a
      apply Fin.ext
      fin_cases a
      · show b.val * 1 + ((⟨S32x8x4x256.rank, ![1, 8, 1, 1]⟩ : Shape).rowMajor.symm n 0).val - 0 = b.val
        rw [e0]; omega
      · show i.val * 1 + ((⟨S32x8x4x256.rank, ![1, 8, 1, 1]⟩ : Shape).rowMajor.symm n 1).val - 7 = r.val
        rw [e1, ev]; omega
      · show h.val * 1 + ((⟨S32x8x4x256.rank, ![1, 8, 1, 1]⟩ : Shape).rowMajor.symm n 2).val - 0 = h.val
        rw [e2]; omega
      · show l.val * 1 + ((⟨S32x8x4x256.rank, ![1, 8, 1, 1]⟩ : Shape).rowMajor.symm n 3).val - 0 = l.val
        rw [e3]; omega
    · intro a
      fin_cases a
      · show 0 ≤ b.val * 1 + ((⟨S32x8x4x256.rank, ![1, 8, 1, 1]⟩ : Shape).rowMajor.symm n 0).val ∧ b.val * 1 + ((⟨S32x8x4x256.rank, ![1, 8, 1, 1]⟩ : Shape).rowMajor.symm n 0).val - 0 < 32
        rw [e0]; have := b.isLt; omega
      · show 7 ≤ i.val * 1 + ((⟨S32x8x4x256.rank, ![1, 8, 1, 1]⟩ : Shape).rowMajor.symm n 1).val ∧ i.val * 1 + ((⟨S32x8x4x256.rank, ![1, 8, 1, 1]⟩ : Shape).rowMajor.symm n 1).val - 7 < 8
        rw [e1]; omega
      · show 0 ≤ h.val * 1 + ((⟨S32x8x4x256.rank, ![1, 8, 1, 1]⟩ : Shape).rowMajor.symm n 2).val ∧ h.val * 1 + ((⟨S32x8x4x256.rank, ![1, 8, 1, 1]⟩ : Shape).rowMajor.symm n 2).val - 0 < 4
        rw [e2]; have := h.isLt; omega
      · show 0 ≤ l.val * 1 + ((⟨S32x8x4x256.rank, ![1, 8, 1, 1]⟩ : Shape).rowMajor.symm n 3).val ∧ l.val * 1 + ((⟨S32x8x4x256.rank, ![1, 8, 1, 1]⟩ : Shape).rowMajor.symm n 3).val - 0 < 256
        rw [e3]; have := l.isLt; omega
  · have hle : ¬ r ≤ i := by
      rw [Fin.le_def, ev]; omega
    rw [if_neg hle, dif_neg]
    intro hin
    have h0 : 7 ≤ i.val * 1 + ((⟨S32x8x4x256.rank, ![1, 8, 1, 1]⟩ : Shape).rowMajor.symm n 1).val := (hin 1).1
    rw [e1] at h0
    omega

/-- The rows before the norm. -/
def rowsOf (S : FVec Ideal S32x4x256x512 .f32) (q g k : FVec Ideal S32x8x4x256 .f32) (v : FVec Ideal S32x8x4x512 .f32) (mk : IVec S1x8x8x1x1 1) : FVec Ideal S32x8x4x512 .f32 :=
  addf (transpose S32x8x4x512 [0, 3, 1, 2] (Host.dotGeneral dot_S32x4x256x512_S32x8x4x256_S32x4x512x8_2_3_3_1_01_02 none S (mulf q (Host.exp g))) transposes_S32x4x512x8_S32x8x4x512_0_3_1_2)
    (transpose S32x8x4x512 [0, 3, 1, 2] (Host.dotGeneral dot_S32x8x4x512_S32x8x8x4_S32x4x512x8_1_2_3_1_02_03 none v
      (Host.reduceAdd (mulf (mulf (broadcastInDim S32x8x8x4x256 ![0, 1, 2, 3, 4] bcast_S32x8x1x4x256_S32x8x8x4x256_0_1_2_3_4 (broadcastInDim S32x8x1x4x256 ![0, 1, 3, 4] bcast_S32x8x4x256_S32x8x1x4x256_0_1_3_4 q))
          (broadcastInDim S32x8x8x4x256 ![0, 1, 2, 3, 4] bcast_S32x1x8x4x256_S32x8x8x4x256_0_1_2_3_4 (broadcastInDim S32x1x8x4x256 ![0, 2, 3, 4] bcast_S32x8x4x256_S32x1x8x4x256_0_2_3_4 k)))
        (Host.exp (select (broadcastInDim S32x8x8x4x256 ![0, 1, 2, 3, 4] bcast_S1x8x8x1x1_S32x8x8x4x256_0_1_2_3_4 mk)
          (subf (broadcastInDim S32x8x8x4x256 ![0, 1, 2, 3, 4] bcast_S32x8x1x4x256_S32x8x8x4x256_0_1_2_3_4 (broadcastInDim S32x8x1x4x256 ![0, 1, 3, 4] bcast_S32x8x4x256_S32x8x1x4x256_0_1_3_4 g))
            (broadcastInDim S32x8x8x4x256 ![0, 1, 2, 3, 4] bcast_S32x1x8x4x256_S32x8x8x4x256_0_1_2_3_4 (broadcastInDim S32x1x8x4x256 ![0, 2, 3, 4] bcast_S32x8x4x256_S32x1x8x4x256_0_2_3_4 g)))
          (broadcastInDim S32x8x8x4x256 ![] bcast_S_S32x8x8x4x256 (id (constant S_ .f32 0xFF800000#32))))))
        (constant S_ .f32 0x00000000#32) reducesTo_S32x8x8x4x256_S32x8x8x4_d4 h_S_)) transposes_S32x4x512x8_S32x8x4x512_0_3_1_2)

/-- The last token's running sums. -/
def lastOf (g : FVec Ideal S32x8x4x256 .f32) : FVec Ideal S32x4x256 .f32 :=
  shapeCast S32x4x256 (extractStridedSlice S32x1x4x256 ![0, 7, 0, 0] g slices_S32x8x4x256_S32x1x4x256_0_7_0_0) shapeCasts_S32x1x4x256_S32x4x256

/-- The states after the tokens. -/
def stateOf (S : FVec Ideal S32x4x256x512 .f32) (g k : FVec Ideal S32x8x4x256 .f32) (v : FVec Ideal S32x8x4x512 .f32) : FVec Ideal S32x4x256x512 .f32 :=
  addf (mulf (broadcastInDim S32x4x256x512 ![0, 1, 2, 3] bcast_S32x4x256x1_S32x4x256x512_0_1_2_3 (broadcastInDim S32x4x256x1 ![0, 1, 2] bcast_S32x4x256_S32x4x256x1_0_1_2 (Host.exp (lastOf g)))) S)
    (Host.dotGeneral dot_S32x8x4x256_S32x8x4x512_S32x4x256x512_1_1_3_3_02_02 none
      (mulf k (Host.exp (subf (broadcastInDim S32x8x4x256 ![0, 1, 2, 3] bcast_S32x1x4x256_S32x8x4x256_0_1_2_3 (broadcastInDim S32x1x4x256 ![0, 2, 3] bcast_S32x4x256_S32x1x4x256_0_2_3 (lastOf g))) g))) v)

/-- The norm, the gain and the output gate. -/
def tailOf (o : FVec Ideal S32x8x4x512 .f32) (N : FVec Ideal S512 .f32) (r : FVec Ideal S32x8x4x512 .f32) : FVec Ideal S32x8x4x512 .f32 :=
  mulf (mulf (mulf o (broadcastInDim S32x8x4x512 ![0, 1, 2, 3] bcast_S32x8x4x1_S32x8x4x512_0_1_2_3 (Host.rsqrt (addf (Host.divf
      (broadcastInDim S32x8x4x1 ![0, 1, 2] bcast_S32x8x4_S32x8x4x1_0_1_2 (Host.reduceAdd (mulf o o) (constant S_ .f32 0x00000000#32) reducesTo_S32x8x4x512_S32x8x4_d3 h_S_))
      (broadcastInDim S32x8x4x1 ![] bcast_S_S32x8x4x1 (constant S_ .f32 0x44000000#32))) (broadcastInDim S32x8x4x1 ![] bcast_S_S32x8x4x1 (constant S_ .f32 0x358637BD#32))))))
    (broadcastInDim S32x8x4x512 ![0, 1, 2, 3] bcast_S1x1x1x512_S32x8x4x512_0_1_2_3 (broadcastInDim S1x1x1x512 ![3] bcast_S512_S1x1x1x512_3 N)))
    (mulf r (Host.divf (broadcastInDim S32x8x4x512 ![] bcast_S_S32x8x4x512 (constant S_ .f32 0x3F800000#32))
      (addf (broadcastInDim S32x8x4x512 ![] bcast_S_S32x8x4x512 (constant S_ .f32 0x3F800000#32)) (Host.exp (Host.negf r)))))

theorem rowsOf_at (S : FVec Ideal S32x4x256x512 .f32) (q g k : FVec Ideal S32x8x4x256 .f32) (v : FVec Ideal S32x8x4x512 .f32) (mk : IVec S1x8x8x1x1 1)
    (hmk : ∀ i j : Fin 8, mk (ix5 0 i j 0 0) = if j ≤ i then 1#1 else 0#1) (b : Fin 32) (i : Fin 8) (h : Fin 4) (l : Fin 512) :
    rowsOf S q g k v mk (ix4 b i h l) = ∑ x : Fin 256, S (ix4 b h x l) * (q (ix4 b i h x) * Ideal.exp (g (ix4 b i h x)))
      + ∑ j : Fin 8, v (ix4 b j h l) * score (fun i x => q (ix4 b i h x)) (fun i x => k (ix4 b i h x)) (fun i x => g (ix4 b i h x)) i j := by
  pointwise [rowsOf, id_eq]
  refine Ideal.add_congr rfl (Finset.sum_congr rfl fun j _ => Ideal.mul_congr rfl ?_)
  unfold score
  by_cases hj : j ≤ i
  · rw [if_pos hj]
    refine Finset.sum_congr rfl fun x _ => ?_
    rw [hmk, if_pos hj]; rfl
  · rw [if_neg hj]
    refine Finset.sum_eq_zero fun x _ => ?_
    rw [hmk, if_neg hj]
    show _ * Ideal.exp (Ideal.ofBits FTy.f32 4286578688#32) = 0
    rw [show Ideal.ofBits FTy.f32 4286578688#32 = ⊥ by simp [Ideal.ofBits, Ideal.ieee], Ideal.exp_bot, mul_zero]

theorem stateOf_at (S : FVec Ideal S32x4x256x512 .f32) (g k : FVec Ideal S32x8x4x256 .f32) (v : FVec Ideal S32x8x4x512 .f32) (b : Fin 32) (h : Fin 4) (l : Fin 256) (x : Fin 512) :
    stateOf S g k v (ix4 b h l x) = Ideal.exp (g (ix4 b 7 h l)) * S (ix4 b h l x)
      + ∑ j : Fin 8, k (ix4 b j h l) * Ideal.exp (g (ix4 b 7 h l) - g (ix4 b j h l)) * v (ix4 b j h x) := by
  pointwise [stateOf, lastOf]

theorem tailOf_at (o : FVec Ideal S32x8x4x512 .f32) (N : FVec Ideal S512 .f32) (r : FVec Ideal S32x8x4x512 .f32) (b : Fin 32) (i : Fin 8) (h : Fin 4) (l : Fin 512) :
    tailOf o N r (ix4 b i h l) = gated (fun x => o (ix4 b i h x)) (N (ix1 l)) (r (ix4 b i h l)) l := by
  unfold gated
  pointwise [tailOf]

variable (m : (ℓ : Loc nD τ sig) → Buf (Elt Ideal) ℓ) (c : Dev nD)

/-- The reference's five arguments. -/
abbrev argG : FVec Ideal S256x6272 .f32 := m ((c.tc : Thread nD τ).loc main_arg0)
abbrev argW : FVec Ideal S16x1024 .f32 := m ((c.tc : Thread nD τ).loc main_arg1)
abbrev argB : FVec Ideal S1024 .f32 := m ((c.tc : Thread nD τ).loc main_arg2)
abbrev argN : FVec Ideal S512 .f32 := m ((c.tc : Thread nD τ).loc main_arg3)
abbrev argS : FVec Ideal S32x4x256x512 .f32 := m ((c.tc : Thread nD τ).loc main_arg4)

/-- The gate's argument, and its log sigmoid over the temperature. -/
def preRef : FVec Ideal S256x1024 .f32 :=
  addf (Host.dotGeneral dot_S256x16_S16x1024_S256x1024_1_0_0_1_n_n none (extractStridedSlice S256x16 ![0, 6144] (argG m c) slices_S256x6272_S256x16_0_6144) (argW m c))
    (broadcastInDim S256x1024 ![0, 1] bcast_S1x1024_S256x1024_0_1 (broadcastInDim S1x1024 ![1] bcast_S1024_S1x1024_1 (argB m c)))

def zeros : FVec Ideal S256x1024 .f32 := broadcastInDim S256x1024 ![] bcast_S_S256x1024 (constant S_ .f32 0x00000000#32)

def decayRef (p : FVec Ideal S256x1024 .f32) : FVec Ideal S256x1024 .f32 :=
  Host.divf (Host.negf (select (cmpf .une (subf (Host.negf p) zeros) (subf (Host.negf p) zeros)) (addf (Host.negf p) zeros)
    (addf (maximumf (Host.negf p) zeros) (Host.log1p (Host.exp (Host.negf (Host.absf (subf (Host.negf p) zeros))))))))
    (broadcastInDim S256x1024 ![] bcast_S_S256x1024 (constant S_ .f32 0x41800000#32))

def causalRef : IVec S1x8x8x1x1 1 :=
  broadcastInDim S1x8x8x1x1 ![1, 2] bcast_S8x8_S1x8x8x1x1_1_2 (select (cmpi .sge (addi (iotaInDim S8x8 32 0) (broadcastInDim S8x8 ![] bcast_S_S8x8 (constantI S_ 32 0#32))) (iotaInDim S8x8 32 1))
    (broadcastInDim S8x8 ![] bcast_S_S8x8 (constantI S_ 1 1#1)) (broadcastInDim S8x8 ![] bcast_S_S8x8 (constantI S_ 1 0#1)))

def laRef : FVec Ideal S32x8x4x256 .f32 := shapeCast S32x8x4x256 (decayRef (preRef m c)) shapeCasts_S256x1024_S32x8x4x256

def gRef : FVec Ideal S32x8x4x256 .f32 :=
  Host.reduceWindowAdd ![1, 8, 1, 1] ![1, 1, 1, 1] ![0, 7, 0, 0] ![0, 0, 0, 0] (laRef m c) (broadcastInDim S_ ![] bcast_S_S_ (constant S_ .f32 0x00000000#32))
    reduceWindows_S32x8x4x256_S32x8x4x256_w1s1p0_0_w8s1p7_0_w1s1p0_0_w1s1p0_0 h_S_

def qRef : FVec Ideal S32x8x4x256 .f32 :=
  mulf (shapeCast S32x8x4x256 (extractStridedSlice S256x1024 ![0, 0] (argG m c) slices_S256x6272_S256x1024_0_0) shapeCasts_S256x1024_S32x8x4x256)
    (broadcastInDim S32x8x4x256 ![] bcast_S_S32x8x4x256 (constant S_ .f32 0x3D800000#32))

def kRef : FVec Ideal S32x8x4x256 .f32 :=
  shapeCast S32x8x4x256 (extractStridedSlice S256x1024 ![0, 1024] (argG m c) slices_S256x6272_S256x1024_0_1024) shapeCasts_S256x1024_S32x8x4x256

def vRef : FVec Ideal S32x8x4x512 .f32 :=
  shapeCast S32x8x4x512 (extractStridedSlice S256x2048 ![0, 2048] (argG m c) slices_S256x6272_S256x2048_0_2048) shapeCasts_S256x2048_S32x8x4x512

def rRef : FVec Ideal S32x8x4x512 .f32 :=
  shapeCast S32x8x4x512 (extractStridedSlice S256x2048 ![0, 4096] (argG m c) slices_S256x6272_S256x2048_0_4096) shapeCasts_S256x2048_S32x8x4x512

theorem states_eq : res_out1 (F := Ideal) m c = stateOf (argS m c) (gRef m c) (kRef m c) (vRef m c) := rfl

theorem rows_eq : res_out0 (F := Ideal) m c = shapeCast S256x2048 (tailOf (rowsOf (argS m c) (qRef m c) (gRef m c) (kRef m c) (vRef m c) causalRef) (argN m c) (rRef m c)) shapeCasts_S32x8x4x512_S256x2048 := rfl

theorem qRef_at (n : Fin 32) (i : Fin 8) (h : Fin 4) (l : Fin 256) : qRef m c (ix4 n i h l)
    = argG m c (ix2 ⟨n.val * 8 + i.val, by omega⟩ ⟨h.val * 256 + l.val, by omega⟩) * Ideal.ofBits .f32 0x3D800000#32 := by
  pointwise [qRef]

theorem kRef_at (n : Fin 32) (i : Fin 8) (h : Fin 4) (l : Fin 256) : kRef m c (ix4 n i h l)
    = argG m c (ix2 ⟨n.val * 8 + i.val, by omega⟩ ⟨1024 + (h.val * 256 + l.val), by omega⟩) := by
  pointwise [kRef]

theorem vRef_at (n : Fin 32) (i : Fin 8) (h : Fin 4) (l : Fin 512) : vRef m c (ix4 n i h l)
    = argG m c (ix2 ⟨n.val * 8 + i.val, by omega⟩ ⟨2048 + (h.val * 512 + l.val), by omega⟩) := by
  pointwise [vRef]

theorem rRef_at (n : Fin 32) (i : Fin 8) (h : Fin 4) (l : Fin 512) : rRef m c (ix4 n i h l)
    = argG m c (ix2 ⟨n.val * 8 + i.val, by omega⟩ ⟨4096 + (h.val * 512 + l.val), by omega⟩) := by
  pointwise [rRef]

/-- The gate's argument at one token and column. -/
def gateArg (r : Fin 256) (l : Fin 1024) : EReal :=
  ∑ x : Fin 16, argG m c (ix2 r ⟨6144 + x.val, by omega⟩) * argW m c (ix2 x l) + argB m c (ix1 l)

theorem laRef_at (n : Fin 32) (i : Fin 8) (h : Fin 4) (l : Fin 256) : laRef m c (ix4 n i h l)
    = refDecay (gateArg m c ⟨n.val * 8 + i.val, by omega⟩ ⟨h.val * 256 + l.val, by omega⟩) := by
  unfold refDecay gateArg
  pointwise [laRef, decayRef, zeros, preRef]

theorem causal_at (i j : Fin 8) : causalRef (ix5 0 i j 0 0) = if j ≤ i then 1#1 else 0#1 := by
  pointwise [causalRef]
  revert i j; decide +kernel

/-- The reference's sequences. -/
def data : Seqs where
  q n h i x := argG m c (ix2 ⟨n.val * 8 + i.val, by omega⟩ ⟨h.val * 256 + x.val, by omega⟩) * Ideal.ofBits .f32 0x3D800000#32
  k n h i x := argG m c (ix2 ⟨n.val * 8 + i.val, by omega⟩ ⟨1024 + (h.val * 256 + x.val), by omega⟩)
  a n h i x := refDecay (gateArg m c ⟨n.val * 8 + i.val, by omega⟩ ⟨h.val * 256 + x.val, by omega⟩)
  v n h i l := argG m c (ix2 ⟨n.val * 8 + i.val, by omega⟩ ⟨2048 + (h.val * 512 + l.val), by omega⟩)
  s n h x l := argS m c (ix4 n h x l)

theorem gRef_at (n : Fin 32) (i : Fin 8) (h : Fin 4) (l : Fin 256) : gRef m c (ix4 n i h l) = (data m c).g n h i l := by
  refine (cumsum_at _ _ (by rw [← ix0_eta (Shape.Idx.first h_S_)]; pointwise []) n i h l).trans ?_
  exact congrArg (fun a => runSum a i) (funext fun j => laRef_at m c n j h l)

theorem states_at (n : Fin 32) (h : Fin 4) (x : Fin 256) (l : Fin 512) : res_out1 (F := Ideal) m c (ix4 n h x l) = (data m c).state n h x l := by
  refine (congrFun (states_eq m c) _).trans ((stateOf_at _ _ _ _ n h x l).trans ?_)
  unfold Seqs.state
  refine Ideal.add_congr (Ideal.mul_congr (congrArg Ideal.exp (gRef_at m c n 7 h x)) rfl) (Finset.sum_congr rfl fun j _ => ?_)
  rw [gRef_at, gRef_at, kRef_at, vRef_at]
  rfl

theorem rows_at (n : Fin 32) (i : Fin 8) (h : Fin 4) (l : Fin 512) :
    rowsOf (argS m c) (qRef m c) (gRef m c) (kRef m c) (vRef m c) causalRef (ix4 n i h l) = (data m c).rows n h i l := by
  refine (rowsOf_at _ _ _ _ _ _ causal_at n i h l).trans ?_
  have eq : (fun i x => qRef m c (ix4 n i h x)) = (data m c).q n h := funext fun i => funext fun x => qRef_at m c n i h x
  have ek : (fun i x => kRef m c (ix4 n i h x)) = (data m c).k n h := funext fun i => funext fun x => kRef_at m c n i h x
  have eg : (fun i x => gRef m c (ix4 n i h x)) = (data m c).g n h := funext fun i => funext fun x => gRef_at m c n i h x
  rw [eq, ek, eg]
  unfold Seqs.rows
  exact Ideal.add_congr (Finset.sum_congr rfl fun x _ => Ideal.mul_congr rfl (Ideal.mul_congr (qRef_at m c n i h x) (congrArg Ideal.exp (gRef_at m c n i h x))))
    (Finset.sum_congr rfl fun j _ => Ideal.mul_congr (vRef_at m c n j h l) rfl)

theorem out_at (n : Fin 32) (i : Fin 8) (h : Fin 4) (l : Fin 512) :
    res_out0 (F := Ideal) m c (ix2 ⟨n.val * 8 + i.val, by omega⟩ ⟨h.val * 512 + l.val, by omega⟩)
      = gated ((data m c).rows n h i) (argN m c (ix1 l)) (argG m c (ix2 ⟨n.val * 8 + i.val, by omega⟩ ⟨4096 + (h.val * 512 + l.val), by omega⟩)) l := by
  have cast (X : FVec Ideal S32x8x4x512 .f32) : shapeCast S256x2048 X shapeCasts_S32x8x4x512_S256x2048 (ix2 ⟨n.val * 8 + i.val, by omega⟩ ⟨h.val * 512 + l.val, by omega⟩) = X (ix4 n i h l) := by
    have e : X = shapeCast S32x8x4x512 (shapeCast S256x2048 X shapeCasts_S32x8x4x512_S256x2048) shapeCasts_S256x2048_S32x8x4x512 := by
      funext y
      pointwise []
    conv_rhs => rw [e]
    generalize shapeCast S256x2048 X shapeCasts_S32x8x4x512_S256x2048 = Y
    pointwise []
  refine (congrFun (rows_eq m c) _).trans ((cast _).trans ((tailOf_at _ _ _ n i h l).trans ?_))
  rw [rRef_at, show (fun x => rowsOf (argS m c) (qRef m c) (gRef m c) (kRef m c) (vRef m c) causalRef (ix4 n i h x)) = (data m c).rows n h i from funext fun x => rows_at m c n i h x]

end Cert.GlaSampleReferenceIdeal.Value

end
-- ==== Proof.GsClaims.lean ====
module

public import proofs.«01_k».proof.Defs
public import proofs.«01_k».proof.Proof.GsValue
public import proofs.«01_k».proof.Proof.GsRef
public import Idealize.ShloMosaic.Lib.Claim

@[expose] public section

set_option maxRecDepth 16384

noncomputable section

open Idealize.ShloMosaic Idealize.ShloMosaic.TcCoe Idealize.SL.Sem
open Idealize.ShloMosaic.Pipeline (Dat)

/-! Both programs end with the same rows and the same states. -/

namespace Cert.GlaSampleIdeal.Value

open Cert.GlaSampleIdeal Cert.GlaSampleIdeal.Gen Cert.GsMath

variable (m : (ℓ : Loc nD τ sig) → Buf (Elt Ideal) ℓ) (m' : (ℓ : Loc Cert.GlaSampleReferenceIdeal.nD Cert.GlaSampleReferenceIdeal.τ Cert.GlaSampleReferenceIdeal.sig) → Buf (Elt Ideal) ℓ)
  (c : Dev nD)
  (e0 : Cert.GlaSampleReferenceIdeal.Value.argG m' c = kerG m c) (e1 : Cert.GlaSampleReferenceIdeal.Value.argW m' c = kerW m c)
  (e2 : Cert.GlaSampleReferenceIdeal.Value.argB m' c = kerB m c) (e3 : Cert.GlaSampleReferenceIdeal.Value.argN m' c = kerN m c)
  (e4 : Cert.GlaSampleReferenceIdeal.Value.argS m' c = kerS m c)
  (hp : Cert.Pre_finite_gate_sample.fn (F := Ideal) (kerG m c) (kerW m c) (kerB m c) (kerN m c) (kerS m c) = fun _ => 1#1)

/-- Which block each result's window shows at a grid point. -/
theorem idx_out : ∀ t : Fin cfg0.N, win0_9.index t = ![t.val, 0] ∧ win0_10.index t = ![t.val, 0, 0, 0] :=
  (by decide +kernel : ∀ t : Fin grid0.N, _)

include e0 e1 e2 e4

theorem same_data : Cert.GlaSampleReferenceIdeal.Value.data m' c = data m c := by
  unfold Cert.GlaSampleReferenceIdeal.Value.data data Cert.GlaSampleReferenceIdeal.Value.gateArg kerGate
  rw [e0, e1, e2, e4]

include hp

/-- One entry of a point's state block. -/
theorem point_s (t : Fin cfg0.N) (h : Fin 4) (x : Fin 256) (l : Fin 512) :
    (outsAt0 m c t).2 (ix4 0 h x l) = Cert.GlaSampleReferenceIdeal.Value.res_out1 (F := Ideal) m' c (ix4 (num t) h x l) := by
  refine (congrFun (step_f m c t) _).trans ((putF_at _ h l x).trans ((next_at m c hp t h l x).trans ?_))
  refine Eq.trans ?_ (Cert.GlaSampleReferenceIdeal.Value.states_at m' c (num t) h x l).symm
  rw [same_data m m' c e0 e1 e2 e4]

theorem final_s : (dats m 0 c).arrAt 10 cfg0.N = Cert.GlaSampleReferenceIdeal.Value.res_out1 (F := Ideal) m' c := by
  refine (dats m 0 c).arrAt_eq_of_covers 10 _ (by decide +kernel) fun t _ y => ?_
  have e : ((cfg0.win 10).blk t).view.emb y = ix4 (num t) (y 1) (y 2) (y 3) := by unfold num; blk_ext [idx_out t]
  have ey : y = ix4 0 (y 1) (y 2) (y 3) := by
    funext a
    match a with
    | 0 => exact Subsingleton.elim (α := Fin 1) _ _
    | 1 => rfl
    | 2 => rfl
    | 3 => rfl
  blk_simp
  rw [after0_10, e]
  exact (congrArg _ ey).trans (point_s m m' c e0 e1 e2 e4 hp t (y 1) (y 2) (y 3))

include e3

/-- One entry of a point's block of rows. -/
theorem point_o (t : Fin cfg0.N) (i : Fin 8) (h : Fin 4) (l : Fin 512) :
    (outsAt0 m c t).1 (ix2 i ⟨h.val * 512 + l.val, by omega⟩)
      = Cert.GlaSampleReferenceIdeal.Value.res_out0 (F := Ideal) m' c (ix2 (row t i) ⟨h.val * 512 + l.val, by omega⟩) := by
  refine (congrFun (step_o m c t) _).trans ((putO_at _ h i l).trans ((out_at m c hp t h i l).trans ?_))
  refine Eq.trans ?_ (Cert.GlaSampleReferenceIdeal.Value.out_at m' c (num t) i h l).symm
  rw [same_data m m' c e0 e1 e2 e4, e0, e3]
  rfl

theorem final_o : (dats m 0 c).arrAt 9 cfg0.N = Cert.GlaSampleReferenceIdeal.Value.res_out0 (F := Ideal) m' c := by
  refine (dats m 0 c).arrAt_eq_of_covers 9 _ (by decide +kernel) fun t _ y => ?_
  have b1 : (y 1).val < 2048 := (y 1).isLt
  obtain ⟨h, hh⟩ : ∃ h : Fin 4, h.val = (y 1).val / 512 := ⟨⟨(y 1).val / 512, by omega⟩, rfl⟩
  obtain ⟨l, hl⟩ : ∃ l : Fin 512, l.val = (y 1).val % 512 := ⟨⟨(y 1).val % 512, by omega⟩, rfl⟩
  have ex : (⟨h.val * 512 + l.val, by omega⟩ : Fin 2048) = y 1 := Fin.ext (by show h.val * 512 + l.val = (y 1).val; omega)
  have e : ((cfg0.win 9).blk t).view.emb y = ix2 (row t (y 0)) (y 1) := by unfold row; blk_ext [idx_out t]
  have hpnt := point_o m m' c e0 e1 e2 e3 e4 hp t (y 0) h l
  rw [ex] at hpnt
  blk_simp
  rw [after0_9, e]
  exact (congrArg _ (eq_ix2 y)).trans hpnt

end Cert.GlaSampleIdeal.Value

namespace Cert.Proof

theorem gla_sample : Cert.algebraic_GlaSampleIdeal_GlaSampleReferenceIdeal_pre_finite_gate_sample := by
  intro m g m' g' hpre hagree
  refine ⟨fun c => Cert.GlaSampleReferenceIdeal.Value.res_out0 (F := Ideal) m' c, fun c => Cert.GlaSampleReferenceIdeal.Value.res_out1 (F := Ideal) m' c, ?_, ?_⟩
  · refine (θ_run Cert.GlaSampleIdeal.defs _ _).mono (fun r h c => ?_) (Cert.GlaSampleIdeal.Value.run_blocks m g)
    obtain ⟨e0, e1, e2, e3, e4⟩ := hagree c
    have hp := hpre c
    exact ⟨(h c).1.trans (Cert.GlaSampleIdeal.Value.final_o m m' c e0 e1 e2 e3 e4 hp), (h c).2.1.trans (Cert.GlaSampleIdeal.Value.final_s m m' c e0 e1 e2 e4 hp), (h c).2.2⟩
  · exact Cert.GlaSampleReferenceIdeal.Value.run m' g'

end Cert.Proof

end
-- ==== Proof.SeModel.lean ====
module

public import proofs.«01_k».proof.Proof.Gen.SelectIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! One head's three choices, as array functions that all sixteen heads share. -/

namespace Cert.SelectIdeal.Value

open Cert.SelectIdeal Cert.SelectIdeal.Gen

/-- The column numbers, as integers and as floats. -/
abbrev colI : IVec S8x128 32 := iota .tc S8x128 32 [1] iota_S8x128_d1_w32
def colF : FVec Ideal S8x128 .f32 := sitofp .f32 colI

/-- A row's greatest score. -/
def best (s : FVec Ideal S8x128 .f32) : FVec Ideal S8x1 .f32 :=
  shapeCast S8x1 (multiReduction .maximumf [1] S8 s 0xFF800000#32 reduces_S8x128_S8 (.inl rfl) rfl) shapeCasts_S8_S8x1

/-- The first column that holds it. -/
def pick (s : FVec Ideal S8x128 .f32) : FVec Ideal S8x1 .f32 :=
  shapeCast S8x1 (multiReduction .minimumf [1] S8
    (select (cmpf .oeq s (broadcastTo S8x128 (best s) broadcasts_S8x1_S8x128)) colF (broadcast S8x128 (Scalar.ofBits .f32 0x43000000#32)))
    0x7F800000#32 reduces_S8x128_S8 (.inl rfl) rfl) shapeCasts_S8_S8x1

/-- The scores with that column struck out. -/
def strike (s : FVec Ideal S8x128 .f32) : FVec Ideal S8x128 .f32 :=
  select (andi (cmpf .oeq colF (broadcastTo S8x128 (pick s) broadcasts_S8x1_S8x128))
      (broadcastTo S8x128 (cmpf .ogt (best s) (broadcast S8x1 (Scalar.ofBits .f32 0xFF800000#32))) broadcasts_S8x1_S8x128))
    (broadcast S8x128 (Scalar.ofBits .f32 0xFF800000#32)) s

/-- Column `n` of the result set to a choice. -/
def put (n : BitVec 32) (p : FVec Ideal S8x1 .f32) (o : FVec Ideal S8x128 .f32) : FVec Ideal S8x128 .f32 :=
  select (cmpi .eq colI (broadcast S8x128 n)) (broadcastTo S8x128 (shapeCast S8x1 p shapeCasts_S8x1_S8x1) broadcasts_S8x1_S8x128) o

/-- One head's three choices written from column `n` on. -/
def putHead (n0 n1 n2 : BitVec 32) (s : FVec Ideal S8x128 .f32) (o : FVec Ideal S8x128 .f32) : FVec Ideal S8x128 .f32 :=
  put n2 (pick (strike (strike s))) (put n1 (pick (strike s)) (put n0 (pick s) o))

/-- The columns of the heads in a row of queries or keys, and of the cached sums. -/
def cols (x : Vec Ideal S8x2048 .f32) (h : Fin 16) : Vec Ideal S8x128 .f32 :=
  match h.val with
  | 0 => View.ld x r0_0
  | 1 => View.ld x r0_2
  | 2 => View.ld x r0_4
  | 3 => View.ld x r0_6
  | 4 => View.ld x r0_8
  | 5 => View.ld x r0_10
  | 6 => View.ld x r0_12
  | 7 => View.ld x r0_14
  | 8 => View.ld x r0_16
  | 9 => View.ld x r0_18
  | 10 => View.ld x r0_20
  | 11 => View.ld x r0_22
  | 12 => View.ld x r0_24
  | 13 => View.ld x r0_26
  | 14 => View.ld x r0_28
  | _ => View.ld x r0_30

def sums (x : Vec Ideal S1x64x16x128 .f32) (h : Fin 16) : Vec Ideal S1x64x1x128 .f32 :=
  match h.val with
  | 0 => View.ld x r0_1
  | 1 => View.ld x r0_3
  | 2 => View.ld x r0_5
  | 3 => View.ld x r0_7
  | 4 => View.ld x r0_9
  | 5 => View.ld x r0_11
  | 6 => View.ld x r0_13
  | 7 => View.ld x r0_15
  | 8 => View.ld x r0_17
  | 9 => View.ld x r0_19
  | 10 => View.ld x r0_21
  | 11 => View.ld x r0_23
  | 12 => View.ld x r0_25
  | 13 => View.ld x r0_27
  | 14 => View.ld x r0_29
  | _ => View.ld x r0_31

/-- Head `h`'s scores. -/
def scores (x0 x1 : Vec Ideal S8x2048 .f32) (x2 : Vec Ideal S1x64x16x128 .f32) (h : Fin 16) : FVec Ideal S8x128 .f32 :=
  k0_pay5 (cols x1 h) (sums x2 h) (cols x0 h)

/-- Nothing chosen yet. -/
def start : FVec Ideal S8x128 .f32 := broadcast S8x128 (Scalar.ofBits .f32 0x00000000#32)

/-- The choices of all sixteen heads. -/
def choices (s : Fin 16 → FVec Ideal S8x128 .f32) : FVec Ideal S8x128 .f32 :=
  putHead 45#32 46#32 47#32 (s 15) <| putHead 42#32 43#32 44#32 (s 14) <| putHead 39#32 40#32 41#32 (s 13) <|
  putHead 36#32 37#32 38#32 (s 12) <| putHead 33#32 34#32 35#32 (s 11) <| putHead 30#32 31#32 32#32 (s 10) <|
  putHead 27#32 28#32 29#32 (s 9) <| putHead 24#32 25#32 26#32 (s 8) <| putHead 21#32 22#32 23#32 (s 7) <|
  putHead 18#32 19#32 20#32 (s 6) <| putHead 15#32 16#32 17#32 (s 5) <| putHead 12#32 13#32 14#32 (s 4) <|
  putHead 9#32 10#32 11#32 (s 3) <| putHead 6#32 7#32 8#32 (s 2) <| putHead 3#32 4#32 5#32 (s 1) <|
  putHead 0#32 1#32 2#32 (s 0) start

/-- A grid point's block of choices. -/
def block (x0 x1 : Vec Ideal S8x2048 .f32) (x2 : Vec Ideal S1x64x16x128 .f32) : IVec S1x8x128 32 :=
  shapeCast S1x8x128 (fptosi 32 (choices (scores x0 x1 x2))) shapeCasts_S8x128_S1x8x128

end Cert.SelectIdeal.Value

end
-- ==== Proof.SeStep.lean ====
module

public import proofs.«01_k».proof.Proof.SeModel

@[expose] public section

set_option maxRecDepth 16384

noncomputable section

open Idealize.ShloMosaic Idealize.ShloMosaic.TcCoe Idealize.SL.Sem

/-! The kernel's block of choices is the model's. -/

namespace Cert.SelectIdeal.Value

open Cert.SelectIdeal Cert.SelectIdeal.Gen

set_option maxHeartbeats 4000000 in
theorem step (x0 x1 : Vec Ideal S8x2048 .f32) (x2 : Vec Ideal S1x64x16x128 .f32) :
    out0_3 (F := Ideal) x0 x1 x2 = block x0 x1 x2 :=
  by
  unfold out0_3
  frame_out
  rfl

end Cert.SelectIdeal.Value

end
-- ==== Proof.SePick.lean ====
module

public import Idealize.ShloMosaic.Lib.Pipeline.ValueKit
public import Idealize.ShloMosaic.Lib.Pointwise
public import Idealize.ShloMosaic.Lib.SortPrefix

@[expose] public section

noncomputable section

open Idealize.ShloMosaic

/-! The first place of a row's greatest entry; and the three greatest entries' places, one after the other, are the
first three of a stable sort. -/

namespace Cert.SelectMath

/-- `p` is the first place where `f` is greatest. -/
def IsFirst {n : ℕ} (f : Fin n → EReal) (p : Fin n) : Prop := ∀ j, f j < f p ∨ (f j = f p ∧ p ≤ j)

theorem exists_first (f : Fin 128 → EReal) : ∃ p, IsFirst f p := by
  obtain ⟨q, -, hq⟩ := Finset.exists_max_image Finset.univ f ⟨0, Finset.mem_univ _⟩
  have hne : (Finset.univ.filter fun j => f j = f q).Nonempty := ⟨q, by simp⟩
  refine ⟨(Finset.univ.filter fun j => f j = f q).min' hne, fun j => ?_⟩
  have hm := Finset.min'_mem _ hne
  rw [Finset.mem_filter] at hm
  rw [hm.2]
  rcases lt_or_eq_of_le (hq j (Finset.mem_univ _)) with h | h
  · exact Or.inl h
  · exact Or.inr ⟨h, Finset.min'_le _ _ (by simp [h])⟩

/-- The first place of the greatest entry. -/
def first (f : Fin 128 → EReal) : Fin 128 := (exists_first f).choose

theorem first_spec (f : Fin 128 → EReal) : IsFirst f (first f) := (exists_first f).choose_spec

theorem first_le (f : Fin 128 → EReal) (j : Fin 128) : f j ≤ f (first f) := by
  rcases first_spec f j with h | h
  · exact h.le
  · exact h.1.le

/-- The row with that entry struck out. -/
def rest (f : Fin 128 → EReal) : Fin 128 → EReal := fun j => if j = first f then ⊥ else f j

/-- A row's maximum, folded. -/
theorem fold_max (f : Fin 128 → EReal) : (Finset.univ : Finset (Fin 128)).fold max ⊥ f = f (first f) := by
  refine le_antisymm ?_ ?_
  · rw [Finset.fold_max_le]
    exact ⟨bot_le, fun j _ => first_le f j⟩
  · rw [Finset.le_fold_max]
    exact Or.inr ⟨first f, Finset.mem_univ _, le_refl _⟩

/-- The least column that holds the maximum, folded. -/
theorem fold_min (f : Fin 128 → EReal) (c : EReal) (hc : ∀ j : Fin 128, ((j.val : ℝ) : EReal) ≤ c) :
    (Finset.univ : Finset (Fin 128)).fold min ⊤ (fun j => if f j = f (first f) then ((j.val : ℝ) : EReal) else c)
      = (((first f).val : ℝ) : EReal) := by
  refine le_antisymm ?_ ?_
  · rw [Finset.fold_min_le]
    exact Or.inr ⟨first f, Finset.mem_univ _, by simp⟩
  · rw [Finset.le_fold_min]
    refine ⟨le_top, fun j _ => ?_⟩
    split
    · next h =>
      rcases first_spec f j with h' | h'
      · exact absurd h h'.ne
      · exact EReal.coe_le_coe_iff.mpr (Nat.cast_le.mpr h'.2)
    · exact hc _

/-! ### The stable sort -/

/-- `a` goes before `b`: greater, or equal and earlier. -/
def before {n : ℕ} (g : Fin n → EReal) (a b : Fin n) : Bool :=
  decide (g b < g a) || (decide (g a = g b) && decide (a < b))

theorem before_total {n : ℕ} (g : Fin n → EReal) : StrictTotalBefore (before g) := by
  refine StrictTotalBefore.of_key_then_position (fun a b : EReal => decide (b < a)) g ?_ ?_ ?_
  · intro a; simp
  · intro a b c h₁ h₂
    simp only [decide_eq_true_eq] at *
    exact lt_trans h₂ h₁
  · intro a b
    simp only [decide_eq_true_eq]
    rcases lt_trichotomy a b with h | h | h
    · exact Or.inr (Or.inr h)
    · exact Or.inr (Or.inl h)
    · exact Or.inl h

/-- Inserting the earliest place: earlier or not makes no difference. -/
theorem insert_eq {n : ℕ} (g : Fin n → EReal) (a : Fin n) (l : List (Fin n)) (h : ∀ b ∈ l, a < b) :
    insertBefore (fun x y => decide (g y < g x)) a l = insertBefore (before g) a l := by
  induction l with
  | nil => rfl
  | cons b l ih =>
    have hb : ¬ b < a := not_lt.mpr (h b (by simp)).le
    have e : before g b a = decide (g a < g b) := by
      unfold before; simp [hb]
    unfold insertBefore
    rw [e, ih fun x hx => h x (by simp [hx])]

theorem sort_eq {n : ℕ} (g : Fin n → EReal) (l : List (Fin n)) (h : l.Pairwise (· < ·)) :
    stableSort (fun x y => decide (g y < g x)) l = stableSort (before g) l := by
  induction l with
  | nil => rfl
  | cons a l ih =>
    rw [List.pairwise_cons] at h
    unfold stableSort
    rw [ih h.2]
    exact insert_eq g a _ fun b hb => h.1 b ((perm_stableSort _ _).mem_iff.mp hb)

theorem sortedFrom_eq {n : ℕ} (g : Fin n → EReal) (k : Fin n) :
    sortedFrom (fun x y => decide (g y < g x)) k = sortedFrom (before g) k := by
  have e : sortPositions n (fun x y => decide (g y < g x)) = sortPositions n (before g) :=
    sort_eq g _ (List.pairwise_lt_finRange n)
  unfold sortedFrom
  simp only [List.get_eq_getElem, Fin.val_cast, e]

/-! ### Three choices -/

/-- A block's column among the 128. -/
def wide (j : Fin 65) : Fin 128 := ⟨j.val, by omega⟩

section Three

variable (f : Fin 128 → EReal) (g : Fin 65 → EReal)
  (hr : ∀ j : Fin 128, j.val < 64 → ⊥ < f j) (hb : ∀ j : Fin 128, 64 ≤ j.val → f j = ⊥)

theorem first_ne_bot (f : Fin 128 → EReal) (j : Fin 128) (h : ⊥ < f j) : ⊥ < f (first f) := lt_of_lt_of_le h (first_le f j)

/-- The three choices of a row. -/
def three (i : Fin 3) : Fin 128 :=
  match i with
  | 0 => first f
  | 1 => first (rest f)
  | 2 => first (rest (rest f))

theorem rest_of_bot (j : Fin 128) (h : f j = ⊥) : rest f j = ⊥ := by
  unfold rest; split
  · rfl
  · exact h

theorem rest_ne (j : Fin 128) (h : ⊥ < rest f j) : j ≠ first f ∧ rest f j = f j := by
  unfold rest at h ⊢
  split at h
  · exact absurd h (lt_irrefl _)
  · next e => exact ⟨e, if_neg e⟩

include hr

/-- Among the first three columns one is still free after two choices. -/
theorem free_two : ∃ j : Fin 128, j.val < 64 ∧ ⊥ < rest (rest f) j := by
  by_contra hcon
  have h : ∀ j : Fin 128, j.val < 64 → j = first f ∨ j = first (rest f) := by
    intro j hj
    by_contra hne
    rw [not_or] at hne
    refine hcon ⟨j, hj, ?_⟩
    have e : rest (rest f) j = f j := (if_neg hne.2).trans (if_neg hne.1)
    rw [e]
    exact hr j hj
  have h0 := h 0 (by decide)
  have h1 := h 1 (by decide)
  have h2 := h 2 (by decide)
  have d01 : (0 : Fin 128) ≠ 1 := by decide
  have d02 : (0 : Fin 128) ≠ 2 := by decide
  have d12 : (1 : Fin 128) ≠ 2 := by decide
  rcases h0 with h0 | h0 <;> rcases h1 with h1 | h1 <;> rcases h2 with h2 | h2 <;> simp_all

theorem free_two' : ⊥ < rest (rest f) (first (rest (rest f))) := by
  obtain ⟨j, -, h⟩ := free_two f hr
  exact first_ne_bot _ j h

theorem free_one' : ⊥ < rest f (first (rest f)) := by
  obtain ⟨j, -, h⟩ := free_two f hr
  rw [(rest_ne _ _ h).2] at h
  exact first_ne_bot _ j h

theorem free_zero' : ⊥ < f (first f) := first_ne_bot f 0 (hr 0 (by decide))

theorem ne01 : first (rest f) ≠ first f := (rest_ne f _ (free_one' f hr)).1

theorem ne12 : first (rest (rest f)) ≠ first (rest f) := (rest_ne _ _ (free_two' f hr)).1

theorem ne02 : first (rest (rest f)) ≠ first f := by
  have h := free_two' f hr
  rw [(rest_ne _ _ h).2] at h
  exact (rest_ne _ _ h).1

theorem val1 : rest f (first (rest f)) = f (first (rest f)) := (rest_ne _ _ (free_one' f hr)).2

theorem val2 : rest (rest f) (first (rest (rest f))) = f (first (rest (rest f))) := by
  have h := free_two' f hr
  have e := (rest_ne _ _ h).2
  have h' : ⊥ < rest f (first (rest (rest f))) := e ▸ h
  exact e.trans (rest_ne _ _ h').2

include hb

theorem three_lt (i : Fin 3) : (three f i).val < 64 := by
  have key : ∀ j, ⊥ < f j → j.val < 64 := fun j h => by
    by_contra hc
    rw [hb j (not_lt.mp hc)] at h
    exact lt_irrefl _ h
  match i with
  | 0 => exact key _ (free_zero' f hr)
  | 1 => exact key _ (val1 f hr ▸ free_one' f hr)
  | 2 => exact key _ (val2 f hr ▸ free_two' f hr)

/-- Their places in the row of blocks. -/
def place (i : Fin 3) : Fin 65 := ⟨(three f i).val, by have := three_lt f hr hb i; omega⟩

variable (hg : ∀ j : Fin 65, g j = f (wide j))

include hg

/-- A column that no choice up to the `i`-th took is not before the `i`-th. -/
theorem not_before (i : Fin 3) (p : Fin 65) (hp : ∀ j : Fin 3, j < i → p ≠ place f hr hb j) :
    before g p (place f hr hb i) = false := by
  have hP : ∀ j, p ≠ place f hr hb j → (⟨p.val, by omega⟩ : Fin 128) ≠ three f j := by
    intro j hj he
    exact hj (Fin.ext (by have := congrArg Fin.val he; exact this))
  have hgi : g (place f hr hb i) = f (three f i) := hg _
  have main : f ⟨p.val, by omega⟩ < f (three f i) ∨ (f ⟨p.val, by omega⟩ = f (three f i) ∧ three f i ≤ ⟨p.val, by omega⟩) := by
    match i with
    | 0 => exact first_spec f ⟨p.val, by omega⟩
    | 1 =>
      have n0 := hP 0 (hp 0 (by decide))
      have h := first_spec (rest f) ⟨p.val, by omega⟩
      rw [val1 f hr] at h
      have e : rest f ⟨p.val, by omega⟩ = f ⟨p.val, by omega⟩ := if_neg n0
      rw [e] at h
      exact h
    | 2 =>
      have n0 := hP 0 (hp 0 (by decide))
      have n1 := hP 1 (hp 1 (by decide))
      have h := first_spec (rest (rest f)) ⟨p.val, by omega⟩
      rw [val2 f hr] at h
      have e : rest (rest f) ⟨p.val, by omega⟩ = f ⟨p.val, by omega⟩ := (if_neg n1).trans (if_neg n0)
      rw [e] at h
      exact h
  unfold before
  rw [hgi, show g p = f ⟨p.val, by omega⟩ from hg p]
  rcases main with h | ⟨h, hle⟩
  · simp [h.ne, h.le]
  · have : ¬ p < place f hr hb i := fun hlt => absurd (Fin.lt_def.mp hlt) (not_lt.mpr (Fin.le_def.mp hle))
    simp [h, this]

theorem sorted_three (i : Fin 3) :
    sortedFrom (fun x y => decide (g y < g x)) (i.castLE (by decide) : Fin 65) = place f hr hb i := by
  rw [sortedFrom_eq]
  have inj : Function.Injective (place f hr hb) := by
    intro a b hab
    have hab' : three f a = three f b := Fin.ext (by have := congrArg Fin.val hab; exact this)
    have n01 := ne01 f hr
    have n12 := ne12 f hr
    have n02 := ne02 f hr
    match a, b with
    | 0, 0 => rfl
    | 1, 1 => rfl
    | 2, 2 => rfl
    | 0, 1 => exact absurd hab'.symm n01
    | 0, 2 => exact absurd hab'.symm n02
    | 1, 2 => exact absurd hab'.symm n12
    | 1, 0 => exact absurd hab' n01
    | 2, 0 => exact absurd hab' n02
    | 2, 1 => exact absurd hab' n12
  refine (before_total g).sortedFrom_eq_of_prefix (by decide) (place f hr hb) inj ?_ ?_ i
  · intro a b hab
    exact not_before f g hr hb hg a _ fun j hj he => absurd (inj he) (by
      intro e; exact absurd (lt_trans hab (e ▸ hj)) (lt_irrefl _))
  · intro a p hp
    exact not_before f g hr hb hg a p fun j _ he => hp j he.symm

end Three

/-! ### Scores -/

/-- A sequence's row of scores of one head at one token: the token's query against each cached block's mean key, and
−∞ past the cached blocks. -/
def scoreRow (Q : (⟨2, ![256, 2048]⟩ : Shape).Idx → EReal) (S : (⟨4, ![32, 64, 16, 128]⟩ : Shape).Idx → EReal)
    (n : Fin 32) (i : Fin 8) (h : Fin 16) (l : Fin 128) : EReal :=
  if hl : l.val < 64 then
    ∑ x : Fin 128, Q (ix2 ⟨n.val * 8 + i.val, by omega⟩ ⟨h.val * 128 + x.val, by omega⟩) * (S (ix4 n ⟨l.val, hl⟩ h x) * Ideal.ofBits FTy.f32 0x3B800000#32)
  else ⊥

theorem part_lit : Ideal.ofBits FTy.f32 0x3B800000#32 = ((1 / 256 : ℝ) : EReal) := by
  simp [Ideal.ofBits, Ideal.ieee]
  rw [← EReal.coe_mul]
  norm_num

theorem size_lit : Ideal.ofBits FTy.f32 0x43800000#32 = ((256 : ℝ) : EReal) := by
  simp [Ideal.ofBits, Ideal.ieee]
  rw [← EReal.coe_mul]
  norm_num

theorem sum_real {ι : Type} (s : Finset ι) (a b : ι → EReal) (ha : ∀ x, ∃ r : ℝ, a x = (r : EReal)) (hb : ∀ x, ∃ r : ℝ, b x = (r : EReal)) :
    ∃ r : ℝ, ∑ x ∈ s, a x * (b x * Ideal.ofBits FTy.f32 0x3B800000#32) = (r : EReal) := by
  classical
  choose a' ha' using ha
  choose b' hb' using hb
  refine ⟨∑ x ∈ s, a' x * (b' x * (1 / 256)), ?_⟩
  induction s using Finset.induction_on with
  | empty => simp
  | insert x s hx ih => rw [Finset.sum_insert hx, Finset.sum_insert hx, ih, ha', hb', part_lit, ← EReal.coe_mul, ← EReal.coe_mul, ← EReal.coe_add]

theorem scoreRow_real (Q : (⟨2, ![256, 2048]⟩ : Shape).Idx → EReal) (S : (⟨4, ![32, 64, 16, 128]⟩ : Shape).Idx → EReal)
    (hQ : ∀ y, ∃ r : ℝ, Q y = (r : EReal)) (hS : ∀ y, ∃ r : ℝ, S y = (r : EReal)) (n : Fin 32) (i : Fin 8) (h : Fin 16) (l : Fin 128)
    (hl : l.val < 64) : ⊥ < scoreRow Q S n i h l := by
  unfold scoreRow
  rw [dif_pos hl]
  obtain ⟨r, e⟩ := sum_real (Finset.univ : Finset (Fin 128)) (fun x => Q (ix2 ⟨n.val * 8 + i.val, by omega⟩ ⟨h.val * 128 + x.val, by omega⟩))
    (fun x => S (ix4 n ⟨l.val, hl⟩ h x)) (fun _ => hQ _) fun _ => hS _
  rw [e]
  exact EReal.bot_lt_coe r

theorem scoreRow_bot (Q : (⟨2, ![256, 2048]⟩ : Shape).Idx → EReal) (S : (⟨4, ![32, 64, 16, 128]⟩ : Shape).Idx → EReal)
    (n : Fin 32) (i : Fin 8) (h : Fin 16) (l : Fin 128) (hl : 64 ≤ l.val) : scoreRow Q S n i h l = ⊥ := dif_neg (by omega)

/-- A mean by division is the sum's multiple. -/
theorem mean_eq (a b : EReal) (hb : ∃ r : ℝ, b = (r : EReal)) :
    Ideal.div b (Ideal.ofBits FTy.f32 0x43800000#32) * a = a * (b * Ideal.ofBits FTy.f32 0x3B800000#32) := by
  obtain ⟨r, rfl⟩ := hb
  rw [size_lit, part_lit, Ideal.div_coe (by norm_num), ← EReal.coe_mul]
  refine (_root_.mul_comm (G := EReal) _ _).trans (Ideal.mul_congr rfl ?_)
  norm_num [div_eq_mul_inv]

end Cert.SelectMath

end
-- ==== Proof.SeRow.lean ====
module

public import proofs.«01_k».proof.Proof.SeModel
public import proofs.«01_k».proof.Proof.SePick
public import Idealize.ShloMosaic.Lib.Pointwise

@[expose] public section

set_option maxRecDepth 16384

noncomputable section

open Idealize.ShloMosaic Idealize.ShloMosaic.TcCoe Idealize.SL.Sem

/-! The choices of one head, entry by entry. -/

namespace Cert.SelectIdeal.Value

open Cert.SelectIdeal Cert.SelectIdeal.Gen Cert.SelectMath

theorem bot_lit : Ideal.ofBits FTy.f32 0xFF800000#32 = ⊥ := by simp [Ideal.ofBits, Ideal.ieee]
theorem top_lit : Ideal.ofBits FTy.f32 0x7F800000#32 = ⊤ := by simp [Ideal.ofBits, Ideal.ieee]
theorem end_lit : Ideal.ofBits FTy.f32 0x43000000#32 = ((128 : ℝ) : EReal) := by
  simp [Ideal.ofBits, Ideal.ieee]
  rw [← EReal.coe_mul]
  norm_num

theorem col_at (l : Fin 128) : FloatOps.sitofp (F := Ideal) FTy.f32 (BitVec.ofNat 32 l.val) = ((l.val : ℝ) : EReal) := by
  have h : (BitVec.ofNat 32 l.val).toInt = (l.val : ℤ) := by
    have := l.isLt
    rw [BitVec.toInt_eq_toNat_of_lt] <;> simp [BitVec.toNat_ofNat] <;> omega
  show (((BitVec.ofNat 32 l.val).toInt : ℝ) : EReal) = _
  rw [h]
  simp

/-- A row of a block of scores. -/
def rowOf (s : FVec Ideal S8x128 .f32) (r : Fin 8) : Fin 128 → EReal := fun l => s (ix2 r l)

theorem single (v : FVec Ideal S8 .f32) (r : Fin 8) : shapeCast S8x1 v shapeCasts_S8_S8x1 (ix2 r 0) = v (ix1 r) := by
  pointwise []

theorem lift_at (r : Fin 8) (l : Fin 128) : reduces_S8x128_S8.lift (ix1 r) l = ix2 r l := by
  funext a
  match a with
  | 0 => rfl
  | 1 => rfl

theorem best_at (s : FVec Ideal S8x128 .f32) (r : Fin 8) : best s (ix2 r 0) = rowOf s r (first (rowOf s r)) := by
  unfold best
  refine (single _ r).trans ((Ideal.multiReduction_maximumf_single _ _ _ _ _ _).trans ?_)
  have e : s ∘ reduces_S8x128_S8.lift (ix1 r) = rowOf s r := funext fun l => congrArg s (lift_at r l)
  refine Eq.trans ?_ (fold_max (rowOf s r))
  rw [← bot_lit, ← e]
  rfl

theorem fold_row (v : FVec Ideal S8x128 .f32) (r : Fin 8) :
    multiReduction .minimumf [1] S8 v 0x7F800000#32 reduces_S8x128_S8 (.inl rfl) rfl (ix1 r)
      = (Finset.univ : Finset (Fin 128)).fold min ⊤ (v ∘ reduces_S8x128_S8.lift (ix1 r)) := by
  rw [← top_lit]
  exact (multiReduction_minimumf_eq_fold v _ reduces_S8x128_S8 _ _ _).trans (reduces_S8x128_S8.fold_filter_drop_single _ _ v (ix1 r))

theorem pick_at (s : FVec Ideal S8x128 .f32) (r : Fin 8) : pick s (ix2 r 0) = (((first (rowOf s r)).val : ℝ) : EReal) := by
  unfold pick
  refine (single _ r).trans ?_
  have e : ∀ l, select (cmpf .oeq s (broadcastTo S8x128 (best s) broadcasts_S8x1_S8x128)) colF (broadcast S8x128 (Scalar.ofBits .f32 0x43000000#32)) (ix2 r l)
      = if rowOf s r l = rowOf s r (first (rowOf s r)) then ((l.val : ℝ) : EReal) else ((128 : ℝ) : EReal) := by
    intro l
    rw [← best_at, ← end_lit, ← col_at]
    pointwise [colF, rowOf]
  refine Eq.trans ?_ (fold_min (rowOf s r) ((128 : ℝ) : EReal) fun j => ?_)
  · refine (fold_row _ _).trans ?_
    refine congrArg (fun f : Fin 128 → EReal => Finset.fold min ⊤ f Finset.univ) (funext fun l => ?_)
    exact (congrArg _ (lift_at r l)).trans (e l)
  · exact EReal.coe_le_coe_iff.mpr (by have := j.isLt; exact_mod_cast this.le)

theorem strike_at (s : FVec Ideal S8x128 .f32) (r : Fin 8) : rowOf (strike s) r = rest (rowOf s r) := by
  funext l
  have e : rowOf (strike s) r l = Scalar.select (IntOp.andi (FloatOps.cmpf (F := Ideal) (φ := .f32) .oeq (FloatOps.sitofp (F := Ideal) FTy.f32 (BitVec.ofNat 32 l.val)) (pick s (ix2 r 0)))
      (FloatOps.cmpf (F := Ideal) (φ := .f32) .ogt (best s (ix2 r 0)) (Ideal.ofBits FTy.f32 0xFF800000#32))) (Ideal.ofBits FTy.f32 0xFF800000#32) (s (ix2 r l)) := by
    unfold rowOf
    pointwise [strike, colF]
  rw [e, pick_at, best_at, bot_lit, col_at]
  show Scalar.select (BitVec.ofBool (decide (((l.val : ℝ) : EReal) = (((first (rowOf s r)).val : ℝ) : EReal))) &&& BitVec.ofBool (decide (⊥ < rowOf s r (first (rowOf s r))))) (⊥ : EReal) (s (ix2 r l)) = _
  have h1 : (((l.val : ℝ) : EReal) = (((first (rowOf s r)).val : ℝ) : EReal)) ↔ l = first (rowOf s r) := by
    rw [EReal.coe_eq_coe_iff, Nat.cast_inj, Fin.ext_iff]
  unfold rest
  by_cases h : l = first (rowOf s r)
  · rw [if_pos h, decide_eq_true (h1.mpr h)]
    by_cases hb : ⊥ < rowOf s r (first (rowOf s r))
    · rw [decide_eq_true hb]; rfl
    · rw [decide_eq_false hb]
      rw [← h] at hb
      exact le_bot_iff.mp (not_lt.mp hb)
  · rw [if_neg h, decide_eq_false (fun hc => h (h1.mp hc))]
    cases decide (⊥ < rowOf s r (first (rowOf s r))) <;> rfl

end Cert.SelectIdeal.Value

end
-- ==== Proof.SePut.lean ====
module

public import proofs.«01_k».proof.Proof.SeRow

@[expose] public section

set_option maxRecDepth 16384

noncomputable section

open Idealize.ShloMosaic Idealize.ShloMosaic.TcCoe Idealize.SL.Sem

/-! The block of choices, entry by entry. -/

namespace Cert.SelectIdeal.Value

open Cert.SelectIdeal Cert.SelectIdeal.Gen Cert.SelectMath

theorem at_col (n l : Fin 128) (a b : EReal) :
    Scalar.select (IntOp.cmpi .eq (BitVec.ofNat 32 l.val) (BitVec.ofNat 32 n.val)) a b = if l = n then a else b := by
  have h : IntOp.cmpi .eq (BitVec.ofNat 32 l.val) (BitVec.ofNat 32 n.val) = if l = n then 1#1 else 0#1 := by
    revert l n; decide +kernel
  rw [h]
  by_cases e : l = n
  · rw [if_pos e, if_pos e]; rfl
  · rw [if_neg e, if_neg e]; rfl

theorem put_at (n : Fin 128) (p : FVec Ideal S8x1 .f32) (o : FVec Ideal S8x128 .f32) (r : Fin 8) (l : Fin 128) :
    put (BitVec.ofNat 32 n.val) p o (ix2 r l) = if l = n then p (ix2 r 0) else o (ix2 r l) := by
  rw [← at_col]
  pointwise [put]

/-- The `k`-th choice of a row of scores, as a float. -/
def choice (s : FVec Ideal S8x128 .f32) (r : Fin 8) (k : Fin 3) : EReal := (((three (rowOf s r) k).val : ℝ) : EReal)

theorem putHead_at (h : Fin 16) (s o : FVec Ideal S8x128 .f32) (r : Fin 8) (l : Fin 128) :
    putHead (BitVec.ofNat 32 (3 * h.val)) (BitVec.ofNat 32 (3 * h.val + 1)) (BitVec.ofNat 32 (3 * h.val + 2)) s o (ix2 r l)
      = if l.val / 3 = h.val then choice s r ⟨l.val % 3, Nat.mod_lt _ (by decide)⟩ else o (ix2 r l) := by
  unfold putHead
  refine (put_at ⟨3 * h.val + 2, by omega⟩ _ _ r l).trans ?_
  rw [put_at ⟨3 * h.val + 1, by omega⟩, put_at ⟨3 * h.val, by omega⟩, pick_at, pick_at, pick_at, strike_at, strike_at]
  unfold choice
  by_cases e : l.val / 3 = h.val
  · rw [if_pos e]
    have h3 : l.val % 3 = 0 ∨ l.val % 3 = 1 ∨ l.val % 3 = 2 := by omega
    rcases h3 with h3 | h3 | h3
    · have ek : (⟨l.val % 3, Nat.mod_lt _ (by decide)⟩ : Fin 3) = 0 := Fin.ext h3
      rw [ek, if_neg (fun hc => by have := congrArg Fin.val hc; dsimp at this; omega), if_neg (fun hc => by have := congrArg Fin.val hc; dsimp at this; omega), if_pos (Fin.ext (by dsimp; omega))]
      rfl
    · have ek : (⟨l.val % 3, Nat.mod_lt _ (by decide)⟩ : Fin 3) = 1 := Fin.ext h3
      rw [ek, if_neg (fun hc => by have := congrArg Fin.val hc; dsimp at this; omega), if_pos (Fin.ext (by dsimp; omega))]
      rfl
    · have ek : (⟨l.val % 3, Nat.mod_lt _ (by decide)⟩ : Fin 3) = 2 := Fin.ext h3
      rw [ek, if_pos (Fin.ext (by dsimp; omega))]
      rfl
  · rw [if_neg e, if_neg (fun hc => by have := congrArg Fin.val hc; dsimp at this; omega), if_neg (fun hc => by have := congrArg Fin.val hc; dsimp at this; omega), if_neg (fun hc => by have := congrArg Fin.val hc; dsimp at this; omega)]

/-- Sixteen cases by a number. -/
theorem cases16 (a : Fin 16 → EReal) (z : EReal) (q : ℕ) :
    (if q = 15 then a 15 else if q = 14 then a 14 else if q = 13 then a 13 else if q = 12 then a 12 else if q = 11 then a 11 else
      if q = 10 then a 10 else if q = 9 then a 9 else if q = 8 then a 8 else if q = 7 then a 7 else if q = 6 then a 6 else
      if q = 5 then a 5 else if q = 4 then a 4 else if q = 3 then a 3 else if q = 2 then a 2 else if q = 1 then a 1 else
      if q = 0 then a 0 else z) = if h : q < 16 then a ⟨q, h⟩ else z := by
  match q with
  | 0 => rfl
  | 1 => rfl
  | 2 => rfl
  | 3 => rfl
  | 4 => rfl
  | 5 => rfl
  | 6 => rfl
  | 7 => rfl
  | 8 => rfl
  | 9 => rfl
  | 10 => rfl
  | 11 => rfl
  | 12 => rfl
  | 13 => rfl
  | 14 => rfl
  | 15 => rfl
  | n + 16 => simp

theorem choices_at (s : Fin 16 → FVec Ideal S8x128 .f32) (r : Fin 8) (l : Fin 128) :
    choices s (ix2 r l) = if h : l.val / 3 < 16 then choice (s ⟨l.val / 3, h⟩) r ⟨l.val % 3, Nat.mod_lt _ (by decide)⟩ else 0 := by
  refine Eq.trans ?_ (cases16 (fun h => choice (s h) r ⟨l.val % 3, Nat.mod_lt _ (by decide)⟩) 0 (l.val / 3))
  have z : start (ix2 r l) = (0 : EReal) := by
    show Ideal.ofBits FTy.f32 0x00000000#32 = 0
    simp [Ideal.ofBits, Ideal.ieee]
  unfold choices
  refine (putHead_at 15 _ _ r l).trans (congrArg (ite _ _) ?_)
  refine (putHead_at 14 _ _ r l).trans (congrArg (ite _ _) ?_)
  refine (putHead_at 13 _ _ r l).trans (congrArg (ite _ _) ?_)
  refine (putHead_at 12 _ _ r l).trans (congrArg (ite _ _) ?_)
  refine (putHead_at 11 _ _ r l).trans (congrArg (ite _ _) ?_)
  refine (putHead_at 10 _ _ r l).trans (congrArg (ite _ _) ?_)
  refine (putHead_at 9 _ _ r l).trans (congrArg (ite _ _) ?_)
  refine (putHead_at 8 _ _ r l).trans (congrArg (ite _ _) ?_)
  refine (putHead_at 7 _ _ r l).trans (congrArg (ite _ _) ?_)
  refine (putHead_at 6 _ _ r l).trans (congrArg (ite _ _) ?_)
  refine (putHead_at 5 _ _ r l).trans (congrArg (ite _ _) ?_)
  refine (putHead_at 4 _ _ r l).trans (congrArg (ite _ _) ?_)
  refine (putHead_at 3 _ _ r l).trans (congrArg (ite _ _) ?_)
  refine (putHead_at 2 _ _ r l).trans (congrArg (ite _ _) ?_)
  refine (putHead_at 1 _ _ r l).trans (congrArg (ite _ _) ?_)
  exact (putHead_at 0 _ _ r l).trans (congrArg (ite _ _) z)

/-- A small whole number converted to an integer. -/
theorem toInt_nat (n : Fin 128) : FloatOps.fptosi (F := Ideal) (φ := .f32) 32 (((n.val : ℝ) : EReal)) = BitVec.ofNat 32 n.val := by
  show BitVec.ofInt 32 (max _ (min _ (if (0 : ℝ) ≤ (n.val : ℝ) then ⌊(n.val : ℝ)⌋ else ⌈(n.val : ℝ)⌉))) = _
  rw [if_pos (Nat.cast_nonneg _), Int.floor_natCast, min_eq_right (by have := n.isLt; norm_num; omega), max_eq_right (by norm_num), BitVec.ofInt_natCast]

theorem block_at (x0 x1 : Vec Ideal S8x2048 .f32) (x2 : Vec Ideal S1x64x16x128 .f32) (r : Fin 8) (l : Fin 128) :
    block x0 x1 x2 (ix3 0 r l)
      = if h : l.val / 3 < 16 then BitVec.ofNat 32 (three (rowOf (scores x0 x1 x2 ⟨l.val / 3, h⟩) r) ⟨l.val % 3, Nat.mod_lt _ (by decide)⟩).val else 0#32 := by
  have e : block x0 x1 x2 (ix3 0 r l) = FloatOps.fptosi (F := Ideal) (φ := .f32) 32 (choices (scores x0 x1 x2) (ix2 r l)) := by
    unfold block
    generalize choices (scores x0 x1 x2) = z
    pointwise []
  rw [e, choices_at]
  by_cases h : l.val / 3 < 16
  · rw [dif_pos h, dif_pos h]
    exact toInt_nat _
  · rw [dif_neg h, dif_neg h]
    have := toInt_nat 0
    simpa using this

end Cert.SelectIdeal.Value

end
-- ==== Proof.SeBlk.lean ====
module

public import proofs.«01_k».proof.Proof.SePut
public import proofs.«01_k».proof.Proof.Gen.Pre_finite_select
public import Idealize.ShloMosaic.Lib.ReduceAll

@[expose] public section

set_option maxRecDepth 16384

noncomputable section

open Idealize.ShloMosaic Idealize.ShloMosaic.TcCoe Idealize.SL.Sem
open Idealize.ShloMosaic.Pipeline (Dat)

/-! The scores of a grid point, of the kernel's arguments. -/

namespace Cert.SelectIdeal.Value

open Cert.SelectIdeal Cert.SelectIdeal.Gen Cert.SelectMath

theorem cols_at (x : Vec Ideal S8x2048 .f32) (h : Fin 16) (r : Fin 8) (l : Fin 128) :
    cols x h (ix2 r l) = x (ix2 r ⟨h.val * 128 + l.val, by omega⟩) := by
  match h with
  | ⟨0, _⟩ => simp only [cols]; pointwise []
  | ⟨1, _⟩ => simp only [cols]; pointwise []
  | ⟨2, _⟩ => simp only [cols]; pointwise []
  | ⟨3, _⟩ => simp only [cols]; pointwise []
  | ⟨4, _⟩ => simp only [cols]; pointwise []
  | ⟨5, _⟩ => simp only [cols]; pointwise []
  | ⟨6, _⟩ => simp only [cols]; pointwise []
  | ⟨7, _⟩ => simp only [cols]; pointwise []
  | ⟨8, _⟩ => simp only [cols]; pointwise []
  | ⟨9, _⟩ => simp only [cols]; pointwise []
  | ⟨10, _⟩ => simp only [cols]; pointwise []
  | ⟨11, _⟩ => simp only [cols]; pointwise []
  | ⟨12, _⟩ => simp only [cols]; pointwise []
  | ⟨13, _⟩ => simp only [cols]; pointwise []
  | ⟨14, _⟩ => simp only [cols]; pointwise []
  | ⟨15, _⟩ => simp only [cols]; pointwise []
  | ⟨n + 16, hn⟩ => exact absurd hn (by omega)

theorem sums_at (x : Vec Ideal S1x64x16x128 .f32) (h : Fin 16) (n : Fin 64) (l : Fin 128) :
    sums x h (ix4 0 n 0 l) = x (ix4 0 n h l) := by
  match h with
  | ⟨0, _⟩ => simp only [sums]; pointwise []
  | ⟨1, _⟩ => simp only [sums]; pointwise []
  | ⟨2, _⟩ => simp only [sums]; pointwise []
  | ⟨3, _⟩ => simp only [sums]; pointwise []
  | ⟨4, _⟩ => simp only [sums]; pointwise []
  | ⟨5, _⟩ => simp only [sums]; pointwise []
  | ⟨6, _⟩ => simp only [sums]; pointwise []
  | ⟨7, _⟩ => simp only [sums]; pointwise []
  | ⟨8, _⟩ => simp only [sums]; pointwise []
  | ⟨9, _⟩ => simp only [sums]; pointwise []
  | ⟨10, _⟩ => simp only [sums]; pointwise []
  | ⟨11, _⟩ => simp only [sums]; pointwise []
  | ⟨12, _⟩ => simp only [sums]; pointwise []
  | ⟨13, _⟩ => simp only [sums]; pointwise []
  | ⟨14, _⟩ => simp only [sums]; pointwise []
  | ⟨15, _⟩ => simp only [sums]; pointwise []
  | ⟨n + 16, hn⟩ => exact absurd hn (by omega)

theorem cached (l : Fin 128) (a b : EReal) :
    Scalar.select (IntOp.cmpi .slt (BitVec.ofNat 32 l.val) 64#32) a b = if l.val < 64 then a else b := by
  have h : IntOp.cmpi .slt (BitVec.ofNat 32 l.val) 64#32 = if l.val < 64 then 1#1 else 0#1 := by
    revert l; decide +kernel
  rw [h]
  by_cases e : l.val < 64
  · rw [if_pos e, if_pos e]; rfl
  · rw [if_neg e, if_neg e]; rfl

/-- A block of scores: only the cached blocks have one. -/
theorem pay_at (kn q : Vec Ideal S8x128 .f32) (ks : Vec Ideal S1x64x1x128 .f32) (r : Fin 8) (l : Fin 128) :
    k0_pay5 (F := Ideal) kn ks q (ix2 r l)
      = if h : l.val < 64 then ∑ x : Fin 128, q (ix2 r x) * (ks (ix4 0 ⟨l.val, h⟩ 0 x) * Ideal.ofBits FTy.f32 0x3B800000#32) else ⊥ := by
  by_cases h : l.val < 64
  · rw [dif_pos h]
    pointwise [k0_pay5]
    exact (cached _ _ _).trans ((if_pos h).trans (Finset.sum_congr rfl fun x _ => by rw [dif_pos h]))
  · rw [dif_neg h]
    pointwise [k0_pay5]
    exact (cached _ _ _).trans ((if_neg h).trans bot_lit)

variable (m : (ℓ : Loc nD τ sig) → Buf (Elt Ideal) ℓ) (c : Dev nD)

/-- The kernel's arguments. -/
abbrev kerQ : FVec Ideal S256x2048 .f32 := m ((c.tc : Thread nD τ).loc main_arg0)
abbrev kerK : FVec Ideal S256x2048 .f32 := m ((c.tc : Thread nD τ).loc main_arg1)
abbrev kerS : FVec Ideal S32x64x16x128 .f32 := m ((c.tc : Thread nD τ).loc main_arg2)

/-- Which block each window shows at a grid point. -/
theorem idx : ∀ t : Fin cfg0.N, win0_0.index t = ![t.val, 0] ∧ win0_1.index t = ![t.val, 0] ∧ win0_2.index t = ![t.val, 0, 0, 0]
    ∧ win0_3.index t = ![t.val, 0, 0] :=
  (by decide +kernel : ∀ t : Fin grid0.N, _)

theorem tlt (t : Fin cfg0.N) : t.val < 32 := lt_of_lt_of_eq t.isLt N_0

/-- The sequence a grid point works on, and its row `i`. -/
def num (t : Fin cfg0.N) : Fin 32 := ⟨t.val, tlt t⟩
def row (t : Fin cfg0.N) (i : Fin 8) : Fin 256 := ⟨t.val * 8 + i.val, by have := tlt t; omega⟩

theorem x0_at (t : Fin cfg0.N) (i : Fin 8) (l : Fin 2048) :
    (show FVec Ideal S8x2048 .f32 from iblk m c 0 t) (ix2 i l) = kerQ m c (ix2 (row t i) l) := by
  unfold row
  blk_point [iblk, V, idx t]

theorem x2_at (t : Fin cfg0.N) (n : Fin 64) (h : Fin 16) (l : Fin 128) :
    (show FVec Ideal S1x64x16x128 .f32 from iblk m c 2 t) (ix4 0 n h l) = kerS m c (ix4 (num t) n h l) := by
  unfold num
  blk_point [iblk, V, idx t]

theorem rows_at (t : Fin cfg0.N) (h : Fin 16) (i : Fin 8) :
    rowOf (scores (iblk m c 0 t) (iblk m c 1 t) (iblk m c 2 t) h) i = scoreRow (kerQ m c) (kerS m c) (num t) i h := by
  funext l
  refine (pay_at _ _ _ i l).trans ?_
  unfold scoreRow
  by_cases hl : l.val < 64
  · rw [dif_pos hl, dif_pos hl]
    refine Finset.sum_congr rfl fun x _ => ?_
    exact Ideal.mul_congr ((cols_at _ h i x).trans (x0_at m c t i _)) (Ideal.mul_congr ((sums_at _ h _ x).trans (x2_at m c t _ h x)) rfl)
  · rw [dif_neg hl, dif_neg hl]

end Cert.SelectIdeal.Value

end
-- ==== Proof.SeRef.lean ====
module

public import proofs.«01_k».proof.Proof.SePick
public import proofs.«01_k».proof.Proof.Gen.SelectReferenceIdeal.Run
public import Idealize.ShloMosaic.Lib.Pointwise

@[expose] public section

set_option maxRecDepth 16384

noncomputable section

open Idealize.ShloMosaic Idealize.ShloMosaic.TcCoe Idealize.SL.Sem

/-! The reference's choices, entry by entry. -/

namespace Cert.SelectReferenceIdeal.Value

open Cert.SelectReferenceIdeal Cert.SelectReferenceIdeal.Gen Cert.SelectMath

/-- A sort's second operand at an index. -/
theorem sort2_snd {s : Shape} {α β : Type} (d : ℕ) (g : α → α → BitVec 1) (x : s.Idx → α) (y : s.Idx → β) (hd : d < s.rank) (j : s.Idx) :
    (Host.sort2 s d (fun l r => g l.1 r.1) x y).2 j
      = y (j.along ⟨d, hd⟩ (sortedFrom (fun k k' => g (x (j.along ⟨d, hd⟩ k)) (x (j.along ⟨d, hd⟩ k')) == 1#1) (j ⟨d, hd⟩))) := by
  unfold Host.sort2
  rw [dif_pos hd]

theorem iota_at (i : S32x8x16x65.Idx) : (if hd : 3 < S32x8x16x65.rank then iotaInDim S32x8x16x65 32 ⟨3, hd⟩ i else 0#32) = BitVec.ofNat 32 (i 3).val :=
  dif_pos (by decide)

theorem iota_along (j : S32x8x16x65.Idx) (a : Fin 65) :
    (fun i : S32x8x16x65.Idx => if hd : 3 < S32x8x16x65.rank then iotaInDim S32x8x16x65 32 ⟨3, hd⟩ i else 0#32) (j.along 3 a) = BitVec.ofNat 32 a.val := by
  refine (iota_at _).trans ?_
  have e : (j.along 3 a) 3 = a := by
    unfold Shape.Idx.along
    exact Function.update_self _ _ _
  rw [e]

/-- The positions of the three greatest entries, of the sort. -/
theorem topK_at (x : FVec Ideal S32x8x16x65 .f32) (n : Fin 32) (i : Fin 8) (h : Fin 16) (k : Fin 3) :
    (Host.topK S32x8x16x3 3 (FloatOps.cmpfTotal (F := Ideal) (φ := .f32) .gt) x sliceFits_S32x8x16x65_S32x8x16x3).2 (ix4 n i h k)
      = BitVec.ofNat 32 (sortedFrom (fun a b : Fin 65 => decide (x (ix4 n i h b) < x (ix4 n i h a))) (k.castLE (by decide))).val := by
  have e : (fun a b : Fin 65 => decide (x (ix4 n i h b) < x (ix4 n i h a)))
      = fun a b : Fin 65 => FloatOps.cmpfTotal (F := Ideal) (φ := .f32) .gt (x (ix4 n i h a)) (x (ix4 n i h b)) == 1#1 := by
    funext a b
    show _ = (BitVec.ofBool (decide (x (ix4 n i h b) < x (ix4 n i h a))) == 1#1)
    cases decide (x (ix4 n i h b) < x (ix4 n i h a)) <;> rfl
  rw [e]
  have ej : ∀ (j : S32x8x16x65.Idx) (hj0 : j 0 = n) (hj1 : j 1 = i) (hj2 : j 2 = h) (a : Fin 65), j.along 3 a = ix4 n i h a := by
    intro j h0 h1 h2 a
    funext b
    match b with
    | 0 => exact h0
    | 1 => exact h1
    | 2 => exact h2
    | 3 => rfl
  have main : ∀ (j : S32x8x16x65.Idx) (h0 : j 0 = n) (h1 : j 1 = i) (h2 : j 2 = h) (h3 : j 3 = (k.castLE (by decide) : Fin 65)),
      (Host.sort2 S32x8x16x65 3 (fun l r : EReal × BitVec 32 => FloatOps.cmpfTotal (F := Ideal) (φ := .f32) .gt l.1 r.1) x
        (fun i => if hd : 3 < S32x8x16x65.rank then iotaInDim S32x8x16x65 32 ⟨3, hd⟩ i else 0#32)).2 j
      = BitVec.ofNat 32 (sortedFrom (fun a b : Fin 65 => FloatOps.cmpfTotal (F := Ideal) (φ := .f32) .gt (x (ix4 n i h a)) (x (ix4 n i h b)) == 1#1) (k.castLE (by decide))).val := by
    intro j h0 h1 h2 h3
    refine (sort2_snd (s := S32x8x16x65) 3 (FloatOps.cmpfTotal (F := Ideal) (φ := .f32) .gt) x _ (by decide) j).trans ?_
    refine (iota_along j (sortedFrom (fun a b : Fin 65 => FloatOps.cmpfTotal (F := Ideal) (φ := .f32) .gt (x (j.along 3 a)) (x (j.along 3 b)) == 1#1) (j 3))).trans ?_
    have ef : (fun a b : Fin 65 => FloatOps.cmpfTotal (F := Ideal) (φ := .f32) .gt (x (j.along 3 a)) (x (j.along 3 b)) == 1#1)
        = fun a b : Fin 65 => FloatOps.cmpfTotal (F := Ideal) (φ := .f32) .gt (x (ix4 n i h a)) (x (ix4 n i h b)) == 1#1 := by
      funext a b
      rw [ej j h0 h1 h2, ej j h0 h1 h2]
    exact congrArg (BitVec.ofNat 32) (congrArg Fin.val (congr (congrArg sortedFrom ef) h3))
  exact main _ (Fin.ext (Nat.zero_add _)) (Fin.ext (Nat.zero_add _)) (Fin.ext (Nat.zero_add _)) (Fin.ext (Nat.zero_add _))

variable (m : (ℓ : Loc nD τ sig) → Buf (Elt Ideal) ℓ) (c : Dev nD)

/-- The reference's arguments. -/
abbrev argQ : FVec Ideal S256x2048 .f32 := m ((c.tc : Thread nD τ).loc main_arg0)
abbrev argK : FVec Ideal S256x2048 .f32 := m ((c.tc : Thread nD τ).loc main_arg1)
abbrev argS : FVec Ideal S32x64x16x128 .f32 := m ((c.tc : Thread nD τ).loc main_arg2)

/-- The block each token lies in. -/
def ownBlock : IVec S8 32 :=
  select (andi (cmpi .ne (signi (addi (broadcastInDim S8 ![] bcast_S_S8 (constantI S_ 32 16384#32)) (iotaInDim S8 32 0))) (broadcastInDim S8 ![] bcast_S_S8 (signi (id (constantI S_ 32 256#32))))) (cmpi .ne (Host.remsi (addi (broadcastInDim S8 ![] bcast_S_S8 (constantI S_ 32 16384#32)) (iotaInDim S8 32 0)) (broadcastInDim S8 ![] bcast_S_S8 (id (constantI S_ 32 256#32)))) (broadcastInDim S8 ![] bcast_S_S8 (constantI S_ 32 0#32)))) (subi (Host.divsi (addi (broadcastInDim S8 ![] bcast_S_S8 (constantI S_ 32 16384#32)) (iotaInDim S8 32 0)) (broadcastInDim S8 ![] bcast_S_S8 (id (constantI S_ 32 256#32)))) (broadcastInDim S8 ![] bcast_S_S8 (constantI S_ 32 1#32))) (Host.divsi (addi (broadcastInDim S8 ![] bcast_S_S8 (constantI S_ 32 16384#32)) (iotaInDim S8 32 0)) (broadcastInDim S8 ![] bcast_S_S8 (id (constantI S_ 32 256#32))))

/-- Which blocks end before each token's block. -/
def past : IVec S1x8x1x65 1 :=
  cmpi .slt (broadcastInDim S1x8x1x65 ![0, 1, 2, 3] bcast_S1x1x1x65_S1x8x1x65_0_1_2_3 (broadcastInDim S1x1x1x65 ![3] bcast_S65_S1x1x1x65_3 (iotaInDim S65 32 0))) (broadcastInDim S1x8x1x65 ![0, 1, 2, 3] bcast_S1x8x1x1_S1x8x1x65_0_1_2_3 (broadcastInDim S1x8x1x1 ![1] bcast_S8_S1x8x1x1_1 ownBlock))

/-- The mean keys of all blocks. -/
def means (K : FVec Ideal S256x2048 .f32) (S : FVec Ideal S32x64x16x128 .f32) : FVec Ideal S32x65x16x128 .f32 :=
  Host.divf (concatenate S32x65x16x128 1 [⟨S32x64x16x128, S⟩, ⟨S32x1x16x128, (broadcastInDim S32x1x16x128 ![0, 2, 3] bcast_S32x16x128_S32x1x16x128_0_2_3 (Host.reduceAdd (shapeCast _ K shapeCasts_S256x2048_S32x8x16x128) (constant S_ .f32 0x00000000#32) reducesTo_S32x8x16x128_S32x16x128_d1 h_S_))⟩] concatenates_S32x64x16x128_S32x1x16x128_S32x65x16x128_d1) (broadcastInDim S32x65x16x128 ![] bcast_S_S32x65x16x128 (constant S_ .f32 0x43800000#32))

/-- The scores. -/
def refScores (Q K : FVec Ideal S256x2048 .f32) (S : FVec Ideal S32x64x16x128 .f32) : FVec Ideal S32x8x16x65 .f32 :=
  select (broadcastInDim S32x8x16x65 ![0, 1, 2, 3] bcast_S1x8x1x65_S32x8x16x65_0_1_2_3 past) (transpose S32x8x16x65 [0, 3, 1, 2] (Host.dotGeneral dot_S32x65x16x128_S32x8x16x128_S32x16x65x8_3_3_1_1_02_02 none (means K S) (shapeCast _ Q shapeCasts_S256x2048_S32x8x16x128)) transposes_S32x16x65x8_S32x8x16x65_0_3_1_2) (broadcastInDim S32x8x16x65 ![] bcast_S_S32x8x16x65 (id (constant S_ .f32 0xFF800000#32)))

/-- The choices, laid out as the kernel lays them out. -/
def result (Q K : FVec Ideal S256x2048 .f32) (S : FVec Ideal S32x64x16x128 .f32) : IVec S32x8x128 32 :=
  pad S32x8x128 ![0, 0, 0] ![0, 0, 80] ![0, 0, 0] (shapeCast _ ((Host.topK S32x8x16x3 3 (FloatOps.cmpfTotal (F := Ideal) (φ := .f32) .gt) (refScores Q K S) sliceFits_S32x8x16x65_S32x8x16x3).2) shapeCasts_S32x8x16x3_S32x8x48) (id (constantI S_ 32 0#32)) pads_S32x8x48_S32x8x128_000_000_0800 h_S_

theorem past_at (i : Fin 8) (j : Fin 65) : past (ix4 0 i 0 j) = if j.val < 64 then 1#1 else 0#1 := by
  revert i j; decide +kernel

theorem means_at (K : FVec Ideal S256x2048 .f32) (S : FVec Ideal S32x64x16x128 .f32) (n : Fin 32) (j : Fin 65) (hj : j.val < 64) (h : Fin 16) (x : Fin 128) :
    means K S (ix4 n j h x) = Ideal.div (S (ix4 n ⟨j.val, hj⟩ h x)) (Ideal.ofBits FTy.f32 0x43800000#32) := by
  unfold means
  generalize (broadcastInDim S32x1x16x128 ![0, 2, 3] bcast_S32x16x128_S32x1x16x128_0_2_3 (Host.reduceAdd (shapeCast _ K shapeCasts_S256x2048_S32x8x16x128) (constant S_ .f32 0x00000000#32) reducesTo_S32x8x16x128_S32x16x128_d1 h_S_)) = own
  pointwise []
  rw [dif_pos hj]

theorem refScores_at (Q K : FVec Ideal S256x2048 .f32) (S : FVec Ideal S32x64x16x128 .f32) (n : Fin 32) (i : Fin 8) (h : Fin 16) (j : Fin 65) :
    refScores Q K S (ix4 n i h j) = Scalar.select (past (ix4 0 i 0 j))
      (∑ x : Fin 128, means K S (ix4 n j h x) * Q (ix2 ⟨n.val * 8 + i.val, by omega⟩ ⟨h.val * 128 + x.val, by omega⟩)) (Ideal.ofBits FTy.f32 0xFF800000#32) := by
  unfold refScores
  generalize past = p
  generalize means K S = M
  pointwise []
  rfl

theorem result_at (Q K : FVec Ideal S256x2048 .f32) (S : FVec Ideal S32x64x16x128 .f32) (n : Fin 32) (i : Fin 8) (l : Fin 128) :
    result Q K S (ix3 n i l) = if hl : l.val / 3 < 16 then
      (Host.topK S32x8x16x3 3 (FloatOps.cmpfTotal (F := Ideal) (φ := .f32) .gt) (refScores Q K S) sliceFits_S32x8x16x65_S32x8x16x3).2 (ix4 n i ⟨l.val / 3, hl⟩ ⟨l.val % 3, Nat.mod_lt _ (by decide)⟩)
      else 0#32 := by
  unfold result
  generalize (Host.topK S32x8x16x3 3 (FloatOps.cmpfTotal (F := Ideal) (φ := .f32) .gt) (refScores Q K S) sliceFits_S32x8x16x65_S32x8x16x3).2 = T
  pointwise []
  by_cases hl : l.val / 3 < 16
  · rw [dif_pos hl, dif_pos (by omega)]
  · rw [dif_neg hl, dif_neg (by omega)]
    rfl

theorem select_true (a b : EReal) : Scalar.select 1#1 a b = a := rfl

/-- A row of scores is the kernel's, cut to the blocks there are. -/
theorem refScores_eq (Q K : FVec Ideal S256x2048 .f32) (S : FVec Ideal S32x64x16x128 .f32) (hS : ∀ y, ∃ r : ℝ, S y = (r : EReal))
    (n : Fin 32) (i : Fin 8) (h : Fin 16) (j : Fin 65) :
    refScores Q K S (ix4 n i h j) = scoreRow Q S n i h (wide j) := by
  refine (refScores_at Q K S n i h j).trans ?_
  rw [past_at]
  unfold scoreRow
  by_cases hj : j.val < 64
  · rw [if_pos hj]
    refine Eq.trans ?_ (dif_pos (show (wide j).val < 64 from hj)).symm
    refine (select_true _ _).trans (Finset.sum_congr rfl fun x _ => ?_)
    refine (Ideal.mul_congr (means_at K S n j hj h x) rfl).trans ?_
    exact mean_eq _ _ (hS _)
  · rw [if_neg hj]
    refine Eq.trans ?_ (dif_neg (show ¬ (wide j).val < 64 from hj)).symm
    exact (show Scalar.select 0#1 _ _ = Ideal.ofBits FTy.f32 0xFF800000#32 from rfl).trans (by simp [Ideal.ofBits, Ideal.ieee])

/-- The reference's choices are the three greatest scores' columns. -/
theorem result_eq (Q K : FVec Ideal S256x2048 .f32) (S : FVec Ideal S32x64x16x128 .f32) (hQ : ∀ y, ∃ r : ℝ, Q y = (r : EReal))
    (hS : ∀ y, ∃ r : ℝ, S y = (r : EReal)) (n : Fin 32) (i : Fin 8) (l : Fin 128) :
    result Q K S (ix3 n i l) = if hl : l.val / 3 < 16 then BitVec.ofNat 32 (three (scoreRow Q S n i ⟨l.val / 3, hl⟩) ⟨l.val % 3, Nat.mod_lt _ (by decide)⟩).val else 0#32 := by
  refine (result_at Q K S n i l).trans ?_
  by_cases hl : l.val / 3 < 16
  · rw [dif_pos hl, dif_pos hl]
    refine (topK_at _ n i _ _).trans ?_
    have hs := sorted_three (scoreRow Q S n i ⟨l.val / 3, hl⟩) (fun j : Fin 65 => refScores Q K S (ix4 n i ⟨l.val / 3, hl⟩ j))
      (fun j hj => scoreRow_real Q S hQ hS n i _ j hj) (fun j hj => scoreRow_bot Q S n i _ j hj) (fun j => refScores_eq Q K S hS n i _ j)
      ⟨l.val % 3, Nat.mod_lt _ (by decide)⟩
    exact congrArg (fun a : Fin 65 => BitVec.ofNat 32 a.val) hs
  · rw [dif_neg hl, dif_neg hl]

end Cert.SelectReferenceIdeal.Value

end
-- ==== Proof.SeClaims.lean ====
module

public import proofs.«01_k».proof.Defs
public import proofs.«01_k».proof.Proof.SeStep
public import proofs.«01_k».proof.Proof.SeBlk
public import proofs.«01_k».proof.Proof.SeRef
public import Idealize.ShloMosaic.Lib.Claim

@[expose] public section

set_option maxRecDepth 16384

noncomputable section

open Idealize.ShloMosaic Idealize.ShloMosaic.TcCoe Idealize.SL.Sem
open Idealize.ShloMosaic.Pipeline (Dat)

/-! Both programs end with the same choices. -/

namespace Cert.SelectIdeal.Value

open Cert.SelectIdeal Cert.SelectIdeal.Gen Cert.SelectMath

theorem real_of_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  rw [top_lit] at h
  replace h : Ideal.cmp .olt (max x (-x)) ⊤ = 1#1 := h
  induction x with
  | coe r => exact ⟨r, rfl⟩
  | bot => exact absurd h (by simp [Ideal.cmp])
  | top => exact absurd h (by simp [Ideal.cmp])

/-- Under the precondition the queries and the key sums are real numbers. -/
theorem pre_real (Q K : FVec Ideal S256x2048 .f32) (S : FVec Ideal S32x64x16x128 .f32)
    (h : Cert.Pre_finite_select.fn (F := Ideal) Q K S = fun _ => 1#1) :
    (∀ y, ∃ r : ℝ, Q y = (r : EReal)) ∧ (∀ y, ∃ r : ℝ, S y = (r : EReal)) := by
  have h' := congrFun h ix0
  unfold Cert.Pre_finite_select.fn at h'
  obtain ⟨h1, h2⟩ := IntOp.andi_eq_one.1 h'
  exact ⟨fun y => real_of_lt _ (Host.reduce_andi_all _ _ _ _ _ h1 y), fun y => real_of_lt _ (Host.reduce_andi_all _ _ _ _ _ h2 y)⟩

variable (m : (ℓ : Loc nD τ sig) → Buf (Elt Ideal) ℓ) (c : Dev nD)
  (hp : Cert.Pre_finite_select.fn (F := Ideal) (kerQ m c) (kerK m c) (kerS m c) = fun _ => 1#1)

include hp

/-- One entry of a point's block. -/
theorem point (t : Fin cfg0.N) (i : Fin 8) (l : Fin 128) :
    out0_3 (F := Ideal) (iblk m c 0 t) (iblk m c 1 t) (iblk m c 2 t) (ix3 0 i l)
      = Cert.SelectReferenceIdeal.Value.result (kerQ m c) (kerK m c) (kerS m c) (ix3 (num t) i l) := by
  obtain ⟨hQ, hS⟩ := pre_real _ _ _ hp
  refine (congrFun (step _ _ _) _).trans ((block_at _ _ _ i l).trans ?_)
  refine Eq.trans ?_ (Cert.SelectReferenceIdeal.Value.result_eq (kerQ m c) (kerK m c) (kerS m c) hQ hS (num t) i l).symm
  by_cases hl : l.val / 3 < 16
  · rw [dif_pos hl, dif_pos hl, rows_at]
  · rw [dif_neg hl, dif_neg hl]

theorem final : (dats m 0 c).arrAt 3 cfg0.N = Cert.SelectReferenceIdeal.Value.result (kerQ m c) (kerK m c) (kerS m c) := by
  refine (dats m 0 c).arrAt_eq_of_covers 3 _ (by decide +kernel) fun t _ y => ?_
  have e : ((cfg0.win 3).blk t).view.emb y = ix3 (num t) (y 1) (y 2) := by unfold num; blk_ext [idx t]
  have ey : y = ix3 0 (y 1) (y 2) := by
    funext a
    match a with
    | 0 => exact Subsingleton.elim (α := Fin 1) _ _
    | 1 => rfl
    | 2 => rfl
  blk_simp
  rw [after0_3, e]
  exact (congrArg _ ey).trans (point m c hp t (y 1) (y 2))

end Cert.SelectIdeal.Value

namespace Cert.Proof

theorem sample_select : Cert.algebraic_SelectIdeal_SelectReferenceIdeal_pre_finite_select := by
  intro m g m' g' hpre hagree
  refine ⟨fun c => Cert.SelectReferenceIdeal.Value.result (Cert.SelectIdeal.Value.kerQ m c) (Cert.SelectIdeal.Value.kerK m c) (Cert.SelectIdeal.Value.kerS m c), ?_, ?_⟩
  · exact (θ_run Cert.SelectIdeal.defs _ _).mono (fun r h c => ⟨(h c).1.trans (Cert.SelectIdeal.Value.final m c (hpre c)), (h c).2⟩) (Cert.SelectIdeal.Value.run_blocks m g)
  · refine (θ_run Cert.SelectReferenceIdeal.defs _ _).mono (fun r h c => ⟨(h c).1.trans ?_, (h c).2⟩) (Cert.SelectReferenceIdeal.Value.run m' g')
    obtain ⟨e0, e1, e2⟩ := hagree c
    have q0 : Cert.SelectReferenceIdeal.Value.argQ m' c = Cert.SelectIdeal.Value.kerQ m c := e0
    have q1 : Cert.SelectReferenceIdeal.Value.argK m' c = Cert.SelectIdeal.Value.kerK m c := e1
    have q2 : Cert.SelectReferenceIdeal.Value.argS m' c = Cert.SelectIdeal.Value.kerS m c := e2
    have q : Cert.SelectReferenceIdeal.Value.result (Cert.SelectReferenceIdeal.Value.argQ m' c) (Cert.SelectReferenceIdeal.Value.argK m' c) (Cert.SelectReferenceIdeal.Value.argS m' c)
        = Cert.SelectReferenceIdeal.Value.result (Cert.SelectIdeal.Value.kerQ m c) (Cert.SelectIdeal.Value.kerK m c) (Cert.SelectIdeal.Value.kerS m c) := by
      rw [q0, q1, q2]
    exact q

end Cert.Proof

end
-- ==== Proof.FfnSampleStep.lean ====
module

public import proofs.«01_k».proof.Proof.Gen.FfnSampleIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnSampleIdeal.Value

open Cert.FfnSampleIdeal Cert.FfnSampleIdeal.Gen

variable (m : (ℓ : Loc nD τ sig) → Buf (Elt Ideal) ℓ)

/-- The first point of a row block leaves the first tile's product in the accumulator. -/
theorem stepA_acc (c : Dev nD) (t : Fin cfg0.N) (h0 : t.val % 11 = 0) (h1 : ¬t.val % 11 = 10) :
    (outsAt0 m c t.val t.isLt).1
      = k0_pay3 (F := Ideal) (k0_pay1 (iblk m c 0 t) (iblk m c 1 t)) (iblk m c 2 t) (iblk m c 3 t) (k0_pay2 (F := Ideal)) (iblk m c 4 t) := by
  rw [outsAt0_A m c t h0 h1]; frame_out

/-- The first point of a row block leaves the normalised rows in the scratch. -/
theorem stepA_xn (c : Dev nD) (t : Fin cfg0.N) (h0 : t.val % 11 = 0) (h1 : ¬t.val % 11 = 10) :
    (outsAt0 m c t.val t.isLt).2.2 = k0_pay1 (F := Ideal) (iblk m c 0 t) (iblk m c 1 t) := by
  rw [outsAt0_A m c t h0 h1]; frame_out

/-- A later point adds its tile's product to the accumulator. -/
theorem stepB_acc (c : Dev nD) (t : Fin cfg0.N) (h0 : ¬t.val % 11 = 0) (h1 : ¬t.val % 11 = 10) :
    (outsAt0 m c t.val t.isLt).1
      = k0_pay3 (F := Ideal) (outsAt0 m c (t.val - 1) (Nat.lt_of_le_of_lt (Nat.sub_le _ _) t.isLt)).2.2 (iblk m c 2 t) (iblk m c 3 t)
          (outsAt0 m c (t.val - 1) (Nat.lt_of_le_of_lt (Nat.sub_le _ _) t.isLt)).1 (iblk m c 4 t) := by
  rw [outsAt0_B m c t h0 h1]; frame_out
  erw [(Memref.isWhole_whole cc0_scratch0).read_unread]

/-- A later point leaves the scratch as it was. -/
theorem stepB_xn (c : Dev nD) (t : Fin cfg0.N) (h0 : ¬t.val % 11 = 0) (h1 : ¬t.val % 11 = 10) :
    (outsAt0 m c t.val t.isLt).2.2 = (outsAt0 m c (t.val - 1) (Nat.lt_of_le_of_lt (Nat.sub_le _ _) t.isLt)).2.2 := by
  rw [outsAt0_B m c t h0 h1]; rfl

/-- The last point of a row block adds its tile and then the rows. -/
theorem stepC_acc (c : Dev nD) (t : Fin cfg0.N) (h0 : ¬t.val % 11 = 0) (h1 : t.val % 11 = 10) :
    (outsAt0 m c t.val t.isLt).1
      = k0_pay4 (F := Ideal) (iblk m c 0 t) (k0_pay3 (F := Ideal) (outsAt0 m c (t.val - 1) (Nat.lt_of_le_of_lt (Nat.sub_le _ _) t.isLt)).2.2 (iblk m c 2 t) (iblk m c 3 t)
          (outsAt0 m c (t.val - 1) (Nat.lt_of_le_of_lt (Nat.sub_le _ _) t.isLt)).1 (iblk m c 4 t)) := by
  rw [outsAt0_C m c t h0 h1]; frame_out
  erw [(Memref.isWhole_whole cc0_scratch0).read_unread]

/-- The last point of a row block writes the normalised rows of the sum. -/
theorem stepC_u (c : Dev nD) (t : Fin cfg0.N) (h0 : ¬t.val % 11 = 0) (h1 : t.val % 11 = 10) :
    (outsAt0 m c t.val t.isLt).2.1
      = k0_pay5 (F := Ideal) (iblk m c 0 t) (k0_pay3 (F := Ideal) (outsAt0 m c (t.val - 1) (Nat.lt_of_le_of_lt (Nat.sub_le _ _) t.isLt)).2.2 (iblk m c 2 t) (iblk m c 3 t)
          (outsAt0 m c (t.val - 1) (Nat.lt_of_le_of_lt (Nat.sub_le _ _) t.isLt)).1 (iblk m c 4 t)) (iblk m c 5 t) := by
  rw [outsAt0_C m c t h0 h1]; frame_out
  erw [(Memref.isWhole_whole cc0_scratch0).read_unread]

end Cert.FfnSampleIdeal.Value

end
-- ==== Proof.FfnSampleRef.lean ====
module

public import proofs.«01_k».proof.Proof.Gen.FfnSampleReferenceIdeal.Run
public import Idealize.ShloMosaic.Lib.Pipeline.ValueKit

@[expose] public section

set_option maxRecDepth 16384

noncomputable section

open Idealize.ShloMosaic Idealize.ShloMosaic.TcCoe Idealize.SL.Sem

namespace Cert.FfnSampleReferenceIdeal.Value

open Cert.FfnSampleReferenceIdeal Cert.FfnSampleReferenceIdeal.Gen

/-- Rows divided by their root mean square and scaled, as the reference computes it. -/
def NORM (x : FVec Ideal S256x2048 .f32) (g : FVec Ideal S2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 g))

/-- The gated middle activations of the normalised rows `n`. -/
def MID (n : FVec Ideal S256x2048 .f32) (x2 x3 : FVec Ideal S2048x5632 .f32) : FVec Ideal S256x5632 .f32 :=
  mulf (mulf (Host.dotGeneral dot_S256x2048_S2048x5632_S256x5632_1_0_0_1_n_n none n x2) (Host.divf (broadcastInDim S256x5632 ![] bcast_S_S256x5632 (constant S_ .f32 0x3F800000#32)) (addf (broadcastInDim S256x5632 ![] bcast_S_S256x5632 (constant S_ .f32 0x3F800000#32)) (Host.exp (Host.negf (Host.dotGeneral dot_S256x2048_S2048x5632_S256x5632_1_0_0_1_n_n none n x2)))))) (Host.dotGeneral dot_S256x2048_S2048x5632_S256x5632_1_0_0_1_n_n none n x3)

/-- The rows plus half of the middle activations' projection. -/
def RES (x : FVec Ideal S256x2048 .f32) (d : FVec Ideal S256x5632 .f32) (x4 : FVec Ideal S5632x2048 .f32) : FVec Ideal S256x2048 .f32 :=
  addf x (mulf (broadcastInDim S256x2048 ![] bcast_S_S256x2048 (constant S_ .f32 0x3F000000#32)) (Host.dotGeneral dot_S256x5632_S5632x2048_S256x2048_1_0_0_1_n_n none d x4))

/-- The reference's first result. -/
def H (x0 : FVec Ideal S256x2048 .f32) (x1 : FVec Ideal S2048 .f32) (x2 x3 : FVec Ideal S2048x5632 .f32) (x4 : FVec Ideal S5632x2048 .f32) :
    FVec Ideal S256x2048 .f32 := RES x0 (MID (NORM x0 x1) x2 x3) x4

/-- The reference's second result. -/
def U (x0 : FVec Ideal S256x2048 .f32) (x1 : FVec Ideal S2048 .f32) (x2 x3 : FVec Ideal S2048x5632 .f32) (x4 : FVec Ideal S5632x2048 .f32)
    (x5 : FVec Ideal S2048 .f32) : FVec Ideal S256x2048 .bf16 := truncf .bf16 (NORM (H x0 x1 x2 x3 x4) x5) bitsLt_bf16_f32

variable (m : (ℓ : Loc nD τ sig) → Buf (Elt Ideal) ℓ)

/-- The run's second result, in these words. -/
theorem res_eq (c : Dev nD) : res_main_v34 (F := Ideal) m c = U (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

end Cert.FfnSampleReferenceIdeal.Value

end
-- ==== Proof.FfnSampleAcc.lean ====
module

public import proofs.«01_k».proof.Proof.FfnSampleStep
public import proofs.«01_k».proof.Proof.FfnSampleRef

@[expose] public section

set_option maxRecDepth 16384

noncomputable section

open Idealize.ShloMosaic Idealize.ShloMosaic.TcCoe Idealize.SL.Sem
open Idealize.ShloMosaic.Pipeline (Dat)

namespace Cert.FfnSampleIdeal.Value

open Cert.FfnSampleIdeal Cert.FfnSampleIdeal.Gen
open Cert.FfnSampleReferenceIdeal.Value (NORM MID RES H U)

variable (m : (ℓ : Loc nD τ sig) → Buf (Elt Ideal) ℓ)

/-- Which block each window shows at a grid point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] ∧ win0_7.index t = ![t.val / 11, 0] :=
  (by decide +kernel : ∀ t : Fin grid0.N, _)

/-- The reference's normalised rows, of the kernel's arguments. -/
def XN (c : Dev nD) := NORM (m ((c : Thread nD τ).loc main_arg0)) (m ((c : Thread nD τ).loc main_arg1))

/-- The reference's middle activations, of the kernel's arguments. -/
def XM (c : Dev nD) := MID (XN m c) (m ((c : Thread nD τ).loc main_arg2)) (m ((c : Thread nD τ).loc main_arg3))

theorem tlt (t : Fin cfg0.N) : t.val < 11 := lt_of_lt_of_eq t.isLt N_0

/-- Row `r` of the row block a grid point works on. -/
def row (t : Fin cfg0.N) (r : Fin 256) : Fin 256 := ⟨t.val / 11 * 256 + r.val, by have := tlt t; omega⟩

/-- Column `k` of tile `s` of the middle activations. -/
def col (s : Fin 11) (k : Fin 512) : Fin 5632 := ⟨s.val * 512 + k.val, by omega⟩

/-- Tile `s`'s share of the projection at row `R`, column `l`. -/
def part (c : Dev nD) (s : Fin 11) (R : Fin 256) (l : Fin 2048) : EReal :=
  ∑ k : Fin 512, (show EReal from XM m c (ix2 R (col s k))) * (show EReal from m ((c : Thread nD τ).loc main_arg4) (ix2 (col s k) l))

/-- The tile a grid point works on. -/
def tile (t : Fin cfg0.N) : Fin 11 := ⟨t.val % 11, Nat.mod_lt _ (by decide)⟩

theorem pay1_eq (c : Dev nD) (t : Fin cfg0.N) (r : Fin 256) (l : Fin 2048) :
    k0_pay1 (F := Ideal) (iblk m c 0 t) (iblk m c 1 t) (ix2 r l) = XN m c (ix2 (row t r) l) := by
  pointwise [k0_pay1, XN, NORM, row]
  blk_point [iblk, V, idx t]

theorem pay3_eq (c : Dev nD) (t : Fin cfg0.N) (xn : FVec Ideal S256x2048 .bf16) (acc : FVec Ideal S256x2048 .f32) (r : Fin 256) (l : Fin 2048)
    (hxn : ∀ l, xn (ix2 r l) = XN m c (ix2 (row t r) l)) :
    k0_pay3 (F := Ideal) xn (iblk m c 2 t) (iblk m c 3 t) acc (iblk m c 4 t) (ix2 r l)
      = acc (ix2 r l) + part m c (tile t) (row t r) l := by
  unfold part
  pointwise [k0_pay3, XM, MID, hxn, Ideal.logistic]
  unfold col tile
  blk_point [iblk, V, idx t]

theorem pay2_eq (r : Fin 256) (l : Fin 2048) : k0_pay2 (F := Ideal) (ix2 r l) = 0 := by
  pointwise [k0_pay2]

end Cert.FfnSampleIdeal.Value

end
-- ==== Proof.FfnSampleValue.lean ====
module

public import proofs.«01_k».proof.Proof.FfnSampleAcc

@[expose] public section

set_option maxRecDepth 16384

noncomputable section

open Idealize.ShloMosaic Idealize.ShloMosaic.TcCoe Idealize.SL.Sem
open Idealize.ShloMosaic.Pipeline (Dat)

namespace Cert.FfnSampleIdeal.Value

open Cert.FfnSampleIdeal Cert.FfnSampleIdeal.Gen
open Cert.FfnSampleReferenceIdeal.Value (NORM MID RES H U)

variable (m : (ℓ : Loc nD τ sig) → Buf (Elt Ideal) ℓ)

/-- The projection summed over the first `k` tiles. -/
def upto (c : Dev nD) (R : Fin 256) (l : Fin 2048) (k : ℕ) : EReal :=
  ∑ s ∈ Finset.range k, if h : s < 11 then part m c ⟨s, h⟩ R l else 0

theorem upto_succ (c : Dev nD) (R : Fin 256) (l : Fin 2048) (k : ℕ) (h : k < 11) :
    upto m c R l (k + 1) = upto m c R l k + part m c ⟨k, h⟩ R l := by
  unfold upto; rw [Finset.sum_range_succ, dif_pos h]

/-- All eleven tiles make the whole projection. -/
theorem upto_all (c : Dev nD) (R : Fin 256) (l : Fin 2048) :
    upto m c R l 11 = ∑ k : Fin 5632, (show EReal from XM m c (ix2 R k)) * (show EReal from m ((c : Thread nD τ).loc main_arg4) (ix2 k l)) := by
  unfold upto
  rw [Finset.sum_range]
  rw [Fin.sum_univ_tiles 11 512 rfl (fun k : Fin 5632 => (show EReal from XM m c (ix2 R k)) * (show EReal from m ((c : Thread nD τ).loc main_arg4) (ix2 k l)))]
  exact Finset.sum_congr rfl fun s _ => by rw [dif_pos s.isLt]; rfl

/-- Between the first and the last point of a row block: the scratch holds the normalised rows, and the accumulator the sum of the tiles so far. -/
theorem inv (c : Dev nD) : ∀ (n : ℕ) (hn : n < cfg0.N), ¬ n % 11 = 10 →
    (∀ (r : Fin 256) (l : Fin 2048), (outsAt0 m c n hn).2.2 (ix2 r l) = XN m c (ix2 (row ⟨n, hn⟩ r) l))
    ∧ (∀ (r : Fin 256) (l : Fin 2048), (outsAt0 m c n hn).1 (ix2 r l) = upto m c (row ⟨n, hn⟩ r) l (n % 11 + 1)) := by
  intro n
  induction n with
  | zero =>
    intro hn h1
    have h0 : (⟨0, hn⟩ : Fin cfg0.N).val % 11 = 0 := rfl
    refine ⟨fun r l => ?_, fun r l => ?_⟩
    · rw [show outsAt0 m c 0 hn = _ from rfl, stepA_xn m c ⟨0, hn⟩ h0 h1]; exact pay1_eq m c ⟨0, hn⟩ r l
    · have e := stepA_acc m c ⟨0, hn⟩ h0 h1
      rw [e, pay3_eq m c ⟨0, hn⟩ _ _ r l (fun l => pay1_eq m c ⟨0, hn⟩ r l), pay2_eq]
      rw [upto_succ m c _ l (0 % 11) (by decide)]
      unfold upto; rfl
  | succ n ih =>
    intro hn h1
    by_cases h0 : (n + 1) % 11 = 0
    · refine ⟨fun r l => ?_, fun r l => ?_⟩
      · rw [stepA_xn m c ⟨n + 1, hn⟩ h0 h1]; exact pay1_eq m c ⟨n + 1, hn⟩ r l
      · have e := stepA_acc m c ⟨n + 1, hn⟩ h0 h1
        rw [e, pay3_eq m c ⟨n + 1, hn⟩ _ _ r l (fun l => pay1_eq m c ⟨n + 1, hn⟩ r l), pay2_eq]
        rw [upto_succ m c _ l ((n + 1) % 11) (by omega)]
        have ht : tile ⟨n + 1, hn⟩ = ⟨(n + 1) % 11, by omega⟩ := rfl
        rw [ht]
        congr 1
        rw [h0]; unfold upto; rfl
    · have hp := ih (by omega) (by omega)
      have hrow : ∀ r, row ⟨n, by omega⟩ r = row ⟨n + 1, hn⟩ r := fun r => Fin.ext (by
        show n / 11 * 256 + r.val = (n + 1) / 11 * 256 + r.val
        omega)
      refine ⟨fun r l => ?_, fun r l => ?_⟩
      · rw [stepB_xn m c ⟨n + 1, hn⟩ h0 h1, ← hrow]; exact hp.1 r l
      · have e := stepB_acc m c ⟨n + 1, hn⟩ h0 h1
        rw [e, pay3_eq m c ⟨n + 1, hn⟩ _ _ r l (fun l => by rw [← hrow]; exact hp.1 r l)]
        rw [upto_succ m c _ l ((n + 1) % 11) (by omega)]
        have ht : tile ⟨n + 1, hn⟩ = ⟨(n + 1) % 11, by omega⟩ := rfl
        rw [ht]
        congr 1
        rw [show (n + 1) % 11 = n % 11 + 1 by omega, ← hrow]
        exact hp.2 r l

/-- What the last point of a row block has in the accumulator before it adds the rows. -/
theorem last (c : Dev nD) (t : Fin cfg0.N) (h1 : t.val % 11 = 10) (r : Fin 256) (l : Fin 2048) :
    k0_pay3 (F := Ideal) (outsAt0 m c (t.val - 1) (Nat.lt_of_le_of_lt (Nat.sub_le _ _) t.isLt)).2.2 (iblk m c 2 t) (iblk m c 3 t)
          (outsAt0 m c (t.val - 1) (Nat.lt_of_le_of_lt (Nat.sub_le _ _) t.isLt)).1 (iblk m c 4 t) (ix2 r l)
      = ∑ k : Fin 5632, (show EReal from XM m c (ix2 (row t r) k)) * (show EReal from m ((c : Thread nD τ).loc main_arg4) (ix2 k l)) := by
  have hp := inv m c (t.val - 1) (Nat.lt_of_le_of_lt (Nat.sub_le _ _) t.isLt) (by omega)
  have hrow : ∀ r, row ⟨t.val - 1, Nat.lt_of_le_of_lt (Nat.sub_le _ _) t.isLt⟩ r = row t r := fun r => Fin.ext (by
        show (t.val - 1) / 11 * 256 + r.val = t.val / 11 * 256 + r.val
        omega)
  rw [pay3_eq m c t _ _ r l (fun l => by rw [← hrow]; exact hp.1 r l), hp.2 r l, hrow, ← upto_all,
    upto_succ m c _ l 10 (by decide), show (t.val - 1) % 11 + 1 = 10 by omega,
    show tile t = ⟨10, by decide⟩ from Fin.ext h1]

variable (c : Dev nD)

/-- The reference's results, of the kernel's arguments. -/
abbrev HH := H (m ((c : Thread nD τ).loc main_arg0)) (m ((c : Thread nD τ).loc main_arg1)) (m ((c : Thread nD τ).loc main_arg2)) (m ((c : Thread nD τ).loc main_arg3)) (m ((c : Thread nD τ).loc main_arg4))
abbrev UU := U (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The last point's first result is the reference's, row for row. -/
theorem pay4_eq (t : Fin cfg0.N) (acc : FVec Ideal S256x2048 .f32) (r : Fin 256) (l : Fin 2048)
    (hacc : acc (ix2 r l) = ∑ k : Fin 5632, (show EReal from XM m c (ix2 (row t r) k)) * (show EReal from m ((c : Thread nD τ).loc main_arg4) (ix2 k l))) :
    k0_pay4 (F := Ideal) (iblk m c 0 t) acc (ix2 r l) = HH m c (ix2 (row t r) l) := by
  unfold HH H XM XN at *
  generalize MID (NORM (m ((c : Thread nD τ).loc main_arg0)) (m ((c : Thread nD τ).loc main_arg1))) (m ((c : Thread nD τ).loc main_arg2)) (m ((c : Thread nD τ).loc main_arg3)) = D at *
  pointwise [k0_pay4, RES, hacc]
  unfold row
  blk_point [iblk, V, idx t]

/-- The last point's second result is the reference's, row for row. -/
theorem pay5_eq (t : Fin cfg0.N) (acc : FVec Ideal S256x2048 .f32) (r : Fin 256) (l : Fin 2048)
    (h4 : ∀ l, k0_pay4 (F := Ideal) (iblk m c 0 t) acc (ix2 r l) = HH m c (ix2 (row t r) l)) :
    k0_pay5 (F := Ideal) (iblk m c 0 t) acc (iblk m c 5 t) (ix2 r l) = UU m c (ix2 (row t r) l) := by
  unfold UU U
  unfold HH at h4
  generalize H (m ((c : Thread nD τ).loc main_arg0)) (m ((c : Thread nD τ).loc main_arg1)) (m ((c : Thread nD τ).loc main_arg2)) (m ((c : Thread nD τ).loc main_arg3)) (m ((c : Thread nD τ).loc main_arg4)) = D at *
  pointwise [k0_pay5, NORM, h4]
  blk_point [iblk, V, idx t]

/-- The first result array is the reference's. -/
theorem final_h : (dats m 0 c).arrAt 6 cfg0.N = HH m c := by
  refine (dats m 0 c).arrAt_eq_of_covers 6 _ (by decide +kernel) fun t hf y => ?_
  have h1 := (flush0_6 t).mp hf
  have e : ((cfg0.win 6).blk t).view.emb y = ix2 (row t (y 0)) (y 1) := by unfold row; blk_ext [idx t]
  blk_simp
  rw [after0_6, stepC_acc m c t (by omega) h1, e]
  refine Eq.trans ?_ (pay4_eq m c t _ (y 0) (y 1) (last m c t h1 (y 0) (y 1)))
  exact congrArg _ (eq_ix2 y)

/-- The second result array is the reference's. -/
theorem final_u : (dats m 0 c).arrAt 7 cfg0.N = UU m c := by
  refine (dats m 0 c).arrAt_eq_of_covers 7 _ (by decide +kernel) fun t hf y => ?_
  have h1 := (flush0_7 t).mp hf
  have e : ((cfg0.win 7).blk t).view.emb y = ix2 (row t (y 0)) (y 1) := by unfold row; blk_ext [idx t]
  blk_simp
  rw [after0_7, stepC_u m c t (by omega) h1, e]
  refine Eq.trans ?_ (pay5_eq m c t _ (y 0) (y 1) fun l => pay4_eq m c t _ (y 0) l (last m c t h1 (y 0) l))
  exact congrArg _ (eq_ix2 y)

end Cert.FfnSampleIdeal.Value

end
-- ==== Proof.OutProjSampleValue.lean ====
module

public import proofs.«01_k».proof.Proof.Gen.OutProjSampleIdeal.Value
public import proofs.«01_k».proof.Proof.Gen.OutProjSampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjSampleReferenceIdeal.Value

open Cert.OutProjSampleReferenceIdeal Cert.OutProjSampleReferenceIdeal.Gen

/-- The reference: the residual plus the rows times the weights. -/
def REF (x0 : FVec Ideal S256x2048 .bf16) (x1 : FVec Ideal S2048x2048 .f32) (x2 : FVec Ideal S256x2048 .f32) : FVec Ideal S256x2048 .f32 :=
  addf x2 (Host.dotGeneral dot_S256x2048_S2048x2048_S256x2048_1_0_0_1_n_n none (extf .f32 x0 bitsLt_bf16_f32) x1)

end Cert.OutProjSampleReferenceIdeal.Value

namespace Cert.OutProjSampleIdeal.Value

open Cert.OutProjSampleIdeal Cert.OutProjSampleIdeal.Gen
open Cert.OutProjSampleReferenceIdeal.Value (REF)

variable (m : (ℓ : Loc nD τ sig) → Buf (Elt Ideal) ℓ)

/-- Which block each window shows at a grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What a grid point stores at a block index is the reference at the array index it sits at. -/
theorem point (c : Dev nD) (t : Fin cfg0.N) (y) : k0_pay1 (F := Ideal) (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, Ideal.logistic]
  rw [add_comm]
  blk_point [iblk, V, idx t]

/-- The result array is the reference's. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutProjSampleIdeal.Value

end
-- ==== Proof.MergeSampleValue.lean ====
module

public import proofs.«01_k».proof.Proof.Gen.MergeSampleIdeal.Value
public import proofs.«01_k».proof.Proof.Gen.MergeSampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeSampleReferenceIdeal.Value

open Cert.MergeSampleReferenceIdeal Cert.MergeSampleReferenceIdeal.Gen

/-- The reference: the two gated projections, added. -/
def REF (x0 : FVec Ideal S256x2048 .bf16) (x1 : FVec Ideal S256x2048 .f32) (x2 : FVec Ideal S256x2048 .f32) (x3 : FVec Ideal S2048x2048 .f32) (x4 : FVec Ideal S2048x2048 .f32) (x5 : FVec Ideal S2048x2048 .f32) (x6 : FVec Ideal S2048x2048 .f32) : FVec Ideal S256x2048 .bf16 :=
  truncf .bf16 (addf (mulf (Host.divf (broadcastInDim S256x2048 ![] bcast_S_S256x2048 (constant S_ .f32 0x3F800000#32)) (addf (broadcastInDim S256x2048 ![] bcast_S_S256x2048 (constant S_ .f32 0x3F800000#32)) (Host.exp (Host.negf (Host.dotGeneral dot_S256x2048_S2048x2048_S256x2048_1_0_0_1_n_n none (extf .f32 x0 bitsLt_bf16_f32) x3))))) (Host.dotGeneral dot_S256x2048_S2048x2048_S256x2048_1_0_0_1_n_n none x1 x5)) (mulf (Host.divf (broadcastInDim S256x2048 ![] bcast_S_S256x2048 (constant S_ .f32 0x3F800000#32)) (addf (broadcastInDim S256x2048 ![] bcast_S_S256x2048 (constant S_ .f32 0x3F800000#32)) (Host.exp (Host.negf (Host.dotGeneral dot_S256x2048_S2048x2048_S256x2048_1_0_0_1_n_n none (extf .f32 x0 bitsLt_bf16_f32) x4))))) (Host.dotGeneral dot_S256x2048_S2048x2048_S256x2048_1_0_0_1_n_n none x2 x6))) bitsLt_bf16_f32

end Cert.MergeSampleReferenceIdeal.Value

namespace Cert.MergeSampleIdeal.Value

open Cert.MergeSampleIdeal Cert.MergeSampleIdeal.Gen
open Cert.MergeSampleReferenceIdeal.Value (REF)

variable (m : (ℓ : Loc nD τ sig) → Buf (Elt Ideal) ℓ)

/-- Which block each window shows at a grid point. -/
theorem idx : ∀ t : Fin cfg0.N, win0_0.index t = ![0, 0] ∧ win0_1.index t = ![0, 0] ∧ win0_2.index t = ![0, 0] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

/-- What a grid point stores at a block index is the reference at the array index it sits at. -/
theorem point (c : Dev nD) (t : Fin cfg0.N) (y) : k0_pay1 (F := Ideal) (iblk m c 0 t) (iblk m c 3 t) (iblk m c 4 t) (iblk m c 1 t) (iblk m c 5 t) (iblk m c 2 t) (iblk m c 6 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  pointwise [k0_pay1, REF, Ideal.logistic]
  blk_point [iblk, V, idx t]

/-- The result array is the reference's. -/
theorem final (c : Dev nD) : (dats m 0 c).arrAt 7 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]; frame_out
  exact point m c t y

end Cert.MergeSampleIdeal.Value

end
-- ==== Proof.ProjGlaSampleValue.lean ====
module

public import proofs.«01_k».proof.Proof.Gen.ProjGlaSampleIdeal.Value
public import proofs.«01_k».proof.Proof.Gen.ProjGlaSampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjGlaSampleReferenceIdeal.Value

open Cert.ProjGlaSampleReferenceIdeal Cert.ProjGlaSampleReferenceIdeal.Gen

/-- The reference: the rows times the weights, widened by zero columns. -/
def REF (x0 : FVec Ideal S256x2048 .bf16) (x1 : FVec Ideal S2048x6160 .f32) : FVec Ideal S256x6272 .f32 :=
  pad S256x6272 ![0, 0] ![0, 112] ![0, 0] (Host.dotGeneral dot_S256x2048_S2048x6160_S256x6160_1_0_0_1_n_n none (extf .f32 x0 bitsLt_bf16_f32) x1) (sitofp .f32 (constantI S_ 32 0#32)) pads_S256x6160_S256x6272_000_01120 h_S_

/-- The padding's integer zero is the number zero. -/
theorem pad_zero : (FloatOps.sitofp FTy.f32 0#32 : Ideal .f32) = (0 : EReal) := by
  show (((0#32 : BitVec 32).toInt : ℝ) : EReal) = 0
  simp

/-- An entry of the reference: a row times a column, or zero. -/
theorem ref_at (x0 : FVec Ideal S256x2048 .bf16) (x1 : FVec Ideal S2048x6160 .f32) (i : Fin 256) (j : Fin 6272) :
    REF x0 x1 (ix2 i j) = if h : j.val < 6160 then ∑ k : Fin 2048, x0 (ix2 i k) * x1 (ix2 k ⟨j.val, h⟩) else (0 : EReal) := by
  pointwise [REF]
  split
  · rfl
  · exact pad_zero

end Cert.ProjGlaSampleReferenceIdeal.Value

namespace Cert.ProjGlaSampleIdeal.Value

open Cert.ProjGlaSampleIdeal Cert.ProjGlaSampleIdeal.Gen
open Cert.ProjGlaSampleReferenceIdeal.Value (REF ref_at pad_zero)

/-- Rows times weights at the widened width. -/
def WIDE (x0 : FVec Ideal S256x2048 .bf16) (w : FVec Ideal S2048x6272 .bf16) : FVec Ideal S256x6272 .f32 :=
  fun i => ∑ k : Fin 2048, x0 (ix2 (i 0) k) * w (ix2 k (i 1))

/-- The weights as the call takes them. -/
def W (x1 : FVec Ideal S2048x6160 .f32) : FVec Ideal S2048x6272 .bf16 :=
  truncf .bf16 (concatenate S2048x6272 1 [⟨S2048x6144, extractStridedSlice S2048x6144 ![0, 0] x1 slices_S2048x6160_S2048x6144_0_0⟩, ⟨S2048x128, pad S2048x128 ![0, 0] ![0, 112] ![0, 0] (extractStridedSlice S2048x16 ![0, 6144] x1 slices_S2048x6160_S2048x16_0_6144) (sitofp .f32 (constantI S_ 32 0#32)) pads_S2048x16_S2048x128_000_01120 h_S_⟩] concatenates_S2048x6144_S2048x128_S2048x6272_d1) bitsLt_bf16_f32

theorem w_at (x1 : FVec Ideal S2048x6160 .f32) (k : Fin 2048) (j : Fin 6272) :
    W x1 (ix2 k j) = if h : j.val < 6160 then x1 (ix2 k ⟨j.val, h⟩) else (0 : EReal) := by
  pointwise [W]
  by_cases h : j.val < 6144
  · rw [dif_pos h, dif_pos (show j.val < 6160 by omega)]
  · rw [dif_neg h]
    by_cases h' : j.val < 6160
    · refine (dif_pos (show j.val - 6144 < 16 by omega)).trans (Eq.trans ?_ (dif_pos h').symm)
      have e : (6144 + (j.val - 6144)) = j.val := by omega
      simp only [e]
    · rw [dif_neg (show ¬ j.val - 6144 < 16 by omega), dif_neg h']
      exact pad_zero

theorem wide_eq (x0 : FVec Ideal S256x2048 .bf16) (x1 : FVec Ideal S2048x6160 .f32) : WIDE x0 (W x1) = REF x0 x1 := by
  funext i
  obtain ⟨a, b, rfl⟩ : ∃ (a : Fin 256) (b : Fin 6272), i = ix2 a b := ⟨i 0, i 1, by ext k; fin_cases k <;> rfl⟩
  refine Eq.trans ?_ (ref_at x0 x1 a b).symm
  show (∑ k : Fin 2048, x0 (ix2 a k) * W x1 (ix2 k b)) = _
  by_cases h : b.val < 6160
  · rw [dif_pos h]
    exact Finset.sum_congr rfl fun k _ => Ideal.mul_congr rfl ((w_at x1 k b).trans (dif_pos h))
  · rw [dif_neg h]
    exact Finset.sum_eq_zero fun k _ => (Ideal.mul_congr rfl ((w_at x1 k b).trans (dif_neg h))).trans (mul_zero (M₀ := EReal) _)

variable (m : (ℓ : Loc nD τ sig) → Buf (Elt Ideal) ℓ)

theorem V_w (c : Dev nD) : V m c main_v4 = W (m ((c : Thread nD τ).loc main_arg1)) := by
  simp only [V, hostOps0, hostOps0_1, hostOps0_2, List.flatten_cons, List.flatten_nil, List.append_nil, List.cons_append, List.nil_append]; after_results; try rfl

/-- Which block each window shows at a grid point. -/
theorem idx : ∀ t : Fin cfg0.N, win0_0.index t = ![0, 0] ∧ win0_1.index t = ![0, t.val] ∧ win0_2.index t = ![0, t.val] :=
  (by decide +kernel : ∀ t : Fin grid0.N, _)

/-- What a grid point stores at a block index is the product at the array index it sits at. -/
theorem point (c : Dev nD) (t : Fin cfg0.N) (y) : k0_pay1 (F := Ideal) (iblk m c 0 t) (iblk m c 1 t) y
    = WIDE (m ((c : Thread nD τ).loc main_arg0)) (V m c main_v4) (((cfg0.win 2).blk t).view.emb y) := by
  unfold WIDE
  pointwise [k0_pay1]
  blk_point [iblk, V_main_arg0, idx t]

/-- The result array is the reference's. -/
theorem final (c : Dev nD) : (dats m 0 c).arrAt 2 cfg0.N
    = REF (m ((c : Thread nD τ).loc main_arg0)) (m ((c : Thread nD τ).loc main_arg1)) := by
  rw [← wide_eq, ← V_w]
  refine (dats m 0 c).arrAt_eq_of_covers 2 _ (by decide +kernel) fun t _ y => ?_
  blk_simp
  rw [after0_2]; frame_out
  exact point m c t y

end Cert.ProjGlaSampleIdeal.Value

end
-- ==== Proof.SampleClaims.lean ====
module

public import proofs.«01_k».proof.Defs
public import proofs.«01_k».proof.Proof.FfnSampleValue
public import proofs.«01_k».proof.Proof.OutProjSampleValue
public import proofs.«01_k».proof.Proof.MergeSampleValue
public import proofs.«01_k».proof.Proof.ProjGlaSampleValue
public import Idealize.ShloMosaic.Lib.Claim

@[expose] public section

set_option maxRecDepth 16384

noncomputable section

namespace Cert.Proof

open Idealize.ShloMosaic Idealize.SL.Sem

theorem out_proj_sample : Cert.algebraic_OutProjSampleIdeal_OutProjSampleReferenceIdeal := by
  pair_intro
  · run_from Cert.OutProjSampleIdeal.Gen.run_main m g
  · run_from Cert.OutProjSampleReferenceIdeal.Value.run m' g'
    exact (Cert.OutProjSampleIdeal.Value.final m c).symm

theorem merge_sample : Cert.algebraic_MergeSampleIdeal_MergeSampleReferenceIdeal := by
  pair_intro
  · run_from Cert.MergeSampleIdeal.Gen.run_main m g
  · run_from Cert.MergeSampleReferenceIdeal.Value.run m' g'
    exact (Cert.MergeSampleIdeal.Value.final m c).symm

theorem proj_gla_sample : Cert.algebraic_ProjGlaSampleIdeal_ProjGlaSampleReferenceIdeal := by
  pair_intro
  · run_from Cert.ProjGlaSampleIdeal.Gen.run_main m g
    exact Cert.ProjGlaSampleIdeal.Gen.V_main_arg1 m c
  · run_from Cert.ProjGlaSampleReferenceIdeal.Value.run m' g'
    exact (Cert.ProjGlaSampleIdeal.Value.final m c).symm

theorem ffn_sample : Cert.algebraic_FfnSampleIdeal_FfnSampleReferenceIdeal := by
  pair_intro
  · run_from Cert.FfnSampleIdeal.Gen.run_main m g
  · run_from Cert.FfnSampleReferenceIdeal.Value.run m' g'
    · exact (Cert.FfnSampleIdeal.Value.final_h m c).symm
    · obtain ⟨h0, h1, h2, h3, h4, h5⟩ := hagree c
      rw [Cert.FfnSampleReferenceIdeal.Value.res_eq m' c, h0, h1, h2, h3, h4, h5]
      exact (Cert.FfnSampleIdeal.Value.final_u m c).symm

end Cert.Proof
end
-- ==== Proof.lean ====
/- The claims, put together from the runs of the programs and the value equations. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Mm
public import proofs.«01_k».proof.Proof.Gen.Mm.Skeleton
public import proofs.«01_k».proof.Proof.Gen.Mm.Launch
public import proofs.«01_k».proof.Proof.Gen.Mm.Points
public import proofs.«01_k».proof.Proof.Gen.Mm.Frame
public import proofs.«01_k».proof.Proof.Gen.MmIdeal
public import proofs.«01_k».proof.Proof.Gen.MmIdeal.Skeleton
public import proofs.«01_k».proof.Proof.Gen.MmIdeal.Launch
public import proofs.«01_k».proof.Proof.Gen.MmIdeal.Points
public import proofs.«01_k».proof.Proof.Gen.MmIdeal.Frame
public import proofs.«01_k».proof.Proof.Gen.MmReferenceIdeal
public import proofs.«01_k».proof.Proof.Gen.MmReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.OutProjReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleReferenceIdeal
public import proofs.«01_k».proof.Proof.Gen.PleReferenceIdeal.Run
public import proofs.«01_k».proof.Proof.Gen.MmSample
public import proofs.«01_k».proof.Proof.Gen.MmSample.Skeleton
public import proofs.«01_k».proof.Proof.Gen.MmSample.Launch
public import proofs.«01_k».proof.Proof.Gen.MmSample.Points
public import proofs.«01_k».proof.Proof.Gen.MmSample.Frame
public import proofs.«01_k».proof.Proof.Gen.MmSampleIdeal
public import proofs.«01_k».proof.Proof.Gen.MmSampleIdeal.Skeleton
public import proofs.«01_k».proof.Proof.Gen.MmSampleIdeal.Launch
public import proofs.«01_k».proof.Proof.Gen.MmSampleIdeal.Points
public import proofs.«01_k».proof.Proof.Gen.MmSampleIdeal.Frame
public import proofs.«01_k».proof.Proof.Gen.MmSampleReferenceIdeal
public import proofs.«01_k».proof.Proof.Gen.MmSampleReferenceIdeal.Run
public import proofs.«01_k».proof.Proof.Gen.PleSample
public import proofs.«01_k».proof.Proof.Gen.PleSample.Skeleton
public import proofs.«01_k».proof.Proof.Gen.PleSample.Launch
public import proofs.«01_k».proof.Proof.Gen.PleSample.Points
public import proofs.«01_k».proof.Proof.Gen.PleSample.Frame
public import proofs.«01_k».proof.Proof.Gen.PleSampleIdeal
public import proofs.«01_k».proof.Proof.Gen.PleSampleIdeal.Skeleton
public import proofs.«01_k».proof.Proof.Gen.PleSampleIdeal.Launch
public import proofs.«01_k».proof.Proof.Gen.PleSampleIdeal.Points
public import proofs.«01_k».proof.Proof.Gen.PleSampleIdeal.Frame
public import proofs.«01_k».proof.Proof.Gen.PleSampleReferenceIdeal
public import proofs.«01_k».proof.Proof.Gen.PleSampleReferenceIdeal.Run
public import proofs.«01_k».proof.Proof.Gen.ProjGla
public import proofs.«01_k».proof.Proof.Gen.ProjGla.Skeleton
public import proofs.«01_k».proof.Proof.Gen.ProjGla.Launch
public import proofs.«01_k».proof.Proof.Gen.ProjGla.Points
public import proofs.«01_k».proof.Proof.Gen.ProjGla.Frame
public import proofs.«01_k».proof.Proof.Gen.ProjGlaIdeal
public import proofs.«01_k».proof.Proof.Gen.ProjGlaIdeal.Skeleton
public import proofs.«01_k».proof.Proof.Gen.ProjGlaIdeal.Launch
public import proofs.«01_k».proof.Proof.Gen.ProjGlaIdeal.Points
public import proofs.«01_k».proof.Proof.Gen.ProjGlaIdeal.Frame
public import proofs.«01_k».proof.Proof.Gen.ProjGlaReferenceIdeal
public import proofs.«01_k».proof.Proof.Gen.ProjGlaReferenceIdeal.Run
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaReferenceIdeal
public import proofs.«01_k».proof.Proof.Gen.GlaReferenceIdeal.Run
public import proofs.«01_k».proof.Proof.Gen.GlaSample
public import proofs.«01_k».proof.Proof.Gen.GlaSample.Skeleton
public import proofs.«01_k».proof.Proof.Gen.GlaSample.Launch
public import proofs.«01_k».proof.Proof.Gen.GlaSample.Points
public import proofs.«01_k».proof.Proof.Gen.GlaSample.Frame
public import proofs.«01_k».proof.Proof.Gen.GlaSampleIdeal
public import proofs.«01_k».proof.Proof.Gen.GlaSampleIdeal.Skeleton
public import proofs.«01_k».proof.Proof.Gen.GlaSampleIdeal.Launch
public import proofs.«01_k».proof.Proof.Gen.GlaSampleIdeal.Points
public import proofs.«01_k».proof.Proof.Gen.GlaSampleIdeal.Frame
public import proofs.«01_k».proof.Proof.Gen.GlaSampleReferenceIdeal
public import proofs.«01_k».proof.Proof.Gen.GlaSampleReferenceIdeal.Run
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Frame
public import proofs.«01_k».proof.Proof.Gen.SelectReferenceIdeal
public import proofs.«01_k».proof.Proof.Gen.SelectReferenceIdeal.Run
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleReferenceIdeal
public import proofs.«01_k».proof.Proof.Gen.FfnSampleReferenceIdeal.Run
public import proofs.«01_k».proof.Proof.Gen.OutProjSample
public import proofs.«01_k».proof.Proof.Gen.OutProjSample.Skeleton
public import proofs.«01_k».proof.Proof.Gen.OutProjSample.Launch
public import proofs.«01_k».proof.Proof.Gen.OutProjSample.Points
public import proofs.«01_k».proof.Proof.Gen.OutProjSample.Frame
public import proofs.«01_k».proof.Proof.Gen.OutProjSampleIdeal
public import proofs.«01_k».proof.Proof.Gen.OutProjSampleIdeal.Skeleton
public import proofs.«01_k».proof.Proof.Gen.OutProjSampleIdeal.Launch
public import proofs.«01_k».proof.Proof.Gen.OutProjSampleIdeal.Points
public import proofs.«01_k».proof.Proof.Gen.OutProjSampleIdeal.Frame
public import proofs.«01_k».proof.Proof.Gen.OutProjSampleReferenceIdeal
public import proofs.«01_k».proof.Proof.Gen.OutProjSampleReferenceIdeal.Run
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleReferenceIdeal
public import proofs.«01_k».proof.Proof.Gen.MergeSampleReferenceIdeal.Run
public import proofs.«01_k».proof.Proof.Gen.ProjGlaSample
public import proofs.«01_k».proof.Proof.Gen.ProjGlaSample.Skeleton
public import proofs.«01_k».proof.Proof.Gen.ProjGlaSample.Launch
public import proofs.«01_k».proof.Proof.Gen.ProjGlaSample.Points
public import proofs.«01_k».proof.Proof.Gen.ProjGlaSample.Frame
public import proofs.«01_k».proof.Proof.Gen.ProjGlaSampleIdeal
public import proofs.«01_k».proof.Proof.Gen.ProjGlaSampleIdeal.Skeleton
public import proofs.«01_k».proof.Proof.Gen.ProjGlaSampleIdeal.Launch
public import proofs.«01_k».proof.Proof.Gen.ProjGlaSampleIdeal.Points
public import proofs.«01_k».proof.Proof.Gen.ProjGlaSampleIdeal.Frame
public import proofs.«01_k».proof.Proof.Gen.ProjGlaSampleReferenceIdeal
public import proofs.«01_k».proof.Proof.Gen.ProjGlaSampleReferenceIdeal.Run
public import proofs.«01_k».proof.Proof.Gen.FfnIdeal.Value
public import proofs.«01_k».proof.Proof.Gen.MmIdeal.Value
public import proofs.«01_k».proof.Proof.Gen.OutProjIdeal.Value
public import proofs.«01_k».proof.Proof.Gen.MergeIdeal.Value
public import proofs.«01_k».proof.Proof.Gen.PleIdeal.Value
public import proofs.«01_k».proof.Proof.Gen.MmSampleIdeal.Value
public import proofs.«01_k».proof.Proof.Gen.PleSampleIdeal.Value
public import proofs.«01_k».proof.Proof.Gen.ProjGlaIdeal.Value
public import proofs.«01_k».proof.Proof.Gen.GlaIdeal.Value
public import proofs.«01_k».proof.Proof.Gen.GlaSampleIdeal.Value
public import proofs.«01_k».proof.Proof.Gen.SelectIdeal.Value
public import proofs.«01_k».proof.Proof.Gen.FfnSampleIdeal.Value
public import proofs.«01_k».proof.Proof.Gen.OutProjSampleIdeal.Value
public import proofs.«01_k».proof.Proof.Gen.MergeSampleIdeal.Value
public import proofs.«01_k».proof.Proof.Gen.ProjGlaSampleIdeal.Value
public import proofs.«01_k».proof.Proof.DenseClaims
public import proofs.«01_k».proof.Proof.MoreClaims
public import proofs.«01_k».proof.Proof.GlaClaims
public import proofs.«01_k».proof.Proof.GsClaims
public import proofs.«01_k».proof.Proof.SeClaims
public import proofs.«01_k».proof.Proof.SampleClaims
public import Idealize.ShloMosaic.Adequacy
public import Idealize.ShloMosaic.Init

@[expose] public section

noncomputable section

namespace Cert.Proof

open Idealize.ShloMosaic Idealize.SL.Sem

theorem claim : Cert.Claim := ⟨Cert.Ffn.Gen.facts, Cert.FfnIdeal.Gen.facts, Cert.FfnReferenceIdeal.Gen.facts, Cert.Mm.Gen.facts, Cert.MmIdeal.Gen.facts, Cert.MmReferenceIdeal.Gen.facts, Cert.OutProj.Gen.facts, Cert.OutProjIdeal.Gen.facts, Cert.OutProjReferenceIdeal.Gen.facts, Cert.Merge.Gen.facts, Cert.MergeIdeal.Gen.facts, Cert.MergeReferenceIdeal.Gen.facts, Cert.Ple.Gen.facts, Cert.PleIdeal.Gen.facts, Cert.PleReferenceIdeal.Gen.facts, Cert.MmSample.Gen.facts, Cert.MmSampleIdeal.Gen.facts, Cert.MmSampleReferenceIdeal.Gen.facts, Cert.PleSample.Gen.facts, Cert.PleSampleIdeal.Gen.facts, Cert.PleSampleReferenceIdeal.Gen.facts, Cert.ProjGla.Gen.facts, Cert.ProjGlaIdeal.Gen.facts, Cert.ProjGlaReferenceIdeal.Gen.facts, Cert.Gla.Gen.facts, Cert.GlaIdeal.Gen.facts, Cert.GlaReferenceIdeal.Gen.facts, Cert.GlaSample.Gen.facts, Cert.GlaSampleIdeal.Gen.facts, Cert.GlaSampleReferenceIdeal.Gen.facts, Cert.Select.Gen.facts, Cert.SelectIdeal.Gen.facts, Cert.SelectReferenceIdeal.Gen.facts, Cert.FfnSample.Gen.facts, Cert.FfnSampleIdeal.Gen.facts, Cert.FfnSampleReferenceIdeal.Gen.facts, Cert.OutProjSample.Gen.facts, Cert.OutProjSampleIdeal.Gen.facts, Cert.OutProjSampleReferenceIdeal.Gen.facts, Cert.MergeSample.Gen.facts, Cert.MergeSampleIdeal.Gen.facts, Cert.MergeSampleReferenceIdeal.Gen.facts, Cert.ProjGlaSample.Gen.facts, Cert.ProjGlaSampleIdeal.Gen.facts, Cert.ProjGlaSampleReferenceIdeal.Gen.facts, Cert.Pre_finite_gate.Gen.facts, Cert.Pre_finite_gate_sample.Gen.facts, Cert.Pre_finite_select.Gen.facts,
  fun m ρ _ => Cert.Ffn.Gen.frame m ρ,
  fun m ρ _ => Cert.FfnIdeal.Gen.frame m ρ,
  fun m ρ _ => (θ_run Cert.FfnReferenceIdeal.defs _ _).mono (fun r h => ⟨fun c => (h c).2.2, Idealize.ShloMosaic.sem_eq_zero_of_no_sems (by decide) r.2⟩) (Cert.FfnReferenceIdeal.Value.run m ρ),
  fun m ρ _ => Cert.Mm.Gen.frame m ρ,
  fun m ρ _ => Cert.MmIdeal.Gen.frame m ρ,
  fun m ρ _ => (θ_run Cert.MmReferenceIdeal.defs _ _).mono (fun r h => ⟨fun c => (h c).2, Idealize.ShloMosaic.sem_eq_zero_of_no_sems (by decide) r.2⟩) (Cert.MmReferenceIdeal.Value.run m ρ),
  fun m ρ _ => Cert.OutProj.Gen.frame m ρ,
  fun m ρ _ => Cert.OutProjIdeal.Gen.frame m ρ,
  fun m ρ _ => (θ_run Cert.OutProjReferenceIdeal.defs _ _).mono (fun r h => ⟨fun c => (h c).2, Idealize.ShloMosaic.sem_eq_zero_of_no_sems (by decide) r.2⟩) (Cert.OutProjReferenceIdeal.Value.run m ρ),
  fun m ρ _ => Cert.Merge.Gen.frame m ρ,
  fun m ρ _ => Cert.MergeIdeal.Gen.frame m ρ,
  fun m ρ _ => (θ_run Cert.MergeReferenceIdeal.defs _ _).mono (fun r h => ⟨fun c => (h c).2, Idealize.ShloMosaic.sem_eq_zero_of_no_sems (by decide) r.2⟩) (Cert.MergeReferenceIdeal.Value.run m ρ),
  fun m ρ _ => Cert.Ple.Gen.frame m ρ,
  fun m ρ _ => Cert.PleIdeal.Gen.frame m ρ,
  fun m ρ _ => (θ_run Cert.PleReferenceIdeal.defs _ _).mono (fun r h => ⟨fun c => (h c).2, Idealize.ShloMosaic.sem_eq_zero_of_no_sems (by decide) r.2⟩) (Cert.PleReferenceIdeal.Value.run m ρ),
  fun m ρ _ => Cert.MmSample.Gen.frame m ρ,
  fun m ρ _ => Cert.MmSampleIdeal.Gen.frame m ρ,
  fun m ρ _ => (θ_run Cert.MmSampleReferenceIdeal.defs _ _).mono (fun r h => ⟨fun c => (h c).2, Idealize.ShloMosaic.sem_eq_zero_of_no_sems (by decide) r.2⟩) (Cert.MmSampleReferenceIdeal.Value.run m ρ),
  fun m ρ _ => Cert.PleSample.Gen.frame m ρ,
  fun m ρ _ => Cert.PleSampleIdeal.Gen.frame m ρ,
  fun m ρ _ => (θ_run Cert.PleSampleReferenceIdeal.defs _ _).mono (fun r h => ⟨fun c => (h c).2, Idealize.ShloMosaic.sem_eq_zero_of_no_sems (by decide) r.2⟩) (Cert.PleSampleReferenceIdeal.Value.run m ρ),
  fun m ρ _ => Cert.ProjGla.Gen.frame m ρ,
  fun m ρ _ => Cert.ProjGlaIdeal.Gen.frame m ρ,
  fun m ρ _ => (θ_run Cert.ProjGlaReferenceIdeal.defs _ _).mono (fun r h => ⟨fun c => (h c).2, Idealize.ShloMosaic.sem_eq_zero_of_no_sems (by decide) r.2⟩) (Cert.ProjGlaReferenceIdeal.Value.run m ρ),
  fun m ρ _ => Cert.Gla.Gen.frame m ρ,
  fun m ρ _ => Cert.GlaIdeal.Gen.frame m ρ,
  fun m ρ _ => Cert.GlaIdeal.Gen.frame m ρ,
  fun m ρ _ => (θ_run Cert.GlaReferenceIdeal.defs _ _).mono (fun r h => ⟨fun c => (h c).2.2, Idealize.ShloMosaic.sem_eq_zero_of_no_sems (by decide) r.2⟩) (Cert.GlaReferenceIdeal.Value.run m ρ),
  fun m ρ _ => (θ_run Cert.GlaReferenceIdeal.defs _ _).mono (fun r h => ⟨fun c => (h c).2.2, Idealize.ShloMosaic.sem_eq_zero_of_no_sems (by decide) r.2⟩) (Cert.GlaReferenceIdeal.Value.run m ρ),
  fun m ρ _ => Cert.GlaSample.Gen.frame m ρ,
  fun m ρ _ => Cert.GlaSampleIdeal.Gen.frame m ρ,
  fun m ρ _ => Cert.GlaSampleIdeal.Gen.frame m ρ,
  fun m ρ _ => (θ_run Cert.GlaSampleReferenceIdeal.defs _ _).mono (fun r h => ⟨fun c => (h c).2.2, Idealize.ShloMosaic.sem_eq_zero_of_no_sems (by decide) r.2⟩) (Cert.GlaSampleReferenceIdeal.Value.run m ρ),
  fun m ρ _ => (θ_run Cert.GlaSampleReferenceIdeal.defs _ _).mono (fun r h => ⟨fun c => (h c).2.2, Idealize.ShloMosaic.sem_eq_zero_of_no_sems (by decide) r.2⟩) (Cert.GlaSampleReferenceIdeal.Value.run m ρ),
  fun m ρ _ => Cert.Select.Gen.frame m ρ,
  fun m ρ _ => Cert.SelectIdeal.Gen.frame m ρ,
  fun m ρ _ => Cert.SelectIdeal.Gen.frame m ρ,
  fun m ρ _ => (θ_run Cert.SelectReferenceIdeal.defs _ _).mono (fun r h => ⟨fun c => (h c).2, Idealize.ShloMosaic.sem_eq_zero_of_no_sems (by decide) r.2⟩) (Cert.SelectReferenceIdeal.Value.run m ρ),
  fun m ρ _ => (θ_run Cert.SelectReferenceIdeal.defs _ _).mono (fun r h => ⟨fun c => (h c).2, Idealize.ShloMosaic.sem_eq_zero_of_no_sems (by decide) r.2⟩) (Cert.SelectReferenceIdeal.Value.run m ρ),
  fun m ρ _ => Cert.FfnSample.Gen.frame m ρ,
  fun m ρ _ => Cert.FfnSampleIdeal.Gen.frame m ρ,
  fun m ρ _ => (θ_run Cert.FfnSampleReferenceIdeal.defs _ _).mono (fun r h => ⟨fun c => (h c).2.2, Idealize.ShloMosaic.sem_eq_zero_of_no_sems (by decide) r.2⟩) (Cert.FfnSampleReferenceIdeal.Value.run m ρ),
  fun m ρ _ => Cert.OutProjSample.Gen.frame m ρ,
  fun m ρ _ => Cert.OutProjSampleIdeal.Gen.frame m ρ,
  fun m ρ _ => (θ_run Cert.OutProjSampleReferenceIdeal.defs _ _).mono (fun r h => ⟨fun c => (h c).2, Idealize.ShloMosaic.sem_eq_zero_of_no_sems (by decide) r.2⟩) (Cert.OutProjSampleReferenceIdeal.Value.run m ρ),
  fun m ρ _ => Cert.MergeSample.Gen.frame m ρ,
  fun m ρ _ => Cert.MergeSampleIdeal.Gen.frame m ρ,
  fun m ρ _ => (θ_run Cert.MergeSampleReferenceIdeal.defs _ _).mono (fun r h => ⟨fun c => (h c).2, Idealize.ShloMosaic.sem_eq_zero_of_no_sems (by decide) r.2⟩) (Cert.MergeSampleReferenceIdeal.Value.run m ρ),
  fun m ρ _ => Cert.ProjGlaSample.Gen.frame m ρ,
  fun m ρ _ => Cert.ProjGlaSampleIdeal.Gen.frame m ρ,
  fun m ρ _ => (θ_run Cert.ProjGlaSampleReferenceIdeal.defs _ _).mono (fun r h => ⟨fun c => (h c).2, Idealize.ShloMosaic.sem_eq_zero_of_no_sems (by decide) r.2⟩) (Cert.ProjGlaSampleReferenceIdeal.Value.run m ρ),
  trivial,
  ffn,
  trivial,
  mm,
  trivial,
  out_proj,
  trivial,
  merge,
  trivial,
  ple,
  trivial,
  mm_sample,
  trivial,
  ple_sample,
  trivial,
  proj_gla,
  trivial,
  gla,
  trivial,
  gla_sample,
  trivial,
  sample_select,
  trivial,
  ffn_sample,
  trivial,
  out_proj_sample,
  trivial,
  merge_sample,
  trivial,
  proj_gla_sample⟩

end Cert.Proof

end
